-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_norms [hPre_finite_norms : Cert.Pre_finite_norms.Facts] (m : (ℓ : Loc Cert.KernelIdeal.nD Cert.KernelIdeal.τ Cert.KernelIdeal.sig) → Buf (Elt Ideal) ℓ) : Prop :=
  ∀ c : Dev Cert.KernelIdeal.nD,
    (Cert.Pre_finite_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_norms [hPre_finite_norms : Cert.Pre_finite_norms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_finite_norms [hKernelIdeal : Cert.KernelIdeal.Facts] [hPre_finite_norms : Cert.Pre_finite_norms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_norms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_finite_norms [hReferenceIdeal : Cert.ReferenceIdeal.Facts] [hPre_finite_norms : Cert.Pre_finite_norms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_norms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  True

def algebraic_KernelIdeal_ReferenceIdeal_pre_finite_norms [hKernelIdeal : Cert.KernelIdeal.Facts] [hReferenceIdeal : Cert.ReferenceIdeal.Facts] [hPre_finite_norms : Cert.Pre_finite_norms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_norms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_norms : Cert.Pre_finite_norms.Facts),
    quiescent_Kernel (hKernel := hKernel)
    ∧ quiescent_KernelIdeal (hKernelIdeal := hKernelIdeal)
    ∧ quiescent_KernelIdeal_pre_finite_norms (hKernelIdeal := hKernelIdeal) (hPre_finite_norms := hPre_finite_norms)
    ∧ quiescent_ReferenceIdeal (hReferenceIdeal := hReferenceIdeal)
    ∧ quiescent_ReferenceIdeal_pre_finite_norms (hReferenceIdeal := hReferenceIdeal) (hPre_finite_norms := hPre_finite_norms)
    ∧ preserves_Kernel_KernelIdeal
    ∧ algebraic_KernelIdeal_ReferenceIdeal_pre_finite_norms (hKernelIdeal := hKernelIdeal) (hReferenceIdeal := hReferenceIdeal) (hPre_finite_norms := hPre_finite_norms)
-- ==== Pre_finite_norms.lean ====
abbrev S64x3x142x142 : Shape := ⟨4, ![64, 3, 142, 142]⟩
abbrev S32x3x11x11 : Shape := ⟨4, ![32, 3, 11, 11]⟩
abbrev S32 : Shape := ⟨1, ![32]⟩
abbrev S8x8x32 : Shape := ⟨3, ![8, 8, 32]⟩
abbrev S8x8x32x32x3x3 : Shape := ⟨6, ![8, 8, 32, 32, 3, 3]⟩
abbrev S16x32x8x8 : Shape := ⟨4, ![16, 32, 8, 8]⟩
abbrev S16 : Shape := ⟨1, ![16]⟩
abbrev S16x16x8x8 : Shape := ⟨4, ![16, 16, 8, 8]⟩
abbrev S16x16x6x6 : Shape := ⟨4, ![16, 16, 6, 6]⟩
abbrev S16x16x5x5 : Shape := ⟨4, ![16, 16, 5, 5]⟩
abbrev S4096x6400 : Shape := ⟨2, ![4096, 6400]⟩
abbrev S4096 : Shape := ⟨1, ![4096]⟩
abbrev S2048x4096 : Shape := ⟨2, ![2048, 4096]⟩
abbrev S2048 : Shape := ⟨1, ![2048]⟩
abbrev S12x2048 : Shape := ⟨2, ![12, 2048]⟩
abbrev S12 : Shape := ⟨1, ![12]⟩
abbrev S_ : Shape := ⟨0, ![]⟩

class Facts : Prop where
  bcast_S_S8x8x32 : S_.BroadcastsInDim S8x8x32 (![] : Fin 0 → Fin S8x8x32.rank)
  reducesTo_S8x8x32_S_d0_1_2 : S8x8x32.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn_part2 {F : FTy → Type} [FloatOps F] (main_v30 : IVec S_ 1) (main_v32 : IVec S32 1) : IVec S_ 1 :=
  let main_c_13 : IVec S_ 1 := constantI S_ 1 1#1
  let main_v33 : IVec S_ 1 := (fun x v => Host.reduce IntOp.andi x v reducesTo_S32_S_d0 h_S_) main_v32 main_c_13
  let main_v34 : IVec S_ 1 := andi main_v30 main_v33
  main_v34

def fn_part1 {F : FTy → Type} [FloatOps F] (main_arg9 : FVec F S32 .f32) (main_arg11 : FVec F S32 .f32) (main_arg12 : FVec F S32 .f32) (main_v12 : IVec S_ 1) (main_v15 : IVec S_ 1) : IVec S_ 1 :=
  let main_v16 : IVec S_ 1 := andi main_v12 main_v15
  let main_cst_6 : FVec F S_ .f32 := constant S_ .f32 0x7F800000#32
  let main_v17 : FVec F S32 .f32 := broadcastInDim S32 ![] bcast_S_S32 main_cst_6
  let main_v18 : IVec S32 1 := cmpf .olt main_arg9 main_v17
  let main_cst_7 : FVec F S_ .f32 := constant S_ .f32 0xFF800000#32
  let main_v19 : FVec F S32 .f32 := broadcastInDim S32 ![] bcast_S_S32 main_cst_7
  let main_v20 : IVec S32 1 := cmpf .ogt main_arg9 main_v19
  let main_v21 : IVec S32 1 := andi main_v18 main_v20
  let main_c_8 : IVec S_ 1 := constantI S_ 1 1#1
  let main_v22 : IVec S_ 1 := (fun x v => Host.reduce IntOp.andi x v reducesTo_S32_S_d0 h_S_) main_v21 main_c_8
  let main_v23 : IVec S_ 1 := andi main_v16 main_v22
  let main_cst_9 : FVec F S_ .f32 := constant S_ .f32 0x7F800000#32
  let main_v24 : FVec F S32 .f32 := broadcastInDim S32 ![] bcast_S_S32 main_cst_9
  let main_v25 : IVec S32 1 := cmpf .olt main_arg11 main_v24
  let main_cst_10 : FVec F S_ .f32 := constant S_ .f32 0xFF800000#32
  let main_v26 : FVec F S32 .f32 := broadcastInDim S32 ![] bcast_S_S32 main_cst_10
  let main_v27 : IVec S32 1 := cmpf .ogt main_arg11 main_v26
  let main_v28 : IVec S32 1 := andi main_v25 main_v27
  let main_c_11 : IVec S_ 1 := constantI S_ 1 1#1
  let main_v29 : IVec S_ 1 := (fun x v => Host.reduce IntOp.andi x v reducesTo_S32_S_d0 h_S_) main_v28 main_c_11
  let main_v30 : IVec S_ 1 := andi main_v23 main_v29
  let main_cst_12 : FVec F S_ .f32 := constant S_ .f32 0x00000000#32
  let main_v31 : FVec F S32 .f32 := broadcastInDim S32 ![] bcast_S_S32 main_cst_12
  let main_v32 : IVec S32 1 := cmpf .oge main_arg12 main_v31
  fn_part2 (F := F) main_v30 main_v32

def fn {F : FTy → Type} [FloatOps F] (main_arg0 : FVec F S64x3x142x142 .f32) (main_arg1 : FVec F S32x3x11x11 .f32) (main_arg2 : FVec F S32 .f32) (main_arg3 : FVec F S8x8x32 .f32) (main_arg4 : FVec F S8x8x32 .f32) (main_arg5 : FVec F S8x8x32 .f32) (main_arg6 : FVec F S8x8x32 .f32) (main_arg7 : FVec F S8x8x32x32x3x3 .f32) (main_arg8 : FVec F S8x8x32 .f32) (main_arg9 : FVec F S32 .f32) (main_arg10 : FVec F S32 .f32) (main_arg11 : FVec F S32 .f32) (main_arg12 : FVec F S32 .f32) (main_arg13 : FVec F S16x32x8x8 .f32) (main_arg14 : FVec F S16 .f32) (main_arg15 : FVec F S16x16x8x8 .f32) (main_arg16 : FVec F S16 .f32) (main_arg17 : FVec F S16x16x6x6 .f32) (main_arg18 : FVec F S16 .f32) (main_arg19 : FVec F S16x16x5x5 .f32) (main_arg20 : FVec F S16 .f32) (main_arg21 : FVec F S4096x6400 .f32) (main_arg22 : FVec F S4096 .f32) (main_arg23 : FVec F S2048x4096 .f32) (main_arg24 : FVec F S2048 .f32) (main_arg25 : FVec F S12x2048 .f32) (main_arg26 : FVec F S12 .f32) : IVec S_ 1 :=
  let main_cst : FVec F S_ .f32 := constant S_ .f32 0x7F800000#32
  let main_v0 : FVec F S8x8x32 .f32 := broadcastInDim S8x8x32 ![] bcast_S_S8x8x32 main_cst
  let main_v1 : IVec S8x8x32 1 := cmpf .olt main_arg3 main_v0
  let main_cst_0 : FVec F S_ .f32 := constant S_ .f32 0xFF800000#32
  let main_v2 : FVec F S8x8x32 .f32 := broadcastInDim S8x8x32 ![] bcast_S_S8x8x32 main_cst_0
  let main_v3 : IVec S8x8x32 1 := cmpf .ogt main_arg3 main_v2
  let main_v4 : IVec S8x8x32 1 := andi main_v1 main_v3
  let main_c : IVec S_ 1 := constantI S_ 1 1#1
  let main_v5 : IVec S_ 1 := (fun x v => Host.reduce IntOp.andi x v reducesTo_S8x8x32_S_d0_1_2 h_S_) main_v4 main_c
  let main_cst_1 : FVec F S_ .f32 := constant S_ .f32 0x7F800000#32
  let main_v6 : FVec F S8x8x32 .f32 := broadcastInDim S8x8x32 ![] bcast_S_S8x8x32 main_cst_1
  let main_v7 : IVec S8x8x32 1 := cmpf .olt main_arg5 main_v6
  let main_cst_2 : FVec F S_ .f32 := constant S_ .f32 0xFF800000#32
  let main_v8 : FVec F S8x8x32 .f32 := broadcastInDim S8x8x32 ![] bcast_S_S8x8x32 main_cst_2
  let main_v9 : IVec S8x8x32 1 := cmpf .ogt main_arg5 main_v8
  let main_v10 : IVec S8x8x32 1 := andi main_v7 main_v9
  let main_c_3 : IVec S_ 1 := constantI S_ 1 1#1
  let main_v11 : IVec S_ 1 := (fun x v => Host.reduce IntOp.andi x v reducesTo_S8x8x32_S_d0_1_2 h_S_) main_v10 main_c_3
  let main_v12 : IVec S_ 1 := andi main_v5 main_v11
  let main_cst_4 : FVec F S_ .f32 := constant S_ .f32 0x00000000#32
  let main_v13 : FVec F S8x8x32 .f32 := broadcastInDim S8x8x32 ![] bcast_S_S8x8x32 main_cst_4
  let main_v14 : IVec S8x8x32 1 := cmpf .oge main_arg6 main_v13
  let main_c_5 : IVec S_ 1 := constantI S_ 1 1#1
  let main_v15 : IVec S_ 1 := (fun x v => Host.reduce IntOp.andi x v reducesTo_S8x8x32_S_d0_1_2 h_S_) main_v14 main_c_5
  fn_part1 (F := F) main_arg9 main_arg11 main_arg12 main_v12 main_v15
-- ==== Kernel.lean ====
abbrev S64x3x142x142 : Shape := ⟨4, ![64, 3, 142, 142]⟩
abbrev S32x3x11x11 : Shape := ⟨4, ![32, 3, 11, 11]⟩
abbrev S32 : Shape := ⟨1, ![32]⟩
abbrev S8x8x32 : Shape := ⟨3, ![8, 8, 32]⟩
abbrev S8x8x32x32x3x3 : Shape := ⟨6, ![8, 8, 32, 32, 3, 3]⟩
abbrev S16x32x8x8 : Shape := ⟨4, ![16, 32, 8, 8]⟩
abbrev S16 : Shape := ⟨1, ![16]⟩
abbrev S16x16x8x8 : Shape := ⟨4, ![16, 16, 8, 8]⟩
abbrev S16x16x6x6 : Shape := ⟨4, ![16, 16, 6, 6]⟩
abbrev S16x16x5x5 : Shape := ⟨4, ![16, 16, 5, 5]⟩
abbrev S4096x6400 : Shape := ⟨2, ![4096, 6400]⟩
abbrev S4096 : Shape := ⟨1, ![4096]⟩
abbrev S2048x4096 : Shape := ⟨2, ![2048, 4096]⟩
abbrev S2048 : Shape := ⟨1, ![2048]⟩
abbrev S12x2048 : Shape := ⟨2, ![12, 2048]⟩
abbrev S12 : Shape := ⟨1, ![12]⟩
abbrev S64x142x142x3 : Shape := ⟨4, ![64, 142, 142, 3]⟩
abbrev S64x142x426 : Shape := ⟨3, ![64, 142, 426]⟩
abbrev S33x33 : Shape := ⟨2, ![33, 33]⟩
abbrev S_ : Shape := ⟨0, ![]⟩
abbrev S11x11x3x32 : Shape := ⟨4, ![11, 11, 3, 32]⟩
abbrev S1x1x33x1x33x1 : Shape := ⟨6, ![1, 1, 33, 1, 33, 1]⟩
abbrev S11x11x1x3x1x32 : Shape := ⟨6, ![11, 11, 1, 3, 1, 32]⟩
abbrev S11x11x33x3x33x32 : Shape := ⟨6, ![11, 11, 33, 3, 33, 32]⟩
abbrev S11x11x99x1056 : Shape := ⟨4, ![11, 11, 99, 1056]⟩
abbrev S11x1x99x1056 : Shape := ⟨4, ![11, 1, 99, 1056]⟩
abbrev S11x99x1056 : Shape := ⟨3, ![11, 99, 1056]⟩
abbrev S11x129x1056 : Shape := ⟨3, ![11, 129, 1056]⟩
abbrev S1419x1056 : Shape := ⟨2, ![1419, 1056]⟩
abbrev S1x32 : Shape := ⟨2, ![1, 32]⟩
abbrev S33x32 : Shape := ⟨2, ![33, 32]⟩
abbrev S1056 : Shape := ⟨1, ![1056]⟩
abbrev S1x1056 : Shape := ⟨2, ![1, 1056]⟩
abbrev S8x8x3x32x3x32 : Shape := ⟨6, ![8, 8, 3, 32, 3, 32]⟩
abbrev S8x8x96x96 : Shape := ⟨4, ![8, 8, 96, 96]⟩
abbrev S1x1x32 : Shape := ⟨3, ![1, 1, 32]⟩
abbrev S8x32x8x16 : Shape := ⟨4, ![8, 32, 8, 16]⟩
abbrev S256x128 : Shape := ⟨2, ![256, 128]⟩
abbrev S1x1x16 : Shape := ⟨3, ![1, 1, 16]⟩
abbrev S8x16x8x16 : Shape := ⟨4, ![8, 16, 8, 16]⟩
abbrev S128x128 : Shape := ⟨2, ![128, 128]⟩
abbrev S16x16x3x2x3x2 : Shape := ⟨6, ![16, 16, 3, 2, 3, 2]⟩
abbrev S2x2x3x16x3x16 : Shape := ⟨6, ![2, 2, 3, 16, 3, 16]⟩
abbrev S4x48x48 : Shape := ⟨3, ![4, 48, 48]⟩
abbrev S5x16x5x16 : Shape := ⟨4, ![5, 16, 5, 16]⟩
abbrev S80x80 : Shape := ⟨2, ![80, 80]⟩
abbrev S4096x16x20x20 : Shape := ⟨4, ![4096, 16, 20, 20]⟩
abbrev S4096x20x20x16 : Shape := ⟨4, ![4096, 20, 20, 16]⟩
abbrev S6400x4096 : Shape := ⟨2, ![6400, 4096]⟩
abbrev S1x4096 : Shape := ⟨2, ![1, 4096]⟩
abbrev S4096x2048 : Shape := ⟨2, ![4096, 2048]⟩
abbrev S1x2048 : Shape := ⟨2, ![1, 2048]⟩
abbrev S2048x12 : Shape := ⟨2, ![2048, 12]⟩
abbrev S1x12 : Shape := ⟨2, ![1, 12]⟩
abbrev S64x132x4224 : Shape := ⟨3, ![64, 132, 4224]⟩
abbrev S64x132x132x32 : Shape := ⟨4, ![64, 132, 132, 32]⟩
abbrev S64x52x52x16 : Shape := ⟨4, ![64, 52, 52, 16]⟩
abbrev S64x26x26x16 : Shape := ⟨4, ![64, 26, 26, 16]⟩
abbrev S64x1x26x26x16 : Shape := ⟨5, ![64, 1, 26, 26, 16]⟩
abbrev S64x4x26x26x16 : Shape := ⟨5, ![64, 4, 26, 26, 16]⟩
abbrev S64x400x16 : Shape := ⟨3, ![64, 400, 16]⟩
abbrev S64x6400 : Shape := ⟨2, ![64, 6400]⟩
abbrev S64x4096 : Shape := ⟨2, ![64, 4096]⟩
abbrev S64x12 : Shape := ⟨2, ![64, 12]⟩
abbrev S1x142x426 : Shape := ⟨3, ![1, 142, 426]⟩
abbrev S1x132x4224 : Shape := ⟨3, ![1, 132, 4224]⟩
abbrev S132x1419 : Shape := ⟨2, ![132, 1419]⟩
abbrev S142x426 : Shape := ⟨2, ![142, 426]⟩
abbrev S132x129 : Shape := ⟨2, ![132, 129]⟩
abbrev S132x1056 : Shape := ⟨2, ![132, 1056]⟩
abbrev S1x132x1056 : Shape := ⟨3, ![1, 132, 1056]⟩
abbrev S1x132x132x32 : Shape := ⟨4, ![1, 132, 132, 32]⟩
abbrev S1x52x52x16 : Shape := ⟨4, ![1, 52, 52, 16]⟩
abbrev S18x132x32 : Shape := ⟨3, ![18, 132, 32]⟩
abbrev S66x66x32 : Shape := ⟨3, ![66, 66, 32]⟩
abbrev S59x59x16 : Shape := ⟨3, ![59, 59, 16]⟩
abbrev S22x59x256 : Shape := ⟨3, ![22, 59, 256]⟩
abbrev S1298x128 : Shape := ⟨2, ![1298, 128]⟩
abbrev S59x52x128 : Shape := ⟨3, ![59, 52, 128]⟩
abbrev S3068x128 : Shape := ⟨2, ![3068, 128]⟩
abbrev S1x18x18x32 : Shape := ⟨4, ![1, 18, 18, 32]⟩
abbrev S18x18x32 : Shape := ⟨3, ![18, 18, 32]⟩
abbrev S18x1x32 : Shape := ⟨3, ![18, 1, 32]⟩
abbrev S18x20x32 : Shape := ⟨3, ![18, 20, 32]⟩
abbrev S1x20x32 : Shape := ⟨3, ![1, 20, 32]⟩
abbrev S20x20x32 : Shape := ⟨3, ![20, 20, 32]⟩
abbrev S1x1x96x96 : Shape := ⟨4, ![1, 1, 96, 96]⟩
abbrev S96x96 : Shape := ⟨2, ![96, 96]⟩
abbrev S20x18x32 : Shape := ⟨3, ![20, 18, 32]⟩
abbrev S20x18x96 : Shape := ⟨3, ![20, 18, 96]⟩
abbrev S360x96 : Shape := ⟨2, ![360, 96]⟩
abbrev S1x18x6x32 : Shape := ⟨4, ![1, 18, 6, 32]⟩
abbrev S18x6x32 : Shape := ⟨3, ![18, 6, 32]⟩
abbrev S18x8x32 : Shape := ⟨3, ![18, 8, 32]⟩
abbrev S1x8x32 : Shape := ⟨3, ![1, 8, 32]⟩
abbrev S20x8x32 : Shape := ⟨3, ![20, 8, 32]⟩
abbrev S20x6x32 : Shape := ⟨3, ![20, 6, 32]⟩
abbrev S20x6x96 : Shape := ⟨3, ![20, 6, 96]⟩
abbrev S120x96 : Shape := ⟨2, ![120, 96]⟩
abbrev S9x2x132x32 : Shape := ⟨4, ![9, 2, 132, 32]⟩
abbrev S9x1x132x32 : Shape := ⟨4, ![9, 1, 132, 32]⟩
abbrev S9x132x32 : Shape := ⟨3, ![9, 132, 32]⟩
abbrev S9x66x2x32 : Shape := ⟨4, ![9, 66, 2, 32]⟩
abbrev S9x66x1x32 : Shape := ⟨4, ![9, 66, 1, 32]⟩
abbrev S9x66x32 : Shape := ⟨3, ![9, 66, 32]⟩
abbrev S1x6x18x32 : Shape := ⟨4, ![1, 6, 18, 32]⟩
abbrev S6x18x32 : Shape := ⟨3, ![6, 18, 32]⟩
abbrev S6x1x32 : Shape := ⟨3, ![6, 1, 32]⟩
abbrev S6x20x32 : Shape := ⟨3, ![6, 20, 32]⟩
abbrev S8x20x32 : Shape := ⟨3, ![8, 20, 32]⟩
abbrev S8x18x32 : Shape := ⟨3, ![8, 18, 32]⟩
abbrev S8x18x96 : Shape := ⟨3, ![8, 18, 96]⟩
abbrev S144x96 : Shape := ⟨2, ![144, 96]⟩
abbrev S1x6x6x32 : Shape := ⟨4, ![1, 6, 6, 32]⟩
abbrev S6x6x32 : Shape := ⟨3, ![6, 6, 32]⟩
abbrev S6x8x32 : Shape := ⟨3, ![6, 8, 32]⟩
abbrev S8x6x32 : Shape := ⟨3, ![8, 6, 32]⟩
abbrev S8x6x96 : Shape := ⟨3, ![8, 6, 96]⟩
abbrev S48x96 : Shape := ⟨2, ![48, 96]⟩
abbrev S6x132x32 : Shape := ⟨3, ![6, 132, 32]⟩
abbrev S3x2x132x32 : Shape := ⟨4, ![3, 2, 132, 32]⟩
abbrev S3x1x132x32 : Shape := ⟨4, ![3, 1, 132, 32]⟩
abbrev S3x132x32 : Shape := ⟨3, ![3, 132, 32]⟩
abbrev S3x66x2x32 : Shape := ⟨4, ![3, 66, 2, 32]⟩
abbrev S3x66x1x32 : Shape := ⟨4, ![3, 66, 1, 32]⟩
abbrev S3x66x32 : Shape := ⟨3, ![3, 66, 32]⟩
abbrev S22x66x32 : Shape := ⟨3, ![22, 66, 32]⟩
abbrev S22x59x32 : Shape := ⟨3, ![22, 59, 32]⟩
abbrev S1298x256 : Shape := ⟨2, ![1298, 256]⟩
abbrev S22x59x128 : Shape := ⟨3, ![22, 59, 128]⟩
abbrev S15x59x16 : Shape := ⟨3, ![15, 59, 16]⟩
abbrev S21x66x32 : Shape := ⟨3, ![21, 66, 32]⟩
abbrev S21x59x32 : Shape := ⟨3, ![21, 59, 32]⟩
abbrev S21x59x256 : Shape := ⟨3, ![21, 59, 256]⟩
abbrev S1239x256 : Shape := ⟨2, ![1239, 256]⟩
abbrev S1239x128 : Shape := ⟨2, ![1239, 128]⟩
abbrev S21x59x128 : Shape := ⟨3, ![21, 59, 128]⟩
abbrev S14x59x16 : Shape := ⟨3, ![14, 59, 16]⟩
abbrev S59x52x16 : Shape := ⟨3, ![59, 52, 16]⟩
abbrev S52x52x16 : Shape := ⟨3, ![52, 52, 16]⟩
abbrev S4x4x26x26x16 : Shape := ⟨5, ![4, 4, 26, 26, 16]⟩
abbrev S4x400x16 : Shape := ⟨3, ![4, 400, 16]⟩
abbrev S1x1x26x26x16 : Shape := ⟨5, ![1, 1, 26, 26, 16]⟩
abbrev S26x26x16 : Shape := ⟨3, ![26, 26, 16]⟩
abbrev S1x48x48 : Shape := ⟨3, ![1, 48, 48]⟩
abbrev S48x48 : Shape := ⟨2, ![48, 48]⟩
abbrev S26x24x16 : Shape := ⟨3, ![26, 24, 16]⟩
abbrev S26x24x48 : Shape := ⟨3, ![26, 24, 48]⟩
abbrev S624x48 : Shape := ⟨2, ![624, 48]⟩
abbrev S24x24x16 : Shape := ⟨3, ![24, 24, 16]⟩
abbrev S24x20x16 : Shape := ⟨3, ![24, 20, 16]⟩
abbrev S24x20x80 : Shape := ⟨3, ![24, 20, 80]⟩
abbrev S480x80 : Shape := ⟨2, ![480, 80]⟩
abbrev S20x20x16 : Shape := ⟨3, ![20, 20, 16]⟩
abbrev S400x16 : Shape := ⟨2, ![400, 16]⟩
abbrev S1x400x16 : Shape := ⟨3, ![1, 400, 16]⟩
abbrev S6400x512 : Shape := ⟨2, ![6400, 512]⟩
abbrev S1x512 : Shape := ⟨2, ![1, 512]⟩
abbrev S64x512 : Shape := ⟨2, ![64, 512]⟩
abbrev S64x2048 : Shape := ⟨2, ![64, 2048]⟩

abbrev nBuf : Space → Nat
  | .hbm => 177
  | .vmem => 49
  | .smem => 0
  | _ => 0

abbrev hbmTy0_0 (i : Nat) : BufTy := match i % 128 with
  | 0 => ⟨S64x3x142x142, .f32⟩
  | 1 => ⟨S32x3x11x11, .f32⟩
  | 2 => ⟨S32, .f32⟩
  | 3 => ⟨S8x8x32, .f32⟩
  | 4 => ⟨S8x8x32, .f32⟩
  | 5 => ⟨S8x8x32, .f32⟩
  | 6 => ⟨S8x8x32, .f32⟩
  | 7 => ⟨S8x8x32x32x3x3, .f32⟩
  | 8 => ⟨S8x8x32, .f32⟩
  | 9 => ⟨S32, .f32⟩
  | 10 => ⟨S32, .f32⟩
  | 11 => ⟨S32, .f32⟩
  | 12 => ⟨S32, .f32⟩
  | 13 => ⟨S16x32x8x8, .f32⟩
  | 14 => ⟨S16, .f32⟩
  | 15 => ⟨S16x16x8x8, .f32⟩
  | 16 => ⟨S16, .f32⟩
  | 17 => ⟨S16x16x6x6, .f32⟩
  | 18 => ⟨S16, .f32⟩
  | 19 => ⟨S16x16x5x5, .f32⟩
  | 20 => ⟨S16, .f32⟩
  | 21 => ⟨S4096x6400, .f32⟩
  | 22 => ⟨S4096, .f32⟩
  | 23 => ⟨S2048x4096, .f32⟩
  | 24 => ⟨S2048, .f32⟩
  | 25 => ⟨S12x2048, .f32⟩
  | 26 => ⟨S12, .f32⟩
  | 27 => ⟨S64x142x142x3, .f32⟩
  | 28 => ⟨S64x142x426, .f32⟩
  | 29 => ⟨S33x33, .i32⟩
  | 30 => ⟨S33x33, .i32⟩
  | 31 => ⟨S_, .i32⟩
  | 32 => ⟨S33x33, .i32⟩
  | 33 => ⟨S33x33, .i32⟩
  | 34 => ⟨S33x33, .i1⟩
  | 35 => ⟨S33x33, .f32⟩
  | 36 => ⟨S11x11x3x32, .f32⟩
  | 37 => ⟨S1x1x33x1x33x1, .f32⟩
  | 38 => ⟨S11x11x1x3x1x32, .f32⟩
  | 39 => ⟨S11x11x33x3x33x32, .f32⟩
  | 40 => ⟨S11x11x33x3x33x32, .f32⟩
  | 41 => ⟨S11x11x33x3x33x32, .f32⟩
  | 42 => ⟨S11x11x99x1056, .f32⟩
  | 43 => ⟨S11x1x99x1056, .f32⟩
  | 44 => ⟨S11x99x1056, .f32⟩
  | 45 => ⟨S_, .i32⟩
  | 46 => ⟨S_, .f32⟩
  | 47 => ⟨S11x129x1056, .f32⟩
  | 48 => ⟨S_, .f32⟩
  | 49 => ⟨S11x129x1056, .f32⟩
  | 50 => ⟨S11x129x1056, .f32⟩
  | 51 => ⟨S11x1x99x1056, .f32⟩
  | 52 => ⟨S11x99x1056, .f32⟩
  | 53 => ⟨S_, .i32⟩
  | 54 => ⟨S_, .f32⟩
  | 55 => ⟨S11x129x1056, .f32⟩
  | 56 => ⟨S11x129x1056, .f32⟩
  | 57 => ⟨S11x1x99x1056, .f32⟩
  | 58 => ⟨S11x99x1056, .f32⟩
  | 59 => ⟨S_, .i32⟩
  | 60 => ⟨S_, .f32⟩
  | 61 => ⟨S11x129x1056, .f32⟩
  | 62 => ⟨S11x129x1056, .f32⟩
  | 63 => ⟨S11x1x99x1056, .f32⟩
  | 64 => ⟨S11x99x1056, .f32⟩
  | 65 => ⟨S_, .i32⟩
  | 66 => ⟨S_, .f32⟩
  | 67 => ⟨S11x129x1056, .f32⟩
  | 68 => ⟨S11x129x1056, .f32⟩
  | 69 => ⟨S11x1x99x1056, .f32⟩
  | 70 => ⟨S11x99x1056, .f32⟩
  | 71 => ⟨S_, .i32⟩
  | 72 => ⟨S_, .f32⟩
  | 73 => ⟨S11x129x1056, .f32⟩
  | 74 => ⟨S11x129x1056, .f32⟩
  | 75 => ⟨S11x1x99x1056, .f32⟩
  | 76 => ⟨S11x99x1056, .f32⟩
  | 77 => ⟨S_, .i32⟩
  | 78 => ⟨S_, .f32⟩
  | 79 => ⟨S11x129x1056, .f32⟩
  | 80 => ⟨S11x129x1056, .f32⟩
  | 81 => ⟨S11x1x99x1056, .f32⟩
  | 82 => ⟨S11x99x1056, .f32⟩
  | 83 => ⟨S_, .i32⟩
  | 84 => ⟨S_, .f32⟩
  | 85 => ⟨S11x129x1056, .f32⟩
  | 86 => ⟨S11x129x1056, .f32⟩
  | 87 => ⟨S11x1x99x1056, .f32⟩
  | 88 => ⟨S11x99x1056, .f32⟩
  | 89 => ⟨S_, .i32⟩
  | 90 => ⟨S_, .f32⟩
  | 91 => ⟨S11x129x1056, .f32⟩
  | 92 => ⟨S11x129x1056, .f32⟩
  | 93 => ⟨S11x1x99x1056, .f32⟩
  | 94 => ⟨S11x99x1056, .f32⟩
  | 95 => ⟨S_, .i32⟩
  | 96 => ⟨S_, .f32⟩
  | 97 => ⟨S11x129x1056, .f32⟩
  | 98 => ⟨S11x129x1056, .f32⟩
  | 99 => ⟨S11x1x99x1056, .f32⟩
  | 100 => ⟨S11x99x1056, .f32⟩
  | 101 => ⟨S_, .i32⟩
  | 102 => ⟨S_, .f32⟩
  | 103 => ⟨S11x129x1056, .f32⟩
  | 104 => ⟨S11x129x1056, .f32⟩
  | 105 => ⟨S11x1x99x1056, .f32⟩
  | 106 => ⟨S11x99x1056, .f32⟩
  | 107 => ⟨S_, .i32⟩
  | 108 => ⟨S_, .f32⟩
  | 109 => ⟨S11x129x1056, .f32⟩
  | 110 => ⟨S11x129x1056, .f32⟩
  | 111 => ⟨S1419x1056, .f32⟩
  | 112 => ⟨S1x32, .f32⟩
  | 113 => ⟨S33x32, .f32⟩
  | 114 => ⟨S1056, .f32⟩
  | 115 => ⟨S1x1056, .f32⟩
  | 116 => ⟨S_, .f32⟩
  | 117 => ⟨S8x8x32, .f32⟩
  | 118 => ⟨S8x8x32, .f32⟩
  | 119 => ⟨S8x8x32, .f32⟩
  | 120 => ⟨S8x8x32, .f32⟩
  | 121 => ⟨S8x8x32, .f32⟩
  | 122 => ⟨S8x8x32, .f32⟩
  | 123 => ⟨S8x8x3x32x3x32, .f32⟩
  | 124 => ⟨S8x8x96x96, .f32⟩
  | 125 => ⟨S_, .f32⟩
  | 126 => ⟨S32, .f32⟩
  | 127 => ⟨S32, .f32⟩
  | _ => ⟨S64x3x142x142, .f32⟩

abbrev hbmTy0_1 (i : Nat) : BufTy := match i % 128 with
  | 0 => ⟨S32, .f32⟩
  | 1 => ⟨S32, .f32⟩
  | 2 => ⟨S1x1x32, .f32⟩
  | 3 => ⟨S_, .f32⟩
  | 4 => ⟨S32, .f32⟩
  | 5 => ⟨S32, .f32⟩
  | 6 => ⟨S32, .f32⟩
  | 7 => ⟨S32, .f32⟩
  | 8 => ⟨S32, .f32⟩
  | 9 => ⟨S32, .f32⟩
  | 10 => ⟨S1x1x32, .f32⟩
  | 11 => ⟨S8x32x8x16, .f32⟩
  | 12 => ⟨S256x128, .f32⟩
  | 13 => ⟨S1x1x16, .f32⟩
  | 14 => ⟨S8x16x8x16, .f32⟩
  | 15 => ⟨S128x128, .f32⟩
  | 16 => ⟨S1x1x16, .f32⟩
  | 17 => ⟨S16x16x3x2x3x2, .f32⟩
  | 18 => ⟨S2x2x3x16x3x16, .f32⟩
  | 19 => ⟨S4x48x48, .f32⟩
  | 20 => ⟨S1x1x16, .f32⟩
  | 21 => ⟨S5x16x5x16, .f32⟩
  | 22 => ⟨S80x80, .f32⟩
  | 23 => ⟨S1x1x16, .f32⟩
  | 24 => ⟨S4096x16x20x20, .f32⟩
  | 25 => ⟨S4096x20x20x16, .f32⟩
  | 26 => ⟨S4096x6400, .f32⟩
  | 27 => ⟨S6400x4096, .f32⟩
  | 28 => ⟨S1x4096, .f32⟩
  | 29 => ⟨S4096x2048, .f32⟩
  | 30 => ⟨S1x2048, .f32⟩
  | 31 => ⟨S2048x12, .f32⟩
  | 32 => ⟨S1x12, .f32⟩
  | 33 => ⟨S64x132x4224, .f32⟩
  | 34 => ⟨S64x132x132x32, .f32⟩
  | 35 => ⟨S64x52x52x16, .f32⟩
  | 36 => ⟨S64x26x26x16, .f32⟩
  | 37 => ⟨S64x26x26x16, .f32⟩
  | 38 => ⟨S64x26x26x16, .f32⟩
  | 39 => ⟨S64x26x26x16, .f32⟩
  | 40 => ⟨S64x1x26x26x16, .f32⟩
  | 41 => ⟨S64x1x26x26x16, .f32⟩
  | 42 => ⟨S64x1x26x26x16, .f32⟩
  | 43 => ⟨S64x1x26x26x16, .f32⟩
  | 44 => ⟨S64x4x26x26x16, .f32⟩
  | 45 => ⟨S64x400x16, .f32⟩
  | 46 => ⟨S64x6400, .f32⟩
  | 47 => ⟨S64x4096, .f32⟩
  | 48 => ⟨S64x12, .f32⟩
  | _ => ⟨S64x3x142x142, .f32⟩

abbrev hbmTy (i : Nat) : BufTy := match i / 128 with
  | 0 => hbmTy0_0 i
  | 1 => hbmTy0_1 i
  | _ => ⟨S64x3x142x142, .f32⟩

abbrev bufTy : (tb : Table) → Fin (tcTables nBuf tb) → BufTy
  | .hbm, ⟨i, _⟩ => hbmTy i
  | .local _ .vmem, ⟨0, _⟩ => ⟨S1x142x426, .f32⟩
  | .local _ .vmem, ⟨1, _⟩ => ⟨S1x142x426, .f32⟩
  | .local _ .vmem, ⟨2, _⟩ => ⟨S1419x1056, .f32⟩
  | .local _ .vmem, ⟨3, _⟩ => ⟨S1x1056, .f32⟩
  | .local _ .vmem, ⟨4, _⟩ => ⟨S1x132x4224, .f32⟩
  | .local _ .vmem, ⟨5, _⟩ => ⟨S1x132x4224, .f32⟩
  | .local _ .vmem, ⟨6, _⟩ => ⟨S132x1419, .f32⟩
  | .local _ .vmem, ⟨7, _⟩ => ⟨S1x132x132x32, .f32⟩
  | .local _ .vmem, ⟨8, _⟩ => ⟨S1x132x132x32, .f32⟩
  | .local _ .vmem, ⟨9, _⟩ => ⟨S8x8x32, .f32⟩
  | .local _ .vmem, ⟨10, _⟩ => ⟨S8x8x32, .f32⟩
  | .local _ .vmem, ⟨11, _⟩ => ⟨S8x8x96x96, .f32⟩
  | .local _ .vmem, ⟨12, _⟩ => ⟨S8x8x32, .f32⟩
  | .local _ .vmem, ⟨13, _⟩ => ⟨S1x1x32, .f32⟩
  | .local _ .vmem, ⟨14, _⟩ => ⟨S1x1x32, .f32⟩
  | .local _ .vmem, ⟨15, _⟩ => ⟨S256x128, .f32⟩
  | .local _ .vmem, ⟨16, _⟩ => ⟨S1x1x16, .f32⟩
  | .local _ .vmem, ⟨17, _⟩ => ⟨S128x128, .f32⟩
  | .local _ .vmem, ⟨18, _⟩ => ⟨S1x1x16, .f32⟩
  | .local _ .vmem, ⟨19, _⟩ => ⟨S1x52x52x16, .f32⟩
  | .local _ .vmem, ⟨20, _⟩ => ⟨S1x52x52x16, .f32⟩
  | .local _ .vmem, ⟨21, _⟩ => ⟨S18x132x32, .f32⟩
  | .local _ .vmem, ⟨22, _⟩ => ⟨S66x66x32, .f32⟩
  | .local _ .vmem, ⟨23, _⟩ => ⟨S59x59x16, .f32⟩
  | .local _ .vmem, ⟨24, _⟩ => ⟨S22x59x256, .f32⟩
  | .local _ .vmem, ⟨25, _⟩ => ⟨S1298x128, .f32⟩
  | .local _ .vmem, ⟨26, _⟩ => ⟨S59x52x128, .f32⟩
  | .local _ .vmem, ⟨27, _⟩ => ⟨S3068x128, .f32⟩
  | .local _ .vmem, ⟨28, _⟩ => ⟨S4x4x26x26x16, .f32⟩
  | .local _ .vmem, ⟨29, _⟩ => ⟨S4x4x26x26x16, .f32⟩
  | .local _ .vmem, ⟨30, _⟩ => ⟨S4x48x48, .f32⟩
  | .local _ .vmem, ⟨31, _⟩ => ⟨S1x1x16, .f32⟩
  | .local _ .vmem, ⟨32, _⟩ => ⟨S80x80, .f32⟩
  | .local _ .vmem, ⟨33, _⟩ => ⟨S1x1x16, .f32⟩
  | .local _ .vmem, ⟨34, _⟩ => ⟨S4x400x16, .f32⟩
  | .local _ .vmem, ⟨35, _⟩ => ⟨S4x400x16, .f32⟩
  | .local _ .vmem, ⟨36, _⟩ => ⟨S64x6400, .f32⟩
  | .local _ .vmem, ⟨37, _⟩ => ⟨S6400x512, .f32⟩
  | .local _ .vmem, ⟨38, _⟩ => ⟨S6400x512, .f32⟩
  | .local _ .vmem, ⟨39, _⟩ => ⟨S1x512, .f32⟩
  | .local _ .vmem, ⟨40, _⟩ => ⟨S1x512, .f32⟩
  | .local _ .vmem, ⟨41, _⟩ => ⟨S64x512, .f32⟩
  | .local _ .vmem, ⟨42, _⟩ => ⟨S64x512, .f32⟩
  | .local _ .vmem, ⟨43, _⟩ => ⟨S64x4096, .f32⟩
  | .local _ .vmem, ⟨44, _⟩ => ⟨S4096x2048, .f32⟩
  | .local _ .vmem, ⟨45, _⟩ => ⟨S1x2048, .f32⟩
  | .local _ .vmem, ⟨46, _⟩ => ⟨S2048x12, .f32⟩
  | .local _ .vmem, ⟨47, _⟩ => ⟨S1x12, .f32⟩
  | .local _ .vmem, ⟨48, _⟩ => ⟨S64x12, .f32⟩
  | _, _ => ⟨S64x3x142x142, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_c : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_v15 : Ref sig .tc := ⟨.hbm, 43, rfl⟩
abbrev main_call0_v16 : Ref sig .tc := ⟨.hbm, 44, rfl⟩
abbrev main_call0_c_0 : Ref sig .tc := ⟨.hbm, 45, rfl⟩
abbrev main_call0_call0_v0 : Ref sig .tc := ⟨.hbm, 46, rfl⟩
abbrev main_call0_v17 : Ref sig .tc := ⟨.hbm, 47, rfl⟩
abbrev main_call0_cst : Ref sig .tc := ⟨.hbm, 48, rfl⟩
abbrev main_call0_v18 : Ref sig .tc := ⟨.hbm, 49, rfl⟩
abbrev main_call0_v19 : Ref sig .tc := ⟨.hbm, 50, rfl⟩
abbrev main_call0_v20 : Ref sig .tc := ⟨.hbm, 51, rfl⟩
abbrev main_call0_v21 : Ref sig .tc := ⟨.hbm, 52, rfl⟩
abbrev main_call0_c_1 : Ref sig .tc := ⟨.hbm, 53, rfl⟩
abbrev main_call0_call1_v0 : Ref sig .tc := ⟨.hbm, 54, rfl⟩
abbrev main_call0_v22 : Ref sig .tc := ⟨.hbm, 55, rfl⟩
abbrev main_call0_v23 : Ref sig .tc := ⟨.hbm, 56, rfl⟩
abbrev main_call0_v24 : Ref sig .tc := ⟨.hbm, 57, rfl⟩
abbrev main_call0_v25 : Ref sig .tc := ⟨.hbm, 58, rfl⟩
abbrev main_call0_c_2 : Ref sig .tc := ⟨.hbm, 59, rfl⟩
abbrev main_call0_call2_v0 : Ref sig .tc := ⟨.hbm, 60, rfl⟩
abbrev main_call0_v26 : Ref sig .tc := ⟨.hbm, 61, rfl⟩
abbrev main_call0_v27 : Ref sig .tc := ⟨.hbm, 62, rfl⟩
abbrev main_call0_v28 : Ref sig .tc := ⟨.hbm, 63, rfl⟩
abbrev main_call0_v29 : Ref sig .tc := ⟨.hbm, 64, rfl⟩
abbrev main_call0_c_3 : Ref sig .tc := ⟨.hbm, 65, rfl⟩
abbrev main_call0_call3_v0 : Ref sig .tc := ⟨.hbm, 66, rfl⟩
abbrev main_call0_v30 : Ref sig .tc := ⟨.hbm, 67, rfl⟩
abbrev main_call0_v31 : Ref sig .tc := ⟨.hbm, 68, rfl⟩
abbrev main_call0_v32 : Ref sig .tc := ⟨.hbm, 69, rfl⟩
abbrev main_call0_v33 : Ref sig .tc := ⟨.hbm, 70, rfl⟩
abbrev main_call0_c_4 : Ref sig .tc := ⟨.hbm, 71, rfl⟩
abbrev main_call0_call4_v0 : Ref sig .tc := ⟨.hbm, 72, rfl⟩
abbrev main_call0_v34 : Ref sig .tc := ⟨.hbm, 73, rfl⟩
abbrev main_call0_v35 : Ref sig .tc := ⟨.hbm, 74, rfl⟩
abbrev main_call0_v36 : Ref sig .tc := ⟨.hbm, 75, rfl⟩
abbrev main_call0_v37 : Ref sig .tc := ⟨.hbm, 76, rfl⟩
abbrev main_call0_c_5 : Ref sig .tc := ⟨.hbm, 77, rfl⟩
abbrev main_call0_call5_v0 : Ref sig .tc := ⟨.hbm, 78, rfl⟩
abbrev main_call0_v38 : Ref sig .tc := ⟨.hbm, 79, rfl⟩
abbrev main_call0_v39 : Ref sig .tc := ⟨.hbm, 80, rfl⟩
abbrev main_call0_v40 : Ref sig .tc := ⟨.hbm, 81, rfl⟩
abbrev main_call0_v41 : Ref sig .tc := ⟨.hbm, 82, rfl⟩
abbrev main_call0_c_6 : Ref sig .tc := ⟨.hbm, 83, rfl⟩
abbrev main_call0_call6_v0 : Ref sig .tc := ⟨.hbm, 84, rfl⟩
abbrev main_call0_v42 : Ref sig .tc := ⟨.hbm, 85, rfl⟩
abbrev main_call0_v43 : Ref sig .tc := ⟨.hbm, 86, rfl⟩
abbrev main_call0_v44 : Ref sig .tc := ⟨.hbm, 87, rfl⟩
abbrev main_call0_v45 : Ref sig .tc := ⟨.hbm, 88, rfl⟩
abbrev main_call0_c_7 : Ref sig .tc := ⟨.hbm, 89, rfl⟩
abbrev main_call0_call7_v0 : Ref sig .tc := ⟨.hbm, 90, rfl⟩
abbrev main_call0_v46 : Ref sig .tc := ⟨.hbm, 91, rfl⟩
abbrev main_call0_v47 : Ref sig .tc := ⟨.hbm, 92, rfl⟩
abbrev main_call0_v48 : Ref sig .tc := ⟨.hbm, 93, rfl⟩
abbrev main_call0_v49 : Ref sig .tc := ⟨.hbm, 94, rfl⟩
abbrev main_call0_c_8 : Ref sig .tc := ⟨.hbm, 95, rfl⟩
abbrev main_call0_call8_v0 : Ref sig .tc := ⟨.hbm, 96, rfl⟩
abbrev main_call0_v50 : Ref sig .tc := ⟨.hbm, 97, rfl⟩
abbrev main_call0_v51 : Ref sig .tc := ⟨.hbm, 98, rfl⟩
abbrev main_call0_v52 : Ref sig .tc := ⟨.hbm, 99, rfl⟩
abbrev main_call0_v53 : Ref sig .tc := ⟨.hbm, 100, rfl⟩
abbrev main_call0_c_9 : Ref sig .tc := ⟨.hbm, 101, rfl⟩
abbrev main_call0_call9_v0 : Ref sig .tc := ⟨.hbm, 102, rfl⟩
abbrev main_call0_v54 : Ref sig .tc := ⟨.hbm, 103, rfl⟩
abbrev main_call0_v55 : Ref sig .tc := ⟨.hbm, 104, rfl⟩
abbrev main_call0_v56 : Ref sig .tc := ⟨.hbm, 105, rfl⟩
abbrev main_call0_v57 : Ref sig .tc := ⟨.hbm, 106, rfl⟩
abbrev main_call0_c_10 : Ref sig .tc := ⟨.hbm, 107, rfl⟩
abbrev main_call0_call10_v0 : Ref sig .tc := ⟨.hbm, 108, rfl⟩
abbrev main_call0_v58 : Ref sig .tc := ⟨.hbm, 109, rfl⟩
abbrev main_call0_v59 : Ref sig .tc := ⟨.hbm, 110, rfl⟩
abbrev main_call0_v60 : Ref sig .tc := ⟨.hbm, 111, rfl⟩
abbrev main_call0_v61 : Ref sig .tc := ⟨.hbm, 112, rfl⟩
abbrev main_call0_v62 : Ref sig .tc := ⟨.hbm, 113, rfl⟩
abbrev main_call0_v63 : Ref sig .tc := ⟨.hbm, 114, rfl⟩
abbrev main_call0_v64 : Ref sig .tc := ⟨.hbm, 115, rfl⟩
abbrev main_call0_cst_11 : Ref sig .tc := ⟨.hbm, 116, rfl⟩
abbrev main_call0_v65 : Ref sig .tc := ⟨.hbm, 117, rfl⟩
abbrev main_call0_v66 : Ref sig .tc := ⟨.hbm, 118, rfl⟩
abbrev main_call0_v67 : Ref sig .tc := ⟨.hbm, 119, rfl⟩
abbrev main_call0_v68 : Ref sig .tc := ⟨.hbm, 120, rfl⟩
abbrev main_call0_v69 : Ref sig .tc := ⟨.hbm, 121, rfl⟩
abbrev main_call0_v70 : Ref sig .tc := ⟨.hbm, 122, rfl⟩
abbrev main_call0_v71 : Ref sig .tc := ⟨.hbm, 123, rfl⟩
abbrev main_call0_v72 : Ref sig .tc := ⟨.hbm, 124, rfl⟩
abbrev main_call0_cst_12 : Ref sig .tc := ⟨.hbm, 125, rfl⟩
abbrev main_call0_v73 : Ref sig .tc := ⟨.hbm, 126, rfl⟩
abbrev main_call0_v74 : Ref sig .tc := ⟨.hbm, 127, rfl⟩
abbrev main_call0_v75 : Ref sig .tc := ⟨.hbm, 128, rfl⟩
abbrev main_call0_v76 : Ref sig .tc := ⟨.hbm, 129, rfl⟩
abbrev main_call0_v77 : Ref sig .tc := ⟨.hbm, 130, rfl⟩
abbrev main_call0_cst_13 : Ref sig .tc := ⟨.hbm, 131, rfl⟩
abbrev main_call0_v78 : Ref sig .tc := ⟨.hbm, 132, rfl⟩
abbrev main_call0_v79 : Ref sig .tc := ⟨.hbm, 133, rfl⟩
abbrev main_call0_v80 : Ref sig .tc := ⟨.hbm, 134, rfl⟩
abbrev main_call0_v81 : Ref sig .tc := ⟨.hbm, 135, rfl⟩
abbrev main_call0_v82 : Ref sig .tc := ⟨.hbm, 136, rfl⟩
abbrev main_call0_v83 : Ref sig .tc := ⟨.hbm, 137, rfl⟩
abbrev main_call0_v84 : Ref sig .tc := ⟨.hbm, 138, rfl⟩
abbrev main_call0_v85 : Ref sig .tc := ⟨.hbm, 139, rfl⟩
abbrev main_call0_v86 : Ref sig .tc := ⟨.hbm, 140, rfl⟩
abbrev main_call0_v87 : Ref sig .tc := ⟨.hbm, 141, rfl⟩
abbrev main_call0_v88 : Ref sig .tc := ⟨.hbm, 142, rfl⟩
abbrev main_call0_v89 : Ref sig .tc := ⟨.hbm, 143, rfl⟩
abbrev main_call0_v90 : Ref sig .tc := ⟨.hbm, 144, rfl⟩
abbrev main_call0_v91 : Ref sig .tc := ⟨.hbm, 145, rfl⟩
abbrev main_call0_v92 : Ref sig .tc := ⟨.hbm, 146, rfl⟩
abbrev main_call0_v93 : Ref sig .tc := ⟨.hbm, 147, rfl⟩
abbrev main_call0_v94 : Ref sig .tc := ⟨.hbm, 148, rfl⟩
abbrev main_call0_v95 : Ref sig .tc := ⟨.hbm, 149, rfl⟩
abbrev main_call0_v96 : Ref sig .tc := ⟨.hbm, 150, rfl⟩
abbrev main_call0_v97 : Ref sig .tc := ⟨.hbm, 151, rfl⟩
abbrev main_call0_v98 : Ref sig .tc := ⟨.hbm, 152, rfl⟩
abbrev main_call0_v99 : Ref sig .tc := ⟨.hbm, 153, rfl⟩
abbrev main_call0_v100 : Ref sig .tc := ⟨.hbm, 154, rfl⟩
abbrev main_call0_v101 : Ref sig .tc := ⟨.hbm, 155, rfl⟩
abbrev main_call0_v102 : Ref sig .tc := ⟨.hbm, 156, rfl⟩
abbrev main_call0_v103 : Ref sig .tc := ⟨.hbm, 157, rfl⟩
abbrev main_call0_v104 : Ref sig .tc := ⟨.hbm, 158, rfl⟩
abbrev main_call0_v105 : Ref sig .tc := ⟨.hbm, 159, rfl⟩
abbrev main_call0_v106 : Ref sig .tc := ⟨.hbm, 160, rfl⟩
abbrev main_call0_v107 : Ref sig .tc := ⟨.hbm, 161, rfl⟩
abbrev main_call0_v108 : Ref sig .tc := ⟨.hbm, 162, rfl⟩
abbrev main_call0_v109 : Ref sig .tc := ⟨.hbm, 163, rfl⟩
abbrev main_call0_v110 : Ref sig .tc := ⟨.hbm, 164, rfl⟩
abbrev main_call0_v111 : Ref sig .tc := ⟨.hbm, 165, rfl⟩
abbrev main_call0_v112 : Ref sig .tc := ⟨.hbm, 166, rfl⟩
abbrev main_call0_v113 : Ref sig .tc := ⟨.hbm, 167, rfl⟩
abbrev main_call0_v114 : Ref sig .tc := ⟨.hbm, 168, rfl⟩
abbrev main_call0_v115 : Ref sig .tc := ⟨.hbm, 169, rfl⟩
abbrev main_call0_v116 : Ref sig .tc := ⟨.hbm, 170, rfl⟩
abbrev main_call0_v117 : Ref sig .tc := ⟨.hbm, 171, rfl⟩
abbrev main_call0_v118 : Ref sig .tc := ⟨.hbm, 172, rfl⟩
abbrev main_call0_v119 : Ref sig .tc := ⟨.hbm, 173, rfl⟩
abbrev main_call0_v120 : Ref sig .tc := ⟨.hbm, 174, rfl⟩
abbrev main_call0_v121 : Ref sig .tc := ⟨.hbm, 175, rfl⟩
abbrev main_v0 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg11_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc1_scratch4 : Ref sig .tc := ⟨.vmem, 25, rfl⟩
abbrev cc1_scratch5 : Ref sig .tc := ⟨.vmem, 26, rfl⟩
abbrev cc1_scratch6 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc3_stg0_0 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc4_stg0_0 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem11_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc4_sem0_0 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x142x426 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1419x1056 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1056 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x132x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x132x132x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x8x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x8x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x8x96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x8x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1x52x52x16 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![16], ![false]⟩

def cc2_transform_0 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4x4x26x26x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x48x48 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S80x80 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4x400x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S64x6400 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S6400x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S64x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x4096 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S4096x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2048x12 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x12 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x12 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]
-- ==== ReferenceIdeal.lean ====
abbrev S64x3x142x142 : Shape := ⟨4, ![64, 3, 142, 142]⟩
abbrev S32x3x11x11 : Shape := ⟨4, ![32, 3, 11, 11]⟩
abbrev S32 : Shape := ⟨1, ![32]⟩
abbrev S8x8x32 : Shape := ⟨3, ![8, 8, 32]⟩
abbrev S8x8x32x32x3x3 : Shape := ⟨6, ![8, 8, 32, 32, 3, 3]⟩
abbrev S16x32x8x8 : Shape := ⟨4, ![16, 32, 8, 8]⟩
abbrev S16 : Shape := ⟨1, ![16]⟩
abbrev S16x16x8x8 : Shape := ⟨4, ![16, 16, 8, 8]⟩
abbrev S16x16x6x6 : Shape := ⟨4, ![16, 16, 6, 6]⟩
abbrev S16x16x5x5 : Shape := ⟨4, ![16, 16, 5, 5]⟩
abbrev S4096x6400 : Shape := ⟨2, ![4096, 6400]⟩
abbrev S4096 : Shape := ⟨1, ![4096]⟩
abbrev S2048x4096 : Shape := ⟨2, ![2048, 4096]⟩
abbrev S2048 : Shape := ⟨1, ![2048]⟩
abbrev S12x2048 : Shape := ⟨2, ![12, 2048]⟩
abbrev S12 : Shape := ⟨1, ![12]⟩
abbrev S11x132 : Shape := ⟨2, ![11, 132]⟩
abbrev S11x132x1 : Shape := ⟨3, ![11, 132, 1]⟩
abbrev S64x3x142x11x132 : Shape := ⟨5, ![64, 3, 142, 11, 132]⟩
abbrev S64x3x11x132x11x132 : Shape := ⟨6, ![64, 3, 11, 132, 11, 132]⟩
abbrev S32x64x132x132 : Shape := ⟨4, ![32, 64, 132, 132]⟩
abbrev S64x32x132x132 : Shape := ⟨4, ![64, 32, 132, 132]⟩
abbrev S1x32x1x1 : Shape := ⟨4, ![1, 32, 1, 1]⟩
abbrev S32x8x8 : Shape := ⟨3, ![32, 8, 8]⟩
abbrev S32x8x1x8x1 : Shape := ⟨5, ![32, 8, 1, 8, 1]⟩
abbrev S32x8x18x8x18 : Shape := ⟨5, ![32, 8, 18, 8, 18]⟩
abbrev S32x144x144 : Shape := ⟨3, ![32, 144, 144]⟩
abbrev S32x132x132 : Shape := ⟨3, ![32, 132, 132]⟩
abbrev S1x32x132x132 : Shape := ⟨4, ![1, 32, 132, 132]⟩
abbrev S_ : Shape := ⟨0, ![]⟩
abbrev S64x32x144x144 : Shape := ⟨4, ![64, 32, 144, 144]⟩
abbrev S64x32x8x18x8x18 : Shape := ⟨6, ![64, 32, 8, 18, 8, 18]⟩
abbrev S64x32x8x20x8x20 : Shape := ⟨6, ![64, 32, 8, 20, 8, 20]⟩
abbrev S3x18 : Shape := ⟨2, ![3, 18]⟩
abbrev S3x18x1 : Shape := ⟨3, ![3, 18, 1]⟩
abbrev S64x32x8x20x8x3x18 : Shape := ⟨7, ![64, 32, 8, 20, 8, 3, 18]⟩
abbrev S64x32x8x3x18x8x3x18 : Shape := ⟨8, ![64, 32, 8, 3, 18, 8, 3, 18]⟩
abbrev S8x8x32x64x18x18 : Shape := ⟨6, ![8, 8, 32, 64, 18, 18]⟩
abbrev S64x32x66x132 : Shape := ⟨4, ![64, 32, 66, 132]⟩
abbrev S64x32x66x66 : Shape := ⟨4, ![64, 32, 66, 66]⟩
abbrev S32x1x1 : Shape := ⟨3, ![32, 1, 1]⟩
abbrev S8x59 : Shape := ⟨2, ![8, 59]⟩
abbrev S8x59x1 : Shape := ⟨3, ![8, 59, 1]⟩
abbrev S64x32x66x8x59 : Shape := ⟨5, ![64, 32, 66, 8, 59]⟩
abbrev S64x32x8x59x8x59 : Shape := ⟨6, ![64, 32, 8, 59, 8, 59]⟩
abbrev S16x64x59x59 : Shape := ⟨4, ![16, 64, 59, 59]⟩
abbrev S64x16x59x59 : Shape := ⟨4, ![64, 16, 59, 59]⟩
abbrev S1x16x1x1 : Shape := ⟨4, ![1, 16, 1, 1]⟩
abbrev S8x52 : Shape := ⟨2, ![8, 52]⟩
abbrev S8x52x1 : Shape := ⟨3, ![8, 52, 1]⟩
abbrev S64x16x59x8x52 : Shape := ⟨5, ![64, 16, 59, 8, 52]⟩
abbrev S64x16x8x52x8x52 : Shape := ⟨6, ![64, 16, 8, 52, 8, 52]⟩
abbrev S16x64x52x52 : Shape := ⟨4, ![16, 64, 52, 52]⟩
abbrev S64x16x52x52 : Shape := ⟨4, ![64, 16, 52, 52]⟩
abbrev S6x24 : Shape := ⟨2, ![6, 24]⟩
abbrev S6x24x1 : Shape := ⟨3, ![6, 24, 1]⟩
abbrev S64x16x52x6x24 : Shape := ⟨5, ![64, 16, 52, 6, 24]⟩
abbrev S64x16x6x24x6x24 : Shape := ⟨6, ![64, 16, 6, 24, 6, 24]⟩
abbrev S16x64x24x24 : Shape := ⟨4, ![16, 64, 24, 24]⟩
abbrev S64x16x24x24 : Shape := ⟨4, ![64, 16, 24, 24]⟩
abbrev S5x20 : Shape := ⟨2, ![5, 20]⟩
abbrev S5x20x1 : Shape := ⟨3, ![5, 20, 1]⟩
abbrev S64x16x24x5x20 : Shape := ⟨5, ![64, 16, 24, 5, 20]⟩
abbrev S64x16x5x20x5x20 : Shape := ⟨6, ![64, 16, 5, 20, 5, 20]⟩
abbrev S16x64x20x20 : Shape := ⟨4, ![16, 64, 20, 20]⟩
abbrev S64x16x20x20 : Shape := ⟨4, ![64, 16, 20, 20]⟩
abbrev S64x6400 : Shape := ⟨2, ![64, 6400]⟩
abbrev S6400x4096 : Shape := ⟨2, ![6400, 4096]⟩
abbrev S64x4096 : Shape := ⟨2, ![64, 4096]⟩
abbrev S1x4096 : Shape := ⟨2, ![1, 4096]⟩
abbrev S4096x2048 : Shape := ⟨2, ![4096, 2048]⟩
abbrev S64x2048 : Shape := ⟨2, ![64, 2048]⟩
abbrev S1x2048 : Shape := ⟨2, ![1, 2048]⟩
abbrev S2048x12 : Shape := ⟨2, ![2048, 12]⟩
abbrev S64x12 : Shape := ⟨2, ![64, 12]⟩
abbrev S1x12 : Shape := ⟨2, ![1, 12]⟩

abbrev nBuf : Space → Nat
  | .hbm => 230
  | .vmem => 0
  | .smem => 0
  | _ => 0

abbrev hbmTy0_0 (i : Nat) : BufTy := match i % 128 with
  | 0 => ⟨S64x3x142x142, .f32⟩
  | 1 => ⟨S32x3x11x11, .f32⟩
  | 2 => ⟨S32, .f32⟩
  | 3 => ⟨S8x8x32, .f32⟩
  | 4 => ⟨S8x8x32, .f32⟩
  | 5 => ⟨S8x8x32, .f32⟩
  | 6 => ⟨S8x8x32, .f32⟩
  | 7 => ⟨S8x8x32x32x3x3, .f32⟩
  | 8 => ⟨S8x8x32, .f32⟩
  | 9 => ⟨S32, .f32⟩
  | 10 => ⟨S32, .f32⟩
  | 11 => ⟨S32, .f32⟩
  | 12 => ⟨S32, .f32⟩
  | 13 => ⟨S16x32x8x8, .f32⟩
  | 14 => ⟨S16, .f32⟩
  | 15 => ⟨S16x16x8x8, .f32⟩
  | 16 => ⟨S16, .f32⟩
  | 17 => ⟨S16x16x6x6, .f32⟩
  | 18 => ⟨S16, .f32⟩
  | 19 => ⟨S16x16x5x5, .f32⟩
  | 20 => ⟨S16, .f32⟩
  | 21 => ⟨S4096x6400, .f32⟩
  | 22 => ⟨S4096, .f32⟩
  | 23 => ⟨S2048x4096, .f32⟩
  | 24 => ⟨S2048, .f32⟩
  | 25 => ⟨S12x2048, .f32⟩
  | 26 => ⟨S12, .f32⟩
  | 27 => ⟨S11x132, .i32⟩
  | 28 => ⟨S11x132, .i32⟩
  | 29 => ⟨S11x132, .i32⟩
  | 30 => ⟨S11x132x1, .i32⟩
  | 31 => ⟨S64x3x142x11x132, .f32⟩
  | 32 => ⟨S11x132, .i32⟩
  | 33 => ⟨S11x132, .i32⟩
  | 34 => ⟨S11x132, .i32⟩
  | 35 => ⟨S11x132x1, .i32⟩
  | 36 => ⟨S64x3x11x132x11x132, .f32⟩
  | 37 => ⟨S32x64x132x132, .f32⟩
  | 38 => ⟨S64x32x132x132, .f32⟩
  | 39 => ⟨S1x32x1x1, .f32⟩
  | 40 => ⟨S64x32x132x132, .f32⟩
  | 41 => ⟨S64x32x132x132, .f32⟩
  | 42 => ⟨S32x8x8, .f32⟩
  | 43 => ⟨S32x8x1x8x1, .f32⟩
  | 44 => ⟨S32x8x18x8x18, .f32⟩
  | 45 => ⟨S32x144x144, .f32⟩
  | 46 => ⟨S32x132x132, .f32⟩
  | 47 => ⟨S1x32x132x132, .f32⟩
  | 48 => ⟨S64x32x132x132, .f32⟩
  | 49 => ⟨S64x32x132x132, .f32⟩
  | 50 => ⟨S_, .f32⟩
  | 51 => ⟨S8x8x32, .f32⟩
  | 52 => ⟨S8x8x32, .f32⟩
  | 53 => ⟨S8x8x32, .f32⟩
  | 54 => ⟨S8x8x32, .f32⟩
  | 55 => ⟨S32x8x8, .f32⟩
  | 56 => ⟨S32x8x1x8x1, .f32⟩
  | 57 => ⟨S32x8x18x8x18, .f32⟩
  | 58 => ⟨S32x144x144, .f32⟩
  | 59 => ⟨S32x132x132, .f32⟩
  | 60 => ⟨S1x32x132x132, .f32⟩
  | 61 => ⟨S64x32x132x132, .f32⟩
  | 62 => ⟨S64x32x132x132, .f32⟩
  | 63 => ⟨S32x8x8, .f32⟩
  | 64 => ⟨S32x8x1x8x1, .f32⟩
  | 65 => ⟨S32x8x18x8x18, .f32⟩
  | 66 => ⟨S32x144x144, .f32⟩
  | 67 => ⟨S32x132x132, .f32⟩
  | 68 => ⟨S1x32x132x132, .f32⟩
  | 69 => ⟨S64x32x132x132, .f32⟩
  | 70 => ⟨S64x32x132x132, .f32⟩
  | 71 => ⟨S_, .f32⟩
  | 72 => ⟨S64x32x132x132, .f32⟩
  | 73 => ⟨S64x32x132x132, .f32⟩
  | 74 => ⟨S_, .i32⟩
  | 75 => ⟨S_, .f32⟩
  | 76 => ⟨S64x32x144x144, .f32⟩
  | 77 => ⟨S64x32x8x18x8x18, .f32⟩
  | 78 => ⟨S_, .i32⟩
  | 79 => ⟨S_, .f32⟩
  | 80 => ⟨S64x32x8x20x8x20, .f32⟩
  | 81 => ⟨S3x18, .i32⟩
  | 82 => ⟨S3x18, .i32⟩
  | 83 => ⟨S3x18, .i32⟩
  | 84 => ⟨S3x18x1, .i32⟩
  | 85 => ⟨S64x32x8x20x8x3x18, .f32⟩
  | 86 => ⟨S3x18, .i32⟩
  | 87 => ⟨S3x18, .i32⟩
  | 88 => ⟨S3x18, .i32⟩
  | 89 => ⟨S3x18x1, .i32⟩
  | 90 => ⟨S64x32x8x3x18x8x3x18, .f32⟩
  | 91 => ⟨S8x8x32x64x18x18, .f32⟩
  | 92 => ⟨S64x32x8x18x8x18, .f32⟩
  | 93 => ⟨S64x32x144x144, .f32⟩
  | 94 => ⟨S64x32x132x132, .f32⟩
  | 95 => ⟨S32x8x8, .f32⟩
  | 96 => ⟨S32x8x1x8x1, .f32⟩
  | 97 => ⟨S32x8x18x8x18, .f32⟩
  | 98 => ⟨S32x144x144, .f32⟩
  | 99 => ⟨S32x132x132, .f32⟩
  | 100 => ⟨S1x32x132x132, .f32⟩
  | 101 => ⟨S64x32x132x132, .f32⟩
  | 102 => ⟨S64x32x132x132, .f32⟩
  | 103 => ⟨S64x32x132x132, .f32⟩
  | 104 => ⟨S_, .f32⟩
  | 105 => ⟨S64x32x132x132, .f32⟩
  | 106 => ⟨S64x32x132x132, .f32⟩
  | 107 => ⟨S64x32x66x132, .f32⟩
  | 108 => ⟨S64x32x66x132, .f32⟩
  | 109 => ⟨S64x32x66x132, .f32⟩
  | 110 => ⟨S64x32x66x66, .f32⟩
  | 111 => ⟨S64x32x66x66, .f32⟩
  | 112 => ⟨S64x32x66x66, .f32⟩
  | 113 => ⟨S32x1x1, .f32⟩
  | 114 => ⟨S1x32x1x1, .f32⟩
  | 115 => ⟨S64x32x66x66, .f32⟩
  | 116 => ⟨S64x32x66x66, .f32⟩
  | 117 => ⟨S_, .f32⟩
  | 118 => ⟨S32, .f32⟩
  | 119 => ⟨S32, .f32⟩
  | 120 => ⟨S32, .f32⟩
  | 121 => ⟨S32, .f32⟩
  | 122 => ⟨S32x1x1, .f32⟩
  | 123 => ⟨S1x32x1x1, .f32⟩
  | 124 => ⟨S64x32x66x66, .f32⟩
  | 125 => ⟨S64x32x66x66, .f32⟩
  | 126 => ⟨S32x1x1, .f32⟩
  | 127 => ⟨S1x32x1x1, .f32⟩
  | _ => ⟨S64x3x142x142, .f32⟩

abbrev hbmTy0_1 (i : Nat) : BufTy := match i % 128 with
  | 0 => ⟨S64x32x66x66, .f32⟩
  | 1 => ⟨S64x32x66x66, .f32⟩
  | 2 => ⟨S8x59, .i32⟩
  | 3 => ⟨S8x59, .i32⟩
  | 4 => ⟨S8x59, .i32⟩
  | 5 => ⟨S8x59x1, .i32⟩
  | 6 => ⟨S64x32x66x8x59, .f32⟩
  | 7 => ⟨S8x59, .i32⟩
  | 8 => ⟨S8x59, .i32⟩
  | 9 => ⟨S8x59, .i32⟩
  | 10 => ⟨S8x59x1, .i32⟩
  | 11 => ⟨S64x32x8x59x8x59, .f32⟩
  | 12 => ⟨S16x64x59x59, .f32⟩
  | 13 => ⟨S64x16x59x59, .f32⟩
  | 14 => ⟨S1x16x1x1, .f32⟩
  | 15 => ⟨S64x16x59x59, .f32⟩
  | 16 => ⟨S64x16x59x59, .f32⟩
  | 17 => ⟨S_, .f32⟩
  | 18 => ⟨S64x16x59x59, .f32⟩
  | 19 => ⟨S64x16x59x59, .f32⟩
  | 20 => ⟨S8x52, .i32⟩
  | 21 => ⟨S8x52, .i32⟩
  | 22 => ⟨S8x52, .i32⟩
  | 23 => ⟨S8x52x1, .i32⟩
  | 24 => ⟨S64x16x59x8x52, .f32⟩
  | 25 => ⟨S8x52, .i32⟩
  | 26 => ⟨S8x52, .i32⟩
  | 27 => ⟨S8x52, .i32⟩
  | 28 => ⟨S8x52x1, .i32⟩
  | 29 => ⟨S64x16x8x52x8x52, .f32⟩
  | 30 => ⟨S16x64x52x52, .f32⟩
  | 31 => ⟨S64x16x52x52, .f32⟩
  | 32 => ⟨S1x16x1x1, .f32⟩
  | 33 => ⟨S64x16x52x52, .f32⟩
  | 34 => ⟨S64x16x52x52, .f32⟩
  | 35 => ⟨S_, .f32⟩
  | 36 => ⟨S64x16x52x52, .f32⟩
  | 37 => ⟨S64x16x52x52, .f32⟩
  | 38 => ⟨S6x24, .i32⟩
  | 39 => ⟨S_, .i32⟩
  | 40 => ⟨S6x24, .i32⟩
  | 41 => ⟨S6x24, .i32⟩
  | 42 => ⟨S6x24, .i32⟩
  | 43 => ⟨S6x24, .i32⟩
  | 44 => ⟨S6x24x1, .i32⟩
  | 45 => ⟨S64x16x52x6x24, .f32⟩
  | 46 => ⟨S6x24, .i32⟩
  | 47 => ⟨S_, .i32⟩
  | 48 => ⟨S6x24, .i32⟩
  | 49 => ⟨S6x24, .i32⟩
  | 50 => ⟨S6x24, .i32⟩
  | 51 => ⟨S6x24, .i32⟩
  | 52 => ⟨S6x24x1, .i32⟩
  | 53 => ⟨S64x16x6x24x6x24, .f32⟩
  | 54 => ⟨S16x64x24x24, .f32⟩
  | 55 => ⟨S64x16x24x24, .f32⟩
  | 56 => ⟨S1x16x1x1, .f32⟩
  | 57 => ⟨S64x16x24x24, .f32⟩
  | 58 => ⟨S64x16x24x24, .f32⟩
  | 59 => ⟨S_, .f32⟩
  | 60 => ⟨S64x16x24x24, .f32⟩
  | 61 => ⟨S64x16x24x24, .f32⟩
  | 62 => ⟨S5x20, .i32⟩
  | 63 => ⟨S5x20, .i32⟩
  | 64 => ⟨S5x20, .i32⟩
  | 65 => ⟨S5x20x1, .i32⟩
  | 66 => ⟨S64x16x24x5x20, .f32⟩
  | 67 => ⟨S5x20, .i32⟩
  | 68 => ⟨S5x20, .i32⟩
  | 69 => ⟨S5x20, .i32⟩
  | 70 => ⟨S5x20x1, .i32⟩
  | 71 => ⟨S64x16x5x20x5x20, .f32⟩
  | 72 => ⟨S16x64x20x20, .f32⟩
  | 73 => ⟨S64x16x20x20, .f32⟩
  | 74 => ⟨S1x16x1x1, .f32⟩
  | 75 => ⟨S64x16x20x20, .f32⟩
  | 76 => ⟨S64x16x20x20, .f32⟩
  | 77 => ⟨S_, .f32⟩
  | 78 => ⟨S64x16x20x20, .f32⟩
  | 79 => ⟨S64x16x20x20, .f32⟩
  | 80 => ⟨S64x6400, .f32⟩
  | 81 => ⟨S6400x4096, .f32⟩
  | 82 => ⟨S64x4096, .f32⟩
  | 83 => ⟨S1x4096, .f32⟩
  | 84 => ⟨S64x4096, .f32⟩
  | 85 => ⟨S64x4096, .f32⟩
  | 86 => ⟨S_, .f32⟩
  | 87 => ⟨S64x4096, .f32⟩
  | 88 => ⟨S64x4096, .f32⟩
  | 89 => ⟨S4096x2048, .f32⟩
  | 90 => ⟨S64x2048, .f32⟩
  | 91 => ⟨S1x2048, .f32⟩
  | 92 => ⟨S64x2048, .f32⟩
  | 93 => ⟨S64x2048, .f32⟩
  | 94 => ⟨S_, .f32⟩
  | 95 => ⟨S64x2048, .f32⟩
  | 96 => ⟨S64x2048, .f32⟩
  | 97 => ⟨S2048x12, .f32⟩
  | 98 => ⟨S64x12, .f32⟩
  | 99 => ⟨S1x12, .f32⟩
  | 100 => ⟨S64x12, .f32⟩
  | 101 => ⟨S64x12, .f32⟩
  | _ => ⟨S64x3x142x142, .f32⟩

abbrev hbmTy (i : Nat) : BufTy := match i / 128 with
  | 0 => hbmTy0_0 i
  | 1 => hbmTy0_1 i
  | _ => ⟨S64x3x142x142, .f32⟩

abbrev bufTy : (tb : Table) → Fin (tcTables nBuf tb) → BufTy
  | .hbm, ⟨i, _⟩ => hbmTy i
  | _, _ => ⟨S64x3x142x142, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_call0_v0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_call1_v0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_0 : Ref sig .tc := ⟨.hbm, 71, rfl⟩
abbrev main_v41 : Ref sig .tc := ⟨.hbm, 72, rfl⟩
abbrev main_v42 : Ref sig .tc := ⟨.hbm, 73, rfl⟩
abbrev main_c : Ref sig .tc := ⟨.hbm, 74, rfl⟩
abbrev main_call2_v0 : Ref sig .tc := ⟨.hbm, 75, rfl⟩
abbrev main_v43 : Ref sig .tc := ⟨.hbm, 76, rfl⟩
abbrev main_v44 : Ref sig .tc := ⟨.hbm, 77, rfl⟩
abbrev main_c_1 : Ref sig .tc := ⟨.hbm, 78, rfl⟩
abbrev main_call3_v0 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call4_v0 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_call5_v0 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_2 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_3 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_call6_v0 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_call7_v0 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_4 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_call8_v0 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_call9_v0 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_5 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_c_6 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_call10_v0 : Ref sig .tc := ⟨.hbm, 172, rfl⟩
abbrev main_v126 : Ref sig .tc := ⟨.hbm, 173, rfl⟩
abbrev main_v127 : Ref sig .tc := ⟨.hbm, 174, rfl⟩
abbrev main_c_7 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_call11_v0 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_8 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_call12_v0 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_call13_v0 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_9 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_10 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_11 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩

abbrev nD : Nat := 1
abbrev τ : Topo := Topo.v7x

variable {F : FTy → Type} [FloatOps F]
-- ==== Proof.KernelRun.lean ====
module

public import Idealize.ShloMosaic.Lib.Pipeline.ValueKit
public import proofs.«01_k».proof.Proof.Gen.KernelIdeal.Frame

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel's program ends with the result array at the contents the last region leaves
    (`W9`, the fold over the five regions and the host lines between them), and with the arguments as launched. -/
theorem run : θ_run defs (onTc (τ := τ) (main (F := Ideal))) ⟨m, fun _ => 0, ρ⟩ (fun r => ∀ c : Dev nD,
      r.2.mem ((c.tc : Thread nD τ).loc main_v0) = W9 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v0 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c),
       (h c _ (mem_uc main_arg22 (by decide))).trans (W9_main_arg22 m ρ c),
       (h c _ (mem_uc main_arg23 (by decide))).trans (W9_main_arg23 m ρ c),
       (h c _ (mem_uc main_arg24 (by decide))).trans (W9_main_arg24 m ρ c),
       (h c _ (mem_uc main_arg25 (by decide))).trans (W9_main_arg25 m ρ c),
       (h c _ (mem_uc main_arg26 (by decide))).trans (W9_main_arg26 m ρ c)⟩)

end Cert.KernelIdeal.Run

end

end
-- ==== Proof.Windows.lean ====
module

public import Idealize.ShloMosaic.Lib.Pointwise

/-!
  Windows of an array taken by gathers, and contractions over three axes: what `jnp.take` at
  positions `stride * i + u`, twice, and the `einsum` of a convolution over them read at an index.
-/

@[expose] public section

set_option maxRecDepth 16384

noncomputable section

open Idealize.ShloMosaic

namespace Cert.Windows

/-! ### Three contracting axes -/

section Contr
variable {sl sr so : Shape} (d : DotDims sl sr so)

/-- A product with three contracting axes sums over a three-axis index. -/
theorem rank_contr₃ {a b c : Fin sl.rank} (hc : d.lhsContracting = [a, b, c]) : d.contr.rank = 3 := by
  rw [d.rank_contr, hc]; rfl

/-- The sizes of those three axes are the contracted sizes, in the list's order. -/
theorem size_contr₃ {a b c : Fin sl.rank} (hc : d.lhsContracting = [a, b, c]) {K₁ K₂ K₃ : Nat}
    (hK₁ : sl.size a = K₁) (hK₂ : sl.size b = K₂) (hK₃ : sl.size c = K₃)
    (p : Fin d.contr.rank) : (if p.val = 0 then K₁ else if p.val = 1 then K₂ else K₃) = d.contr.size p := by
  subst hK₁ hK₂ hK₃
  have : ∀ (l : List (Fin sl.rank)) (_ : l = [a, b, c]) (p : Fin (l.map sl.size).length),
      (if p.val = 0 then sl.size a else if p.val = 1 then sl.size b else sl.size c) = (l.map sl.size)[p] := by
    rintro _ rfl ⟨p, hp⟩
    have : p = 0 ∨ p = 1 ∨ p = 2 := by simp at hp; omega
    rcases this with rfl | rfl | rfl <;> rfl
  exact this _ hc p

/-- The contraction index of a three-axis contraction, from its coordinates. -/
def contrIdx₃ {a b c : Fin sl.rank} (hc : d.lhsContracting = [a, b, c]) {K₁ K₂ K₃ : Nat}
    (hK₁ : sl.size a = K₁) (hK₂ : sl.size b = K₂) (hK₃ : sl.size c = K₃)
    (k₁ : Fin K₁) (k₂ : Fin K₂) (k₃ : Fin K₃) : d.contr.Idx :=
  fun p => if h : p.val = 0 then k₁.cast (by rw [← size_contr₃ d hc hK₁ hK₂ hK₃ p, if_pos h])
    else if h' : p.val = 1 then k₂.cast (by rw [← size_contr₃ d hc hK₁ hK₂ hK₃ p, if_neg h, if_pos h'])
    else k₃.cast (by rw [← size_contr₃ d hc hK₁ hK₂ hK₃ p, if_neg h, if_neg h'])

/-- Three-axis contraction indices are the triples of coordinates on those axes. -/
def contrEquiv₃ {a b c : Fin sl.rank} (hc : d.lhsContracting = [a, b, c]) {K₁ K₂ K₃ : Nat}
    (hK₁ : sl.size a = K₁) (hK₂ : sl.size b = K₂) (hK₃ : sl.size c = K₃) :
    Fin K₁ × Fin K₂ × Fin K₃ ≃ d.contr.Idx where
  toFun k := contrIdx₃ d hc hK₁ hK₂ hK₃ k.1 k.2.1 k.2.2
  invFun kk :=
    ((kk ⟨0, by rw [rank_contr₃ d hc]; omega⟩).cast (size_contr₃ d hc hK₁ hK₂ hK₃ _).symm,
     (kk ⟨1, by rw [rank_contr₃ d hc]; omega⟩).cast (size_contr₃ d hc hK₁ hK₂ hK₃ _).symm,
     (kk ⟨2, by rw [rank_contr₃ d hc]; omega⟩).cast (size_contr₃ d hc hK₁ hK₂ hK₃ _).symm)
  left_inv _ := rfl
  right_inv kk := by
    funext p
    have : p = ⟨0, by rw [rank_contr₃ d hc]; omega⟩ ∨ p = ⟨1, by rw [rank_contr₃ d hc]; omega⟩
        ∨ p = ⟨2, by rw [rank_contr₃ d hc]; omega⟩ := by
      have := rank_contr₃ d hc
      rcases p with ⟨p, hp⟩
      simp only [Fin.mk.injEq]; omega
    rcases this with rfl | rfl | rfl <;> rfl

/-- A contraction over three axes, at a result index, with the operands' indices named. -/
theorem matmul_apply₃ {a b c : Fin sl.rank} (hc : d.lhsContracting = [a, b, c]) {K₁ K₂ K₃ : Nat}
    (hK₁ : sl.size a = K₁) (hK₂ : sl.size b = K₂) (hK₃ : sl.size c = K₃)
    (lhs : sl.Idx → EReal) (rhs : sr.Idx → EReal) (acc : so.Idx → EReal) (j : so.Idx)
    (L : Fin K₁ → Fin K₂ → Fin K₃ → sl.Idx) (R : Fin K₁ → Fin K₂ → Fin K₃ → sr.Idx)
    (hL : ∀ k₁ k₂ k₃, d.lhsIdx j (contrIdx₃ d hc hK₁ hK₂ hK₃ k₁ k₂ k₃) = L k₁ k₂ k₃)
    (hR : ∀ k₁ k₂ k₃, d.rhsIdx j (contrIdx₃ d hc hK₁ hK₂ hK₃ k₁ k₂ k₃) = R k₁ k₂ k₃) :
    Ideal.matmul d lhs rhs acc j = acc j + ∑ k₁ : Fin K₁, ∑ k₂ : Fin K₂, ∑ k₃ : Fin K₃, lhs (L k₁ k₂ k₃) * rhs (R k₁ k₂ k₃) := by
  refine congrArg (acc j + ·) ?_
  show ∑ kk : d.contr.Idx, lhs (d.lhsIdx j kk) * rhs (d.rhsIdx j kk) = _
  rw [← Fintype.sum_equiv (contrEquiv₃ d hc hK₁ hK₂ hK₃)
    (fun k => lhs (d.lhsIdx j (contrIdx₃ d hc hK₁ hK₂ hK₃ k.1 k.2.1 k.2.2)) * rhs (d.rhsIdx j (contrIdx₃ d hc hK₁ hK₂ hK₃ k.1 k.2.1 k.2.2)))
    (fun kk => lhs (d.lhsIdx j kk) * rhs (d.rhsIdx j kk)) fun _ => rfl]
  simp only [Fintype.sum_prod_type, hL, hR]

end Contr

/-! ### Windows along one axis -/

section Gather
variable {α : Type} {B C H W k n w : Nat}

/-- The gather that replaces the last axis of a rank-4 array by windows of it. -/
abbrev colDims (B C H W k n : Nat)
    (wf : GatherDims.WF ⟨4, ![B, C, H, W]⟩ ⟨3, ![k, n, 1]⟩ ⟨5, ![B, C, H, k, n]⟩ [0, 1, 2] [3] [] [3] [] 2 ![B, C, H, 1]) :
    GatherDims ⟨4, ![B, C, H, W]⟩ ⟨3, ![k, n, 1]⟩ ⟨5, ![B, C, H, k, n]⟩ where
  offsetDims := [0, 1, 2]
  collapsedSliceDims := [3]
  operandBatchingDims := []
  startIndicesBatchingDims := []
  startIndexMap := [3]
  indexVectorDim := 2
  sliceSizes := ![B, C, H, 1]
  wf := wf

/-- Windows of the last axis, read at an index. -/
theorem col_apply (wf) (x : (⟨4, ![B, C, H, W]⟩ : Shape).Idx → α) (idx : IVec ⟨3, ![k, n, 1]⟩ w)
    (b : Fin B) (c : Fin C) (h : Fin H) (u : Fin k) (i : Fin n) (q : Fin W) (hq : (idx (ix3 u i 0)).toInt.toNat = q) :
    Host.gather (colDims B C H W k n wf) x idx (ix5 b c h u i) = x (ix4 b c h q) := by
  unfold Host.gather
  congr 1
  funext a
  refine Fin.ext ?_
  show (colDims B C H W k n wf).start (ix5 b c h u i) idx a + (colDims B C H W k n wf).batchCoord (ix5 b c h u i) a
      + (colDims B C H W k n wf).offCoord (ix5 b c h u i) a = _
  have h3 : (colDims B C H W k n wf).siIdx (ix5 b c h u i) ⟨0, by exact Nat.one_pos⟩ = ix3 u i 0 := by
    funext a; refine Fin.ext ?_
    match a with
    | ⟨0, _⟩ => rfl
    | ⟨1, _⟩ => rfl
    | ⟨2, _⟩ => rfl
  match a with
  | ⟨0, _⟩ => exact (Nat.zero_add _)
  | ⟨1, _⟩ => exact (Nat.zero_add _)
  | ⟨2, _⟩ => exact (Nat.zero_add _)
  | ⟨3, _⟩ =>
    show min (idx ((colDims B C H W k n wf).siIdx (ix5 b c h u i) ⟨0, _⟩)).toInt.toNat (W - 1) + 0 + 0 = (q : Nat)
    rw [h3, hq]; have := q.isLt; omega

/-- The gather that replaces the third axis of a rank-5 array by windows of it. -/
abbrev rowDims (B C H k n : Nat)
    (wf : GatherDims.WF ⟨5, ![B, C, H, k, n]⟩ ⟨3, ![k, n, 1]⟩ ⟨6, ![B, C, k, n, k, n]⟩ [0, 1, 4, 5] [2] [] [2] [] 2 ![B, C, 1, k, n]) :
    GatherDims ⟨5, ![B, C, H, k, n]⟩ ⟨3, ![k, n, 1]⟩ ⟨6, ![B, C, k, n, k, n]⟩ where
  offsetDims := [0, 1, 4, 5]
  collapsedSliceDims := [2]
  operandBatchingDims := []
  startIndicesBatchingDims := []
  startIndexMap := [2]
  indexVectorDim := 2
  sliceSizes := ![B, C, 1, k, n]
  wf := wf

/-- Windows of the third axis, read at an index. -/
theorem row_apply (wf) (x : (⟨5, ![B, C, H, k, n]⟩ : Shape).Idx → α) (idx : IVec ⟨3, ![k, n, 1]⟩ w)
    (b : Fin B) (c : Fin C) (u : Fin k) (i : Fin n) (t : Fin k) (j : Fin n) (q : Fin H)
    (hq : (idx (ix3 u i 0)).toInt.toNat = q) :
    Host.gather (rowDims B C H k n wf) x idx (ix6 b c u i t j) = x (ix5 b c q t j) := by
  unfold Host.gather
  congr 1
  funext a
  refine Fin.ext ?_
  show (rowDims B C H k n wf).start (ix6 b c u i t j) idx a + (rowDims B C H k n wf).batchCoord (ix6 b c u i t j) a
      + (rowDims B C H k n wf).offCoord (ix6 b c u i t j) a = _
  have h3 : (rowDims B C H k n wf).siIdx (ix6 b c u i t j) ⟨0, by exact Nat.one_pos⟩ = ix3 u i 0 := by
    funext a; refine Fin.ext ?_
    match a with
    | ⟨0, _⟩ => rfl
    | ⟨1, _⟩ => rfl
    | ⟨2, _⟩ => rfl
  match a with
  | ⟨0, _⟩ => exact (Nat.zero_add _)
  | ⟨1, _⟩ => exact (Nat.zero_add _)
  | ⟨2, _⟩ =>
    show min (idx ((rowDims B C H k n wf).siIdx (ix6 b c u i t j) ⟨0, _⟩)).toInt.toNat (H - 1) + 0 + 0 = (q : Nat)
    rw [h3, hq]; have := q.isLt; omega
  | ⟨3, _⟩ => exact (Nat.zero_add _)
  | ⟨4, _⟩ => exact (Nat.zero_add _)

/-- The contraction of an OIHW weight with the windows. -/
abbrev convDims (O B C k n : Nat)
    (wf : DotDims.WF ⟨4, ![O, C, k, k]⟩ ⟨6, ![B, C, k, n, k, n]⟩ ⟨4, ![O, B, n, n]⟩ [1, 3, 2] [1, 4, 2] [0] [0, 3, 5] [] []) :
    DotDims ⟨4, ![O, C, k, k]⟩ ⟨6, ![B, C, k, n, k, n]⟩ ⟨4, ![O, B, n, n]⟩ where
  lhsContracting := [1, 3, 2]
  rhsContracting := [1, 4, 2]
  lhsNonContracting := [0]
  rhsNonContracting := [0, 3, 5]
  lhsBatch := []
  rhsBatch := []
  wf := wf

/-- A convolution as windows and a contraction, read at an index: the sum over channels and taps. -/
theorem conv_apply {O : Nat} (wfd wfr wfc) (x : FVec Ideal ⟨4, ![B, C, H, W]⟩ .f32) (Wt : FVec Ideal ⟨4, ![O, C, k, k]⟩ .f32)
    (idx : IVec ⟨3, ![k, n, 1]⟩ w) (p : Fin n → Fin k → Fin H) (q : Fin n → Fin k → Fin W)
    (hp : ∀ i u, (idx (ix3 u i 0)).toInt.toNat = p i u) (hq : ∀ i u, (idx (ix3 u i 0)).toInt.toNat = q i u)
    (o : Fin O) (b : Fin B) (h v : Fin n) :
    Host.dotGeneral (F := Ideal) (convDims O B C k n wfd) none Wt
        (Host.gather (rowDims B C H k n wfr) (Host.gather (colDims B C H W k n wfc) x idx) idx) (ix4 o b h v)
      = ∑ c : Fin C, ∑ t : Fin k, ∑ u : Fin k, Wt (ix4 o c u t) * x (ix4 b c (p h u) (q v t)) := by
  refine (matmul_apply₃ (convDims O B C k n wfd) (a := 1) (b := 3) (c := 2) rfl (K₁ := C) (K₂ := k) (K₃ := k) rfl rfl rfl _ _ _ _
    (fun c t u => ix4 o c u t) (fun c t u => ix6 b c u h t v) (fun c t u => ?_) (fun c t u => ?_)).trans ?_
  · funext a; refine Fin.ext ?_
    match a with
    | ⟨0, _⟩ => rfl
    | ⟨1, _⟩ => rfl
    | ⟨2, _⟩ => rfl
    | ⟨3, _⟩ => rfl
  · funext a; refine Fin.ext ?_
    match a with
    | ⟨0, _⟩ => rfl
    | ⟨1, _⟩ => rfl
    | ⟨2, _⟩ => rfl
    | ⟨3, _⟩ => rfl
    | ⟨4, _⟩ => rfl
    | ⟨5, _⟩ => rfl
  · refine (zero_add _).trans ?_
    refine Finset.sum_congr rfl fun c _ => Finset.sum_congr rfl fun t _ => Finset.sum_congr rfl fun u _ => ?_
    rw [row_apply wfr _ idx b c u h t v (p h u) (hp h u), col_apply wfc _ idx b c (p h u) t v (q v t) (hq v t)]

/-- A window's positions as words: `i + u` for tap `u` of output `i`. -/
theorem at_one {k n : Nat} (hk : k + n < 2 ^ 31) (u : Fin k) (i : Fin n) :
    (IntOp.addi (BitVec.ofNat 32 (i : Nat)) (BitVec.ofNat 32 (u : Nat))).toInt.toNat = (i : Nat) + u := by
  have hi := i.isLt; have hu := u.isLt
  have h : (IntOp.addi (BitVec.ofNat 32 (i : Nat)) (BitVec.ofNat 32 (u : Nat))) = BitVec.ofNat 32 ((i : Nat) + u) := by
    show BitVec.ofNat 32 (i : Nat) + BitVec.ofNat 32 (u : Nat) = _
    rw [BitVec.ofNat_add]
  rw [h, BitVec.toInt_eq_toNat_of_lt (by rw [BitVec.toNat_ofNat]; omega), BitVec.toNat_ofNat]; omega

/-- A strided window's positions as words: `2 * i + u`. -/
theorem at_two {k n : Nat} (hk : k + 2 * n < 2 ^ 31) (u : Fin k) (i : Fin n) :
    (IntOp.addi (IntOp.muli 2#32 (BitVec.ofNat 32 (i : Nat))) (BitVec.ofNat 32 (u : Nat))).toInt.toNat = 2 * (i : Nat) + u := by
  have hi := i.isLt; have hu := u.isLt
  have h : (IntOp.addi (IntOp.muli 2#32 (BitVec.ofNat 32 (i : Nat))) (BitVec.ofNat 32 (u : Nat))) = BitVec.ofNat 32 (2 * (i : Nat) + u) := by
    show BitVec.ofNat 32 2 * BitVec.ofNat 32 (i : Nat) + BitVec.ofNat 32 (u : Nat) = _
    rw [BitVec.ofNat_add, BitVec.ofNat_mul]
  rw [h, BitVec.toInt_eq_toNat_of_lt (by rw [BitVec.toNat_ofNat]; omega), BitVec.toNat_ofNat]; omega

/-! ### Windows inside of tiles -/

/-- The gather that replaces the last axis of an array of tiles by windows of it. -/
abbrev tileColDims (B C I H J W k n : Nat)
    (wf : GatherDims.WF ⟨6, ![B, C, I, H, J, W]⟩ ⟨3, ![k, n, 1]⟩ ⟨7, ![B, C, I, H, J, k, n]⟩ [0, 1, 2, 3, 4] [5] [] [5] [] 2 ![B, C, I, H, J, 1]) :
    GatherDims ⟨6, ![B, C, I, H, J, W]⟩ ⟨3, ![k, n, 1]⟩ ⟨7, ![B, C, I, H, J, k, n]⟩ where
  offsetDims := [0, 1, 2, 3, 4]
  collapsedSliceDims := [5]
  operandBatchingDims := []
  startIndicesBatchingDims := []
  startIndexMap := [5]
  indexVectorDim := 2
  sliceSizes := ![B, C, I, H, J, 1]
  wf := wf

/-- Windows of the tiles' columns, read at an index. -/
theorem tile_col_apply {I J : Nat} (wf) (x : (⟨6, ![B, C, I, H, J, W]⟩ : Shape).Idx → α) (idx : IVec ⟨3, ![k, n, 1]⟩ w)
    (b : Fin B) (c : Fin C) (i : Fin I) (h : Fin H) (j : Fin J) (u : Fin k) (v : Fin n) (q : Fin W)
    (hq : (idx (ix3 u v 0)).toInt.toNat = q) :
    Host.gather (tileColDims B C I H J W k n wf) x idx (ix7 b c i h j u v) = x (ix6 b c i h j q) := by
  unfold Host.gather
  congr 1
  funext a
  refine Fin.ext ?_
  show (tileColDims B C I H J W k n wf).start (ix7 b c i h j u v) idx a + (tileColDims B C I H J W k n wf).batchCoord (ix7 b c i h j u v) a
      + (tileColDims B C I H J W k n wf).offCoord (ix7 b c i h j u v) a = _
  have h3 : (tileColDims B C I H J W k n wf).siIdx (ix7 b c i h j u v) ⟨0, by exact Nat.one_pos⟩ = ix3 u v 0 := by
    funext a; refine Fin.ext ?_
    match a with
    | ⟨0, _⟩ => rfl
    | ⟨1, _⟩ => rfl
    | ⟨2, _⟩ => rfl
  match a with
  | ⟨0, _⟩ => exact (Nat.zero_add _)
  | ⟨1, _⟩ => exact (Nat.zero_add _)
  | ⟨2, _⟩ => exact (Nat.zero_add _)
  | ⟨3, _⟩ => exact (Nat.zero_add _)
  | ⟨4, _⟩ => exact (Nat.zero_add _)
  | ⟨5, _⟩ =>
    show min (idx ((tileColDims B C I H J W k n wf).siIdx (ix7 b c i h j u v) ⟨0, _⟩)).toInt.toNat (W - 1) + 0 + 0 = (q : Nat)
    rw [h3, hq]; have := q.isLt; omega

/-- The gather that replaces the tiles' rows by windows of them. -/
abbrev tileRowDims (B C I H J k n : Nat)
    (wf : GatherDims.WF ⟨7, ![B, C, I, H, J, k, n]⟩ ⟨3, ![k, n, 1]⟩ ⟨8, ![B, C, I, k, n, J, k, n]⟩ [0, 1, 2, 5, 6, 7] [3] [] [3] [] 2 ![B, C, I, 1, J, k, n]) :
    GatherDims ⟨7, ![B, C, I, H, J, k, n]⟩ ⟨3, ![k, n, 1]⟩ ⟨8, ![B, C, I, k, n, J, k, n]⟩ where
  offsetDims := [0, 1, 2, 5, 6, 7]
  collapsedSliceDims := [3]
  operandBatchingDims := []
  startIndicesBatchingDims := []
  startIndexMap := [3]
  indexVectorDim := 2
  sliceSizes := ![B, C, I, 1, J, k, n]
  wf := wf

/-- Windows of the tiles' rows, read at an index. -/
theorem tile_row_apply {I J : Nat} (wf) (x : (⟨7, ![B, C, I, H, J, k, n]⟩ : Shape).Idx → α) (idx : IVec ⟨3, ![k, n, 1]⟩ w)
    (b : Fin B) (c : Fin C) (i : Fin I) (u : Fin k) (h : Fin n) (j : Fin J) (t : Fin k) (v : Fin n) (q : Fin H)
    (hq : (idx (ix3 u h 0)).toInt.toNat = q) :
    Host.gather (tileRowDims B C I H J k n wf) x idx (ix8 b c i u h j t v) = x (ix7 b c i q j t v) := by
  unfold Host.gather
  congr 1
  funext a
  refine Fin.ext ?_
  show (tileRowDims B C I H J k n wf).start (ix8 b c i u h j t v) idx a + (tileRowDims B C I H J k n wf).batchCoord (ix8 b c i u h j t v) a
      + (tileRowDims B C I H J k n wf).offCoord (ix8 b c i u h j t v) a = _
  have h3 : (tileRowDims B C I H J k n wf).siIdx (ix8 b c i u h j t v) ⟨0, by exact Nat.one_pos⟩ = ix3 u h 0 := by
    funext a; refine Fin.ext ?_
    match a with
    | ⟨0, _⟩ => rfl
    | ⟨1, _⟩ => rfl
    | ⟨2, _⟩ => rfl
  match a with
  | ⟨0, _⟩ => exact (Nat.zero_add _)
  | ⟨1, _⟩ => exact (Nat.zero_add _)
  | ⟨2, _⟩ => exact (Nat.zero_add _)
  | ⟨3, _⟩ =>
    show min (idx ((tileRowDims B C I H J k n wf).siIdx (ix8 b c i u h j t v) ⟨0, _⟩)).toInt.toNat (H - 1) + 0 + 0 = (q : Nat)
    rw [h3, hq]; have := q.isLt; omega
  | ⟨4, _⟩ => exact (Nat.zero_add _)
  | ⟨5, _⟩ => exact (Nat.zero_add _)
  | ⟨6, _⟩ => exact (Nat.zero_add _)

/-- The contraction of one OIHW weight per tile with the windows of that tile. -/
abbrev tileConvDims (I J O B C k n : Nat)
    (wf : DotDims.WF ⟨6, ![I, J, O, C, k, k]⟩ ⟨8, ![B, C, I, k, n, J, k, n]⟩ ⟨6, ![I, J, O, B, n, n]⟩ [3, 5, 4] [1, 6, 3] [2] [0, 4, 7] [0, 1] [2, 5]) :
    DotDims ⟨6, ![I, J, O, C, k, k]⟩ ⟨8, ![B, C, I, k, n, J, k, n]⟩ ⟨6, ![I, J, O, B, n, n]⟩ where
  lhsContracting := [3, 5, 4]
  rhsContracting := [1, 6, 3]
  lhsNonContracting := [2]
  rhsNonContracting := [0, 4, 7]
  lhsBatch := [0, 1]
  rhsBatch := [2, 5]
  wf := wf

/-- A convolution inside of each tile with the tile's own weight, read at an index. -/
theorem tile_conv_apply {I J O : Nat} (wfd wfr wfc) (x : FVec Ideal ⟨6, ![B, C, I, H, J, W]⟩ .f32)
    (Wt : FVec Ideal ⟨6, ![I, J, O, C, k, k]⟩ .f32)
    (idx : IVec ⟨3, ![k, n, 1]⟩ w) (p : Fin n → Fin k → Fin H) (q : Fin n → Fin k → Fin W)
    (hp : ∀ i u, (idx (ix3 u i 0)).toInt.toNat = p i u) (hq : ∀ i u, (idx (ix3 u i 0)).toInt.toNat = q i u)
    (i : Fin I) (j : Fin J) (o : Fin O) (b : Fin B) (h v : Fin n) :
    Host.dotGeneral (F := Ideal) (tileConvDims I J O B C k n wfd) none Wt
        (Host.gather (tileRowDims B C I H J k n wfr) (Host.gather (tileColDims B C I H J W k n wfc) x idx) idx) (ix6 i j o b h v)
      = ∑ c : Fin C, ∑ t : Fin k, ∑ u : Fin k, Wt (ix6 i j o c u t) * x (ix6 b c i (p h u) j (q v t)) := by
  refine (matmul_apply₃ (tileConvDims I J O B C k n wfd) (a := 3) (b := 5) (c := 4) rfl (K₁ := C) (K₂ := k) (K₃ := k) rfl rfl rfl _ _ _ _
    (fun c t u => ix6 i j o c u t) (fun c t u => ix8 b c i u h j t v) (fun c t u => ?_) (fun c t u => ?_)).trans ?_
  · funext a; refine Fin.ext ?_
    match a with
    | ⟨0, _⟩ => rfl
    | ⟨1, _⟩ => rfl
    | ⟨2, _⟩ => rfl
    | ⟨3, _⟩ => rfl
    | ⟨4, _⟩ => rfl
    | ⟨5, _⟩ => rfl
  · funext a; refine Fin.ext ?_
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  · refine (zero_add _).trans ?_
    refine Finset.sum_congr rfl fun c _ => Finset.sum_congr rfl fun t _ => Finset.sum_congr rfl fun u _ => ?_
    rw [tile_row_apply wfr _ idx b c i u h j t v (p h u) (hp h u), tile_col_apply wfc _ idx b c i (p h u) j t v (q v t) (hq v t)]

end Gather

end Cert.Windows

end

end
-- ==== Proof.Spec.lean ====
module

public import Idealize.ShloMosaic.Lib.Pointwise

/-!
  The stages of the network over one image, as plain functions of a channel, a row and a column.
-/

@[expose] public section

noncomputable section

open Idealize.ShloMosaic

namespace Cert.Spec

/-- One image: channels, rows, columns. -/
abbrev Img (C H W : Nat) := Fin C → Fin H → Fin W → EReal

/-- The position `i + u` inside of an axis. -/
def sh {n k H : Nat} (h : n + k ≤ H + 1) (i : Fin n) (u : Fin k) : Fin H := ⟨(i : Nat) + u, by have := i.isLt; have := u.isLt; omega⟩

/-- The position `2 * i + u` inside of an axis. -/
def sh2 {n k H : Nat} (h : 2 * n + k ≤ H + 2) (i : Fin n) (u : Fin k) : Fin H := ⟨2 * (i : Nat) + u, by have := i.isLt; have := u.isLt; omega⟩

/-- A convolution: the sum over channels and taps. -/
def conv {C H W O k n : Nat} (x : Img C H W) (Wt : FVec Ideal ⟨4, ![O, C, k, k]⟩ .f32) (p : Fin n → Fin k → Fin H) (q : Fin n → Fin k → Fin W) :
    Img O n n := fun o h v => ∑ c : Fin C, ∑ t : Fin k, ∑ u : Fin k, Wt (ix4 o c u t) * x c (p h u) (q v t)

/-- A convolution with a bias. -/
def convB {C H W O k n : Nat} (x : Img C H W) (Wt : FVec Ideal ⟨4, ![O, C, k, k]⟩ .f32) (B : FVec Ideal ⟨1, ![O]⟩ .f32)
    (p : Fin n → Fin k → Fin H) (q : Fin n → Fin k → Fin W) : Img O n n := fun o h v => conv x Wt p q o h v + B (ix1 o)

/-- A convolution with a bias, the negative part cut off. -/
def convR {C H W O k n : Nat} (x : Img C H W) (Wt : FVec Ideal ⟨4, ![O, C, k, k]⟩ .f32) (B : FVec Ideal ⟨1, ![O]⟩ .f32)
    (p : Fin n → Fin k → Fin H) (q : Fin n → Fin k → Fin W) : Img O n n := fun o h v => max (convB x Wt B p q o h v) 0

/-- The tile of a row or column. -/
def tl (h : Fin 132) : Fin 8 := ⟨(h : Nat) / 18, by have := h.isLt; omega⟩

/-- A tile of the activations with one pixel of zeros around it, at `(a, b)` of the padded tile. -/
def tilePad (y : Img 32 132 132) (i j : Fin 8) (c : Fin 32) (a b : Nat) : EReal :=
  if h : (1 ≤ a ∧ a < 19 ∧ 18 * (i : Nat) + a < 133) ∧ (1 ≤ b ∧ b < 19 ∧ 18 * (j : Nat) + b < 133) then
    y c ⟨18 * (i : Nat) + a - 1, by omega⟩ ⟨18 * (j : Nat) + b - 1, by omega⟩ else 0

/-- The region layer's sum over channels and taps, each tile with its own weight. -/
def regionConv (y : Img 32 132 132) (RW : FVec Ideal ⟨6, ![8, 8, 32, 32, 3, 3]⟩ .f32) : Img 32 132 132 := fun o h v =>
  ∑ c : Fin 32, ∑ t : Fin 3, ∑ u : Fin 3, RW (ix6 (tl h) (tl v) o c u t) * tilePad y (tl h) (tl v) c ((h : Nat) % 18 + u) ((v : Nat) % 18 + t)

/-- The region layer with its bias and the residual, the negative part cut off. -/
def region (y x : Img 32 132 132) (RW : FVec Ideal ⟨6, ![8, 8, 32, 32, 3, 3]⟩ .f32) (CB : FVec Ideal ⟨3, ![8, 8, 32]⟩ .f32) : Img 32 132 132 :=
  fun o h v => max (regionConv y RW o h v + CB (ix3 (tl h) (tl v) o) + x o h v) 0

/-- The maximum of each square of 2 x 2. -/
def pool2 (x : Img 32 132 132) : Img 32 66 66 := fun o h v =>
  max (max (x o ⟨2 * (h : Nat), by omega⟩ ⟨2 * (v : Nat), by omega⟩) (x o ⟨1 + 2 * (h : Nat), by omega⟩ ⟨2 * (v : Nat), by omega⟩))
    (max (x o ⟨2 * (h : Nat), by omega⟩ ⟨1 + 2 * (v : Nat), by omega⟩) (x o ⟨1 + 2 * (h : Nat), by omega⟩ ⟨1 + 2 * (v : Nat), by omega⟩))

/-- An eval-mode batch norm's scale. -/
def scale (g v : EReal) : EReal := g * Ideal.rsqrt (v + Ideal.ofBits .f32 0x3727C5AC#32)

/-- The region layer's activations: its batch norm with one scale per tile and channel, the negative part cut off. -/
def act (x : Img 32 132 132) (g bt m v : FVec Ideal ⟨3, ![8, 8, 32]⟩ .f32) : Img 32 132 132 := fun o h w =>
  max ((x o h w - m (ix3 (tl h) (tl w) o)) * scale (g (ix3 (tl h) (tl w) o)) (v (ix3 (tl h) (tl w) o)) + bt (ix3 (tl h) (tl w) o)) 0

/-- The second batch norm. -/
def bn2 (x : Img 32 66 66) (g bt m v : FVec Ideal ⟨1, ![32]⟩ .f32) : Img 32 66 66 := fun o h w =>
  (x o h w - m (ix1 o)) * scale (g (ix1 o)) (v (ix1 o)) + bt (ix1 o)

/-- The region layer, the pooling and the second batch norm. -/
def mid (x : Img 32 132 132) (g bt m v : FVec Ideal ⟨3, ![8, 8, 32]⟩ .f32) (RW : FVec Ideal ⟨6, ![8, 8, 32, 32, 3, 3]⟩ .f32)
    (CB : FVec Ideal ⟨3, ![8, 8, 32]⟩ .f32) (g2 bt2 m2 v2 : FVec Ideal ⟨1, ![32]⟩ .f32) : Img 32 66 66 :=
  bn2 (pool2 (region (act x g bt m v) x RW CB)) g2 bt2 m2 v2

/-- The first convolution. -/
def layer1 (x : Img 3 142 142) (W : FVec Ideal ⟨4, ![32, 3, 11, 11]⟩ .f32) (B : FVec Ideal ⟨1, ![32]⟩ .f32) : Img 32 132 132 :=
  convB x W B (sh (H := 142) (by decide)) (sh (H := 142) (by decide))

/-- The second and third convolutions. -/
def layer23 (x : Img 32 66 66) (W2 : FVec Ideal ⟨4, ![16, 32, 8, 8]⟩ .f32) (B2 : FVec Ideal ⟨1, ![16]⟩ .f32)
    (W3 : FVec Ideal ⟨4, ![16, 16, 8, 8]⟩ .f32) (B3 : FVec Ideal ⟨1, ![16]⟩ .f32) : Img 16 52 52 :=
  convR (convR x W2 B2 (sh (n := 59) (H := 66) (by decide)) (sh (H := 66) (by decide))) W3 B3 (sh (H := 59) (by decide)) (sh (H := 59) (by decide))

/-- The fourth and fifth convolutions. -/
def layer45 (x : Img 16 52 52) (W4 : FVec Ideal ⟨4, ![16, 16, 6, 6]⟩ .f32) (B4 : FVec Ideal ⟨1, ![16]⟩ .f32)
    (W5 : FVec Ideal ⟨4, ![16, 16, 5, 5]⟩ .f32) (B5 : FVec Ideal ⟨1, ![16]⟩ .f32) : Img 16 20 20 :=
  convR (convR x W4 B4 (sh2 (n := 24) (H := 52) (by decide)) (sh2 (H := 52) (by decide))) W5 B5 (sh (H := 24) (by decide)) (sh (H := 24) (by decide))

/-- The image flattened: channel by channel, row by row. -/
def flat (x : Img 16 20 20) (k : Fin 6400) : EReal :=
  x ⟨(k : Nat) / 400, by omega⟩ ⟨(k : Nat) / 20 % 20, Nat.mod_lt _ (by decide)⟩ ⟨(k : Nat) % 20, Nat.mod_lt _ (by decide)⟩

/-- A dense layer. -/
def dense {K N : Nat} (x : Fin K → EReal) (W : FVec Ideal ⟨2, ![N, K]⟩ .f32) (B : FVec Ideal ⟨1, ![N]⟩ .f32) (n : Fin N) : EReal :=
  (∑ k : Fin K, x k * W (ix2 n k)) + B (ix1 n)

/-- The three dense layers. -/
def head (x : Fin 6400 → EReal) (W1 : FVec Ideal ⟨2, ![4096, 6400]⟩ .f32) (B1 : FVec Ideal ⟨1, ![4096]⟩ .f32)
    (W2 : FVec Ideal ⟨2, ![2048, 4096]⟩ .f32) (B2 : FVec Ideal ⟨1, ![2048]⟩ .f32)
    (W3 : FVec Ideal ⟨2, ![12, 2048]⟩ .f32) (B3 : FVec Ideal ⟨1, ![12]⟩ .f32) : Fin 12 → EReal :=
  dense (fun k => max (dense (fun k => max (dense x W1 B1 k) 0) W2 B2 k) 0) W3 B3

end Cert.Spec

end

end
-- ==== Proof.RefStages.lean ====
module

public import proofs.«01_k».proof.Proof.Gen.ReferenceIdeal.Run
public import proofs.«01_k».proof.Proof.Windows
public import proofs.«01_k».proof.Proof.Spec

/-!
  The reference's stages read at an index.
-/

@[expose] public section

set_option maxRecDepth 16384

noncomputable section

open Idealize.ShloMosaic Idealize.ShloMosaic.TcCoe Idealize.SL.Sem

namespace Cert.ReferenceIdeal.Stages

open Cert.ReferenceIdeal Cert.ReferenceIdeal.Gen Cert.Spec Cert.Windows

/-- The window positions of convolution 1. -/
theorem conv1_pos (i : Fin 132) (u : Fin 11) : (((broadcastInDim S11x132x1 ![0, 1] bcast_S11x132_S11x132x1_0_1 (addi (iotaInDim S11x132 32 1) (iotaInDim S11x132 32 0))) : IVec S11x132x1 32) (ix3 u i 0)).toInt.toNat = (sh (H := 142) (by decide) i u : Fin 142) := by
  pointwise
  exact at_one (by decide) u i

/-- Convolution 1's contraction over its windows. -/
theorem conv1_dot (x : FVec Ideal S64x3x142x142 .f32) (W : FVec Ideal S32x3x11x11 .f32) (b : Fin 64) (o : Fin 32) (h v : Fin 132) :
    (Host.dotGeneral dot_S32x3x11x11_S64x3x11x132x11x132_S32x64x132x132_132_142_0_035_n_n none W (Host.gather gather_S64x3x142x11x132_S11x132x1_S64x3x11x132x11x132_0145_2_n_n_2_2_643111132 (Host.gather gather_S64x3x142x142_S11x132x1_S64x3x142x11x132_012_3_n_n_3_2_6431421 x (broadcastInDim S11x132x1 ![0, 1] bcast_S11x132_S11x132x1_0_1 (addi (iotaInDim S11x132 32 1) (iotaInDim S11x132 32 0)))) (broadcastInDim S11x132x1 ![0, 1] bcast_S11x132_S11x132x1_0_1 (addi (iotaInDim S11x132 32 1) (iotaInDim S11x132 32 0)))) : FVec Ideal S32x64x132x132 .f32) (ix4 o b h v)
      = conv (fun c h v => x (ix4 b c h v)) W (sh (H := 142) (by decide)) (sh (H := 142) (by decide)) o h v :=
  conv_apply (B := 64) (C := 3) (H := 142) (W := 142) (k := 11) (n := 132) (O := 32) dot_S32x3x11x11_S64x3x11x132x11x132_S32x64x132x132_132_142_0_035_n_n.wf gather_S64x3x142x11x132_S11x132x1_S64x3x11x132x11x132_0145_2_n_n_2_2_643111132.wf gather_S64x3x142x142_S11x132x1_S64x3x142x11x132_012_3_n_n_3_2_6431421.wf x W _ _ _ conv1_pos conv1_pos o b h v

/-- Convolution 1 as the program states it. -/
def conv1Term (x : FVec Ideal S64x3x142x142 .f32) (W : FVec Ideal S32x3x11x11 .f32) (B : FVec Ideal S32 .f32) : FVec Ideal S64x32x132x132 .f32 :=
  (addf (transpose S64x32x132x132 [1, 0, 2, 3] (Host.dotGeneral dot_S32x3x11x11_S64x3x11x132x11x132_S32x64x132x132_132_142_0_035_n_n none W (Host.gather gather_S64x3x142x11x132_S11x132x1_S64x3x11x132x11x132_0145_2_n_n_2_2_643111132 (Host.gather gather_S64x3x142x142_S11x132x1_S64x3x142x11x132_012_3_n_n_3_2_6431421 x (broadcastInDim S11x132x1 ![0, 1] bcast_S11x132_S11x132x1_0_1 (addi (iotaInDim S11x132 32 1) (iotaInDim S11x132 32 0)))) (broadcastInDim S11x132x1 ![0, 1] bcast_S11x132_S11x132x1_0_1 (addi (iotaInDim S11x132 32 1) (iotaInDim S11x132 32 0))))) transposes_S32x64x132x132_S64x32x132x132_1_0_2_3) (broadcastInDim S64x32x132x132 ![0, 1, 2, 3] bcast_S1x32x1x1_S64x32x132x132_0_1_2_3 (broadcastInDim S1x32x1x1 ![1] bcast_S32_S1x32x1x1_1 B)))

/-- Convolution 1 with its bias. -/
theorem conv1_at (x : FVec Ideal S64x3x142x142 .f32) (W : FVec Ideal S32x3x11x11 .f32) (B : FVec Ideal S32 .f32)
    (b : Fin 64) (o : Fin 32) (h v : Fin 132) :
    conv1Term x W B (ix4 b o h v)
      = convB (fun c h v => x (ix4 b c h v)) W B (sh (H := 142) (by decide)) (sh (H := 142) (by decide)) o h v := by
  unfold convB
  rw [← conv1_dot]
  pointwise [conv1Term]

/-- The window positions of convolution 2. -/
theorem conv2_pos (i : Fin 59) (u : Fin 8) : (((broadcastInDim S8x59x1 ![0, 1] bcast_S8x59_S8x59x1_0_1 (addi (iotaInDim S8x59 32 1) (iotaInDim S8x59 32 0))) : IVec S8x59x1 32) (ix3 u i 0)).toInt.toNat = (sh (H := 66) (by decide) i u : Fin 66) := by
  pointwise
  exact at_one (by decide) u i

/-- Convolution 2's contraction over its windows. -/
theorem conv2_dot (x : FVec Ideal S64x32x66x66 .f32) (W : FVec Ideal S16x32x8x8 .f32) (b : Fin 64) (o : Fin 16) (h v : Fin 59) :
    (Host.dotGeneral dot_S16x32x8x8_S64x32x8x59x8x59_S16x64x59x59_132_142_0_035_n_n none W (Host.gather gather_S64x32x66x8x59_S8x59x1_S64x32x8x59x8x59_0145_2_n_n_2_2_64321859 (Host.gather gather_S64x32x66x66_S8x59x1_S64x32x66x8x59_012_3_n_n_3_2_6432661 x (broadcastInDim S8x59x1 ![0, 1] bcast_S8x59_S8x59x1_0_1 (addi (iotaInDim S8x59 32 1) (iotaInDim S8x59 32 0)))) (broadcastInDim S8x59x1 ![0, 1] bcast_S8x59_S8x59x1_0_1 (addi (iotaInDim S8x59 32 1) (iotaInDim S8x59 32 0)))) : FVec Ideal S16x64x59x59 .f32) (ix4 o b h v)
      = conv (fun c h v => x (ix4 b c h v)) W (sh (H := 66) (by decide)) (sh (H := 66) (by decide)) o h v :=
  conv_apply (B := 64) (C := 32) (H := 66) (W := 66) (k := 8) (n := 59) (O := 16) dot_S16x32x8x8_S64x32x8x59x8x59_S16x64x59x59_132_142_0_035_n_n.wf gather_S64x32x66x8x59_S8x59x1_S64x32x8x59x8x59_0145_2_n_n_2_2_64321859.wf gather_S64x32x66x66_S8x59x1_S64x32x66x8x59_012_3_n_n_3_2_6432661.wf x W _ _ _ conv2_pos conv2_pos o b h v

/-- Convolution 2 as the program states it. -/
def conv2Term (x : FVec Ideal S64x32x66x66 .f32) (W : FVec Ideal S16x32x8x8 .f32) (B : FVec Ideal S16 .f32) : FVec Ideal S64x16x59x59 .f32 :=
  (maximumf (addf (transpose S64x16x59x59 [1, 0, 2, 3] (Host.dotGeneral dot_S16x32x8x8_S64x32x8x59x8x59_S16x64x59x59_132_142_0_035_n_n none W (Host.gather gather_S64x32x66x8x59_S8x59x1_S64x32x8x59x8x59_0145_2_n_n_2_2_64321859 (Host.gather gather_S64x32x66x66_S8x59x1_S64x32x66x8x59_012_3_n_n_3_2_6432661 x (broadcastInDim S8x59x1 ![0, 1] bcast_S8x59_S8x59x1_0_1 (addi (iotaInDim S8x59 32 1) (iotaInDim S8x59 32 0)))) (broadcastInDim S8x59x1 ![0, 1] bcast_S8x59_S8x59x1_0_1 (addi (iotaInDim S8x59 32 1) (iotaInDim S8x59 32 0))))) transposes_S16x64x59x59_S64x16x59x59_1_0_2_3) (broadcastInDim S64x16x59x59 ![0, 1, 2, 3] bcast_S1x16x1x1_S64x16x59x59_0_1_2_3 (broadcastInDim S1x16x1x1 ![1] bcast_S16_S1x16x1x1_1 B))) (broadcastInDim S64x16x59x59 ![] bcast_S_S64x16x59x59 (constant S_ .f32 0x00000000#32)))

/-- Convolution 2 with its bias, the negative part cut off. -/
theorem conv2_at (x : FVec Ideal S64x32x66x66 .f32) (W : FVec Ideal S16x32x8x8 .f32) (B : FVec Ideal S16 .f32)
    (b : Fin 64) (o : Fin 16) (h v : Fin 59) :
    conv2Term x W B (ix4 b o h v)
      = convR (fun c h v => x (ix4 b c h v)) W B (sh (H := 66) (by decide)) (sh (H := 66) (by decide)) o h v := by
  unfold convR convB
  rw [← conv2_dot]
  pointwise [conv2Term]

/-- The window positions of convolution 3. -/
theorem conv3_pos (i : Fin 52) (u : Fin 8) : (((broadcastInDim S8x52x1 ![0, 1] bcast_S8x52_S8x52x1_0_1 (addi (iotaInDim S8x52 32 1) (iotaInDim S8x52 32 0))) : IVec S8x52x1 32) (ix3 u i 0)).toInt.toNat = (sh (H := 59) (by decide) i u : Fin 59) := by
  pointwise
  exact at_one (by decide) u i

/-- Convolution 3's contraction over its windows. -/
theorem conv3_dot (x : FVec Ideal S64x16x59x59 .f32) (W : FVec Ideal S16x16x8x8 .f32) (b : Fin 64) (o : Fin 16) (h v : Fin 52) :
    (Host.dotGeneral dot_S16x16x8x8_S64x16x8x52x8x52_S16x64x52x52_132_142_0_035_n_n none W (Host.gather gather_S64x16x59x8x52_S8x52x1_S64x16x8x52x8x52_0145_2_n_n_2_2_64161852 (Host.gather gather_S64x16x59x59_S8x52x1_S64x16x59x8x52_012_3_n_n_3_2_6416591 x (broadcastInDim S8x52x1 ![0, 1] bcast_S8x52_S8x52x1_0_1 (addi (iotaInDim S8x52 32 1) (iotaInDim S8x52 32 0)))) (broadcastInDim S8x52x1 ![0, 1] bcast_S8x52_S8x52x1_0_1 (addi (iotaInDim S8x52 32 1) (iotaInDim S8x52 32 0)))) : FVec Ideal S16x64x52x52 .f32) (ix4 o b h v)
      = conv (fun c h v => x (ix4 b c h v)) W (sh (H := 59) (by decide)) (sh (H := 59) (by decide)) o h v :=
  conv_apply (B := 64) (C := 16) (H := 59) (W := 59) (k := 8) (n := 52) (O := 16) dot_S16x16x8x8_S64x16x8x52x8x52_S16x64x52x52_132_142_0_035_n_n.wf gather_S64x16x59x8x52_S8x52x1_S64x16x8x52x8x52_0145_2_n_n_2_2_64161852.wf gather_S64x16x59x59_S8x52x1_S64x16x59x8x52_012_3_n_n_3_2_6416591.wf x W _ _ _ conv3_pos conv3_pos o b h v

/-- Convolution 3 as the program states it. -/
def conv3Term (x : FVec Ideal S64x16x59x59 .f32) (W : FVec Ideal S16x16x8x8 .f32) (B : FVec Ideal S16 .f32) : FVec Ideal S64x16x52x52 .f32 :=
  (maximumf (addf (transpose S64x16x52x52 [1, 0, 2, 3] (Host.dotGeneral dot_S16x16x8x8_S64x16x8x52x8x52_S16x64x52x52_132_142_0_035_n_n none W (Host.gather gather_S64x16x59x8x52_S8x52x1_S64x16x8x52x8x52_0145_2_n_n_2_2_64161852 (Host.gather gather_S64x16x59x59_S8x52x1_S64x16x59x8x52_012_3_n_n_3_2_6416591 x (broadcastInDim S8x52x1 ![0, 1] bcast_S8x52_S8x52x1_0_1 (addi (iotaInDim S8x52 32 1) (iotaInDim S8x52 32 0)))) (broadcastInDim S8x52x1 ![0, 1] bcast_S8x52_S8x52x1_0_1 (addi (iotaInDim S8x52 32 1) (iotaInDim S8x52 32 0))))) transposes_S16x64x52x52_S64x16x52x52_1_0_2_3) (broadcastInDim S64x16x52x52 ![0, 1, 2, 3] bcast_S1x16x1x1_S64x16x52x52_0_1_2_3 (broadcastInDim S1x16x1x1 ![1] bcast_S16_S1x16x1x1_1 B))) (broadcastInDim S64x16x52x52 ![] bcast_S_S64x16x52x52 (constant S_ .f32 0x00000000#32)))

/-- Convolution 3 with its bias, the negative part cut off. -/
theorem conv3_at (x : FVec Ideal S64x16x59x59 .f32) (W : FVec Ideal S16x16x8x8 .f32) (B : FVec Ideal S16 .f32)
    (b : Fin 64) (o : Fin 16) (h v : Fin 52) :
    conv3Term x W B (ix4 b o h v)
      = convR (fun c h v => x (ix4 b c h v)) W B (sh (H := 59) (by decide)) (sh (H := 59) (by decide)) o h v := by
  unfold convR convB
  rw [← conv3_dot]
  pointwise [conv3Term]

/-- The window positions of convolution 4. -/
theorem conv4_pos (i : Fin 24) (u : Fin 6) : (((broadcastInDim S6x24x1 ![0, 1] bcast_S6x24_S6x24x1_0_1 (addi (muli (broadcastInDim S6x24 ![] bcast_S_S6x24 (constantI S_ 32 2#32)) (iotaInDim S6x24 32 1)) (iotaInDim S6x24 32 0))) : IVec S6x24x1 32) (ix3 u i 0)).toInt.toNat = (sh2 (H := 52) (by decide) i u : Fin 52) := by
  pointwise
  exact at_two (by decide) u i

/-- Convolution 4's contraction over its windows. -/
theorem conv4_dot (x : FVec Ideal S64x16x52x52 .f32) (W : FVec Ideal S16x16x6x6 .f32) (b : Fin 64) (o : Fin 16) (h v : Fin 24) :
    (Host.dotGeneral dot_S16x16x6x6_S64x16x6x24x6x24_S16x64x24x24_132_142_0_035_n_n none W (Host.gather gather_S64x16x52x6x24_S6x24x1_S64x16x6x24x6x24_0145_2_n_n_2_2_64161624 (Host.gather gather_S64x16x52x52_S6x24x1_S64x16x52x6x24_012_3_n_n_3_2_6416521 x (broadcastInDim S6x24x1 ![0, 1] bcast_S6x24_S6x24x1_0_1 (addi (muli (broadcastInDim S6x24 ![] bcast_S_S6x24 (constantI S_ 32 2#32)) (iotaInDim S6x24 32 1)) (iotaInDim S6x24 32 0)))) (broadcastInDim S6x24x1 ![0, 1] bcast_S6x24_S6x24x1_0_1 (addi (muli (broadcastInDim S6x24 ![] bcast_S_S6x24 (constantI S_ 32 2#32)) (iotaInDim S6x24 32 1)) (iotaInDim S6x24 32 0)))) : FVec Ideal S16x64x24x24 .f32) (ix4 o b h v)
      = conv (fun c h v => x (ix4 b c h v)) W (sh2 (H := 52) (by decide)) (sh2 (H := 52) (by decide)) o h v :=
  conv_apply (B := 64) (C := 16) (H := 52) (W := 52) (k := 6) (n := 24) (O := 16) dot_S16x16x6x6_S64x16x6x24x6x24_S16x64x24x24_132_142_0_035_n_n.wf gather_S64x16x52x6x24_S6x24x1_S64x16x6x24x6x24_0145_2_n_n_2_2_64161624.wf gather_S64x16x52x52_S6x24x1_S64x16x52x6x24_012_3_n_n_3_2_6416521.wf x W _ _ _ conv4_pos conv4_pos o b h v

/-- Convolution 4 as the program states it. -/
def conv4Term (x : FVec Ideal S64x16x52x52 .f32) (W : FVec Ideal S16x16x6x6 .f32) (B : FVec Ideal S16 .f32) : FVec Ideal S64x16x24x24 .f32 :=
  (maximumf (addf (transpose S64x16x24x24 [1, 0, 2, 3] (Host.dotGeneral dot_S16x16x6x6_S64x16x6x24x6x24_S16x64x24x24_132_142_0_035_n_n none W (Host.gather gather_S64x16x52x6x24_S6x24x1_S64x16x6x24x6x24_0145_2_n_n_2_2_64161624 (Host.gather gather_S64x16x52x52_S6x24x1_S64x16x52x6x24_012_3_n_n_3_2_6416521 x (broadcastInDim S6x24x1 ![0, 1] bcast_S6x24_S6x24x1_0_1 (addi (muli (broadcastInDim S6x24 ![] bcast_S_S6x24 (constantI S_ 32 2#32)) (iotaInDim S6x24 32 1)) (iotaInDim S6x24 32 0)))) (broadcastInDim S6x24x1 ![0, 1] bcast_S6x24_S6x24x1_0_1 (addi (muli (broadcastInDim S6x24 ![] bcast_S_S6x24 (constantI S_ 32 2#32)) (iotaInDim S6x24 32 1)) (iotaInDim S6x24 32 0))))) transposes_S16x64x24x24_S64x16x24x24_1_0_2_3) (broadcastInDim S64x16x24x24 ![0, 1, 2, 3] bcast_S1x16x1x1_S64x16x24x24_0_1_2_3 (broadcastInDim S1x16x1x1 ![1] bcast_S16_S1x16x1x1_1 B))) (broadcastInDim S64x16x24x24 ![] bcast_S_S64x16x24x24 (constant S_ .f32 0x00000000#32)))

/-- Convolution 4 with its bias, the negative part cut off. -/
theorem conv4_at (x : FVec Ideal S64x16x52x52 .f32) (W : FVec Ideal S16x16x6x6 .f32) (B : FVec Ideal S16 .f32)
    (b : Fin 64) (o : Fin 16) (h v : Fin 24) :
    conv4Term x W B (ix4 b o h v)
      = convR (fun c h v => x (ix4 b c h v)) W B (sh2 (H := 52) (by decide)) (sh2 (H := 52) (by decide)) o h v := by
  unfold convR convB
  rw [← conv4_dot]
  pointwise [conv4Term]

/-- The window positions of convolution 5. -/
theorem conv5_pos (i : Fin 20) (u : Fin 5) : (((broadcastInDim S5x20x1 ![0, 1] bcast_S5x20_S5x20x1_0_1 (addi (iotaInDim S5x20 32 1) (iotaInDim S5x20 32 0))) : IVec S5x20x1 32) (ix3 u i 0)).toInt.toNat = (sh (H := 24) (by decide) i u : Fin 24) := by
  pointwise
  exact at_one (by decide) u i

/-- Convolution 5's contraction over its windows. -/
theorem conv5_dot (x : FVec Ideal S64x16x24x24 .f32) (W : FVec Ideal S16x16x5x5 .f32) (b : Fin 64) (o : Fin 16) (h v : Fin 20) :
    (Host.dotGeneral dot_S16x16x5x5_S64x16x5x20x5x20_S16x64x20x20_132_142_0_035_n_n none W (Host.gather gather_S64x16x24x5x20_S5x20x1_S64x16x5x20x5x20_0145_2_n_n_2_2_64161520 (Host.gather gather_S64x16x24x24_S5x20x1_S64x16x24x5x20_012_3_n_n_3_2_6416241 x (broadcastInDim S5x20x1 ![0, 1] bcast_S5x20_S5x20x1_0_1 (addi (iotaInDim S5x20 32 1) (iotaInDim S5x20 32 0)))) (broadcastInDim S5x20x1 ![0, 1] bcast_S5x20_S5x20x1_0_1 (addi (iotaInDim S5x20 32 1) (iotaInDim S5x20 32 0)))) : FVec Ideal S16x64x20x20 .f32) (ix4 o b h v)
      = conv (fun c h v => x (ix4 b c h v)) W (sh (H := 24) (by decide)) (sh (H := 24) (by decide)) o h v :=
  conv_apply (B := 64) (C := 16) (H := 24) (W := 24) (k := 5) (n := 20) (O := 16) dot_S16x16x5x5_S64x16x5x20x5x20_S16x64x20x20_132_142_0_035_n_n.wf gather_S64x16x24x5x20_S5x20x1_S64x16x5x20x5x20_0145_2_n_n_2_2_64161520.wf gather_S64x16x24x24_S5x20x1_S64x16x24x5x20_012_3_n_n_3_2_6416241.wf x W _ _ _ conv5_pos conv5_pos o b h v

/-- Convolution 5 as the program states it. -/
def conv5Term (x : FVec Ideal S64x16x24x24 .f32) (W : FVec Ideal S16x16x5x5 .f32) (B : FVec Ideal S16 .f32) : FVec Ideal S64x16x20x20 .f32 :=
  (maximumf (addf (transpose S64x16x20x20 [1, 0, 2, 3] (Host.dotGeneral dot_S16x16x5x5_S64x16x5x20x5x20_S16x64x20x20_132_142_0_035_n_n none W (Host.gather gather_S64x16x24x5x20_S5x20x1_S64x16x5x20x5x20_0145_2_n_n_2_2_64161520 (Host.gather gather_S64x16x24x24_S5x20x1_S64x16x24x5x20_012_3_n_n_3_2_6416241 x (broadcastInDim S5x20x1 ![0, 1] bcast_S5x20_S5x20x1_0_1 (addi (iotaInDim S5x20 32 1) (iotaInDim S5x20 32 0)))) (broadcastInDim S5x20x1 ![0, 1] bcast_S5x20_S5x20x1_0_1 (addi (iotaInDim S5x20 32 1) (iotaInDim S5x20 32 0))))) transposes_S16x64x20x20_S64x16x20x20_1_0_2_3) (broadcastInDim S64x16x20x20 ![0, 1, 2, 3] bcast_S1x16x1x1_S64x16x20x20_0_1_2_3 (broadcastInDim S1x16x1x1 ![1] bcast_S16_S1x16x1x1_1 B))) (broadcastInDim S64x16x20x20 ![] bcast_S_S64x16x20x20 (constant S_ .f32 0x00000000#32)))

/-- Convolution 5 with its bias, the negative part cut off. -/
theorem conv5_at (x : FVec Ideal S64x16x24x24 .f32) (W : FVec Ideal S16x16x5x5 .f32) (B : FVec Ideal S16 .f32)
    (b : Fin 64) (o : Fin 16) (h v : Fin 20) :
    conv5Term x W B (ix4 b o h v)
      = convR (fun c h v => x (ix4 b c h v)) W B (sh (H := 24) (by decide)) (sh (H := 24) (by decide)) o h v := by
  unfold convR convB
  rw [← conv5_dot]
  pointwise [conv5Term]

/-- One value per tile and channel, spread over the tile's pixels. -/
def perPixel (a : FVec Ideal S8x8x32 .f32) : FVec Ideal S64x32x132x132 .f32 :=
  (broadcastInDim S64x32x132x132 ![0, 1, 2, 3] bcast_S1x32x132x132_S64x32x132x132_0_1_2_3 (broadcastInDim S1x32x132x132 ![1, 2, 3] bcast_S32x132x132_S1x32x132x132_1_2_3 (extractStridedSlice S32x132x132 ![0, 0, 0] (shapeCast _ (broadcastInDim S32x8x18x8x18 ![0, 1, 2, 3, 4] bcast_S32x8x1x8x1_S32x8x18x8x18_0_1_2_3_4 (broadcastInDim S32x8x1x8x1 ![0, 1, 3] bcast_S32x8x8_S32x8x1x8x1_0_1_3 (transpose S32x8x8 [2, 0, 1] a transposes_S8x8x32_S32x8x8_2_0_1))) shapeCasts_S32x8x18x8x18_S32x144x144) slices_S32x144x144_S32x132x132_0_0_0)))

/-- The spread value at a pixel is its tile's. -/
theorem perPixel_at (a : FVec Ideal S8x8x32 .f32) (b : Fin 64) (o : Fin 32) (h v : Fin 132) :
    perPixel a (ix4 b o h v) = a (ix3 (tl h) (tl v) o) := by
  pointwise [perPixel]
  try rfl

/-- The window positions inside of a tile. -/
theorem tile_pos (i : Fin 18) (u : Fin 3) : (((broadcastInDim S3x18x1 ![0, 1] bcast_S3x18_S3x18x1_0_1 (addi (iotaInDim S3x18 32 1) (iotaInDim S3x18 32 0))) : IVec S3x18x1 32) (ix3 u i 0)).toInt.toNat = (sh (H := 20) (by decide) i u : Fin 20) := by
  pointwise
  exact at_one (by decide) u i

/-- The region layer's contraction over the tiles' windows. -/
theorem tile_dot (x : FVec Ideal S64x32x8x20x8x20 .f32) (RW : FVec Ideal S8x8x32x32x3x3 .f32) (i j : Fin 8) (o : Fin 32) (b : Fin 64) (h v : Fin 18) :
    ((Host.dotGeneral dot_S8x8x32x32x3x3_S64x32x8x3x18x8x3x18_S8x8x32x64x18x18_354_163_2_047_01_25 none RW (Host.gather gather_S64x32x8x20x8x3x18_S3x18x1_S64x32x8x3x18x8x3x18_012567_3_n_n_3_2_6432818318 (Host.gather gather_S64x32x8x20x8x20_S3x18x1_S64x32x8x20x8x3x18_01234_5_n_n_5_2_643282081 x (broadcastInDim S3x18x1 ![0, 1] bcast_S3x18_S3x18x1_0_1 (addi (iotaInDim S3x18 32 1) (iotaInDim S3x18 32 0)))) (broadcastInDim S3x18x1 ![0, 1] bcast_S3x18_S3x18x1_0_1 (addi (iotaInDim S3x18 32 1) (iotaInDim S3x18 32 0))))) : FVec Ideal S8x8x32x64x18x18 .f32) (ix6 i j o b h v)
      = ∑ c : Fin 32, ∑ t : Fin 3, ∑ u : Fin 3, RW (ix6 i j o c u t) * x (ix6 b c i (sh (H := 20) (by decide) h u) j (sh (H := 20) (by decide) v t)) :=
  tile_conv_apply (B := 64) (C := 32) (I := 8) (J := 8) (H := 20) (W := 20) (k := 3) (n := 18) (O := 32) dot_S8x8x32x32x3x3_S64x32x8x3x18x8x3x18_S8x8x32x64x18x18_354_163_2_047_01_25.wf gather_S64x32x8x20x8x3x18_S3x18x1_S64x32x8x3x18x8x3x18_012567_3_n_n_3_2_6432818318.wf gather_S64x32x8x20x8x20_S3x18x1_S64x32x8x20x8x3x18_01234_5_n_n_5_2_643282081.wf x RW _ _ _ tile_pos tile_pos i j o b h v

/-- The activations cut into tiles with zeros around each. -/
def tiles (y : FVec Ideal S64x32x132x132 .f32) : FVec Ideal S64x32x8x20x8x20 .f32 :=
  (pad S64x32x8x20x8x20 ![0, 0, 0, 1, 0, 1] ![0, 0, 0, 1, 0, 1] ![0, 0, 0, 0, 0, 0] (shapeCast _ (pad S64x32x144x144 ![0, 0, 0, 0] ![0, 0, 12, 12] ![0, 0, 0, 0] y (sitofp .f32 (constantI S_ 32 0#32)) pads_S64x32x132x132_S64x32x144x144_000_000_0120_0120 h_S_) shapeCasts_S64x32x144x144_S64x32x8x18x8x18) (sitofp .f32 (constantI S_ 32 0#32)) pads_S64x32x8x18x8x18_S64x32x8x20x8x20_000_000_000_110_000_110 h_S_)

/-- A padded tile read at an index. -/
theorem tiles_at (y : FVec Ideal S64x32x132x132 .f32) (b : Fin 64) (c : Fin 32) (i j : Fin 8) (p q : Fin 20) :
    tiles y (ix6 b c i p j q) = tilePad (fun c h v => y (ix4 b c h v)) i j c p q := by
  have h0 : (FloatOps.sitofp (F := Ideal) .f32 (0#32 : BitVec 32) : EReal) = 0 := by
    show (((0#32 : BitVec 32).toInt : ℝ) : EReal) = 0
    simp
  pointwise [tiles, h0]
  unfold tilePad
  have := p.isLt
  by_cases h : (1 ≤ (p : Nat) ∧ (p : Nat) < 19 ∧ 18 * (i : Nat) + p < 133) ∧ (1 ≤ (q : Nat) ∧ (q : Nat) < 19 ∧ 18 * (j : Nat) + q < 133)
  · have h1 : (1 ≤ (p : Nat) ∧ (p : Nat) - 1 < 18) ∧ 1 ≤ (q : Nat) ∧ (q : Nat) - 1 < 18 := by omega
    have h2 : (i : Nat) * 18 + ((p : Nat) - 1) < 132 ∧ (j : Nat) * 18 + ((q : Nat) - 1) < 132 := by omega
    refine (dif_pos h1).trans ((dif_pos h2).trans (Eq.trans ?_ (dif_pos h).symm))
    exact congrArg₂ (fun s t => y (ix4 b c s t)) (Fin.ext (by show (i : Nat) * 18 + (p - 1) = 18 * (i : Nat) + p - 1; omega))
      (Fin.ext (by show (j : Nat) * 18 + (q - 1) = 18 * (j : Nat) + q - 1; omega))
  · refine Eq.trans ?_ (dif_neg h).symm
    by_cases h1 : (1 ≤ (p : Nat) ∧ (p : Nat) - 1 < 18) ∧ 1 ≤ (q : Nat) ∧ (q : Nat) - 1 < 18
    · have h2 : ¬ ((i : Nat) * 18 + ((p : Nat) - 1) < 132 ∧ (j : Nat) * 18 + ((q : Nat) - 1) < 132) := by omega
      exact (dif_pos h1).trans (dif_neg h2)
    · exact dif_neg h1

/-- The batch norm over the tiles, the negative part cut off. -/
def actTerm (x : FVec Ideal S64x32x132x132 .f32) (g bt m v : FVec Ideal S8x8x32 .f32) : FVec Ideal S64x32x132x132 .f32 :=
  maximumf (addf (mulf (subf x (perPixel m)) (perPixel (mulf g (Host.rsqrt (addf v (broadcastInDim S8x8x32 ![] bcast_S_S8x8x32 (constant S_ .f32 0x3727C5AC#32))))))) (perPixel bt)) (broadcastInDim S64x32x132x132 ![] bcast_S_S64x32x132x132 (constant S_ .f32 0x00000000#32))

/-- The activation at a pixel. -/
theorem actTerm_at (x : FVec Ideal S64x32x132x132 .f32) (g bt m v : FVec Ideal S8x8x32 .f32) (b : Fin 64) (o : Fin 32) (h w : Fin 132) :
    actTerm x g bt m v (ix4 b o h w) = act (fun c h v => x (ix4 b c h v)) g bt m v o h w := by
  unfold act
  pointwise [actTerm, perPixel_at, scale]

/-- The region layer over its activations `y` and the layer's input `x`, and the relu after it. -/
def regionTerm (y x : FVec Ideal S64x32x132x132 .f32) (RW : FVec Ideal S8x8x32x32x3x3 .f32) (CB : FVec Ideal S8x8x32 .f32) : FVec Ideal S64x32x132x132 .f32 :=
  maximumf (addf (addf (extractStridedSlice S64x32x132x132 ![0, 0, 0, 0] (shapeCast _ (transpose S64x32x8x18x8x18 [3, 2, 0, 4, 1, 5] (Host.dotGeneral dot_S8x8x32x32x3x3_S64x32x8x3x18x8x3x18_S8x8x32x64x18x18_354_163_2_047_01_25 none RW (Host.gather gather_S64x32x8x20x8x3x18_S3x18x1_S64x32x8x3x18x8x3x18_012567_3_n_n_3_2_6432818318 (Host.gather gather_S64x32x8x20x8x20_S3x18x1_S64x32x8x20x8x3x18_01234_5_n_n_5_2_643282081 (tiles y) (broadcastInDim S3x18x1 ![0, 1] bcast_S3x18_S3x18x1_0_1 (addi (iotaInDim S3x18 32 1) (iotaInDim S3x18 32 0)))) (broadcastInDim S3x18x1 ![0, 1] bcast_S3x18_S3x18x1_0_1 (addi (iotaInDim S3x18 32 1) (iotaInDim S3x18 32 0))))) transposes_S8x8x32x64x18x18_S64x32x8x18x8x18_3_2_0_4_1_5) shapeCasts_S64x32x8x18x8x18_S64x32x144x144) slices_S64x32x144x144_S64x32x132x132_0_0_0_0) (perPixel CB)) x) (broadcastInDim S64x32x132x132 ![] bcast_S_S64x32x132x132 (constant S_ .f32 0x00000000#32))

/-- The region layer at a pixel. -/
theorem region_at (y x : FVec Ideal S64x32x132x132 .f32) (RW : FVec Ideal S8x8x32x32x3x3 .f32) (CB : FVec Ideal S8x8x32 .f32)
    (b : Fin 64) (o : Fin 32) (h w : Fin 132) :
    regionTerm y x RW CB (ix4 b o h w) = region (fun c h v => y (ix4 b c h v)) (fun c h v => x (ix4 b c h v)) RW CB o h w := by
  have hd := tile_dot (tiles y) RW (tl h) (tl w) o b ⟨(h : Nat) % 18, Nat.mod_lt _ (by decide)⟩ ⟨(w : Nat) % 18, Nat.mod_lt _ (by decide)⟩
  simp only [tiles_at] at hd
  unfold region regionConv
  refine Eq.trans ?_ (congrArg (fun z => max (z + CB (ix3 (tl h) (tl w) o) + x (ix4 b o h w)) 0) hd)
  pointwise [regionTerm, perPixel_at]
  rfl

/-- The layers up to the pooling's first step, as the run states them. -/
theorem v68_eq (V0 : Valuation τ sig (Elt Ideal)) : Value.res_main_v68 V0
    = regionTerm (actTerm (Value.res_main_v12 V0) (V0 (Proc.devRef .tc main_arg3)) (V0 (Proc.devRef .tc main_arg4)) (V0 (Proc.devRef .tc main_arg5)) (V0 (Proc.devRef .tc main_arg6)))
        (Value.res_main_v12 V0) (V0 (Proc.devRef .tc main_arg7)) (V0 (Proc.devRef .tc main_arg8)) := rfl

/-- The first convolution, as the run states it. -/
theorem v12_at (V0 : Valuation τ sig (Elt Ideal)) (b : Fin 64) (o : Fin 32) (h v : Fin 132) : Value.res_main_v12 V0 (ix4 b o h v)
    = layer1 (fun c h v => V0 (Proc.devRef .tc main_arg0) (ix4 b c h v)) (V0 (Proc.devRef .tc main_arg1)) (V0 (Proc.devRef .tc main_arg2)) o h v :=
  conv1_at (V0 (Proc.devRef .tc main_arg0)) (V0 (Proc.devRef .tc main_arg1)) (V0 (Proc.devRef .tc main_arg2)) b o h v

/-- The pooling and the second batch norm. -/
def midTerm (x : FVec Ideal S64x32x132x132 .f32) (g bt m v : FVec Ideal S32 .f32) : FVec Ideal S64x32x66x66 .f32 :=
  (addf (mulf (subf (maximumf (Host.slice S64x32x66x66 ![0, 0, 0, 0] ![1, 1, 1, 2] (maximumf (Host.slice S64x32x66x132 ![0, 0, 0, 0] ![1, 1, 2, 1] x slicesBy_S64x32x132x132_S64x32x66x132_0s1_0s1_0s2_0s1) (Host.slice S64x32x66x132 ![0, 0, 1, 0] ![1, 1, 2, 1] x slicesBy_S64x32x132x132_S64x32x66x132_0s1_0s1_1s2_0s1)) slicesBy_S64x32x66x132_S64x32x66x66_0s1_0s1_0s1_0s2) (Host.slice S64x32x66x66 ![0, 0, 0, 1] ![1, 1, 1, 2] (maximumf (Host.slice S64x32x66x132 ![0, 0, 0, 0] ![1, 1, 2, 1] x slicesBy_S64x32x132x132_S64x32x66x132_0s1_0s1_0s2_0s1) (Host.slice S64x32x66x132 ![0, 0, 1, 0] ![1, 1, 2, 1] x slicesBy_S64x32x132x132_S64x32x66x132_0s1_0s1_1s2_0s1)) slicesBy_S64x32x66x132_S64x32x66x66_0s1_0s1_0s1_1s2)) (broadcastInDim S64x32x66x66 ![0, 1, 2, 3] bcast_S1x32x1x1_S64x32x66x66_0_1_2_3 (broadcastInDim S1x32x1x1 ![1, 2, 3] bcast_S32x1x1_S1x32x1x1_1_2_3 (broadcastInDim S32x1x1 ![0] bcast_S32_S32x1x1_0 m)))) (broadcastInDim S64x32x66x66 ![0, 1, 2, 3] bcast_S1x32x1x1_S64x32x66x66_0_1_2_3 (broadcastInDim S1x32x1x1 ![1, 2, 3] bcast_S32x1x1_S1x32x1x1_1_2_3 (broadcastInDim S32x1x1 ![0] bcast_S32_S32x1x1_0 (mulf g (Host.rsqrt (addf v (broadcastInDim S32 ![] bcast_S_S32 (constant S_ .f32 0x3727C5AC#32))))))))) (broadcastInDim S64x32x66x66 ![0, 1, 2, 3] bcast_S1x32x1x1_S64x32x66x66_0_1_2_3 (broadcastInDim S1x32x1x1 ![1, 2, 3] bcast_S32x1x1_S1x32x1x1_1_2_3 (broadcastInDim S32x1x1 ![0] bcast_S32_S32x1x1_0 bt))))

/-- The pooling and the second batch norm at a pixel. -/
theorem mid_at (x : FVec Ideal S64x32x132x132 .f32) (g bt m v : FVec Ideal S32 .f32) (b : Fin 64) (o : Fin 32) (h w : Fin 66) :
    midTerm x g bt m v (ix4 b o h w) = bn2 (pool2 (fun c h v => x (ix4 b c h v))) g bt m v o h w := by
  unfold bn2 pool2
  pointwise [midTerm, scale]

/-- Flattening and the dense layers over the last image. -/
def headTerm (x : FVec Ideal S64x16x20x20 .f32) (W1 : FVec Ideal S4096x6400 .f32) (B1 : FVec Ideal S4096 .f32) (W2 : FVec Ideal S2048x4096 .f32)
    (B2 : FVec Ideal S2048 .f32) (W3 : FVec Ideal S12x2048 .f32) (B3 : FVec Ideal S12 .f32) : FVec Ideal S64x12 .f32 :=
  addf (Host.dotGeneral dot_S64x2048_S2048x12_S64x12_1_0_0_1_n_n none (maximumf (addf (Host.dotGeneral dot_S64x4096_S4096x2048_S64x2048_1_0_0_1_n_n none (maximumf (addf (Host.dotGeneral dot_S64x6400_S6400x4096_S64x4096_1_0_0_1_n_n none (shapeCast _ x shapeCasts_S64x16x20x20_S64x6400) (transpose S6400x4096 [1, 0] W1 transposes_S4096x6400_S6400x4096_1_0)) (broadcastInDim S64x4096 ![0, 1] bcast_S1x4096_S64x4096_0_1 (broadcastInDim S1x4096 ![1] bcast_S4096_S1x4096_1 B1))) (broadcastInDim S64x4096 ![] bcast_S_S64x4096 (constant S_ .f32 0x00000000#32))) (transpose S4096x2048 [1, 0] W2 transposes_S2048x4096_S4096x2048_1_0)) (broadcastInDim S64x2048 ![0, 1] bcast_S1x2048_S64x2048_0_1 (broadcastInDim S1x2048 ![1] bcast_S2048_S1x2048_1 B2))) (broadcastInDim S64x2048 ![] bcast_S_S64x2048 (constant S_ .f32 0x00000000#32))) (transpose S2048x12 [1, 0] W3 transposes_S12x2048_S2048x12_1_0)) (broadcastInDim S64x12 ![0, 1] bcast_S1x12_S64x12_0_1 (broadcastInDim S1x12 ![1] bcast_S12_S1x12_1 B3))

/-- The dense layers at an output. -/
theorem head_at (x : FVec Ideal S64x16x20x20 .f32) (W1 : FVec Ideal S4096x6400 .f32) (B1 : FVec Ideal S4096 .f32) (W2 : FVec Ideal S2048x4096 .f32)
    (B2 : FVec Ideal S2048 .f32) (W3 : FVec Ideal S12x2048 .f32) (B3 : FVec Ideal S12 .f32) (b : Fin 64) (n : Fin 12) :
    headTerm x W1 B1 W2 B2 W3 B3 (ix2 b n) = head (flat fun c h v => x (ix4 b c h v)) W1 B1 W2 B2 W3 B3 n := by
  unfold head dense flat
  pointwise [headTerm]

/-- The reference's result over its arguments. -/
def resTerm (V0 : Valuation τ sig (Elt Ideal)) : FVec Ideal S64x12 .f32 :=
  headTerm (conv5Term (conv4Term (conv3Term (conv2Term (midTerm (Value.res_main_v68 V0)
      (V0 (Proc.devRef .tc main_arg9)) (V0 (Proc.devRef .tc main_arg10)) (V0 (Proc.devRef .tc main_arg11)) (V0 (Proc.devRef .tc main_arg12)))
      (V0 (Proc.devRef .tc main_arg13)) (V0 (Proc.devRef .tc main_arg14))) (V0 (Proc.devRef .tc main_arg15)) (V0 (Proc.devRef .tc main_arg16)))
      (V0 (Proc.devRef .tc main_arg17)) (V0 (Proc.devRef .tc main_arg18))) (V0 (Proc.devRef .tc main_arg19)) (V0 (Proc.devRef .tc main_arg20)))
    (V0 (Proc.devRef .tc main_arg21)) (V0 (Proc.devRef .tc main_arg22)) (V0 (Proc.devRef .tc main_arg23)) (V0 (Proc.devRef .tc main_arg24))
    (V0 (Proc.devRef .tc main_arg25)) (V0 (Proc.devRef .tc main_arg26))

/-- The reference's result at an output: the network's stages, one after the other. -/
theorem res_at (V0 : Valuation τ sig (Elt Ideal)) (b : Fin 64) (n : Fin 12) : resTerm V0 (ix2 b n)
    = head (flat (layer45 (layer23 (mid (layer1 (fun c h v => V0 (Proc.devRef .tc main_arg0) (ix4 b c h v)) (V0 (Proc.devRef .tc main_arg1)) (V0 (Proc.devRef .tc main_arg2)))
        (V0 (Proc.devRef .tc main_arg3)) (V0 (Proc.devRef .tc main_arg4)) (V0 (Proc.devRef .tc main_arg5)) (V0 (Proc.devRef .tc main_arg6))
        (V0 (Proc.devRef .tc main_arg7)) (V0 (Proc.devRef .tc main_arg8)) (V0 (Proc.devRef .tc main_arg9)) (V0 (Proc.devRef .tc main_arg10))
        (V0 (Proc.devRef .tc main_arg11)) (V0 (Proc.devRef .tc main_arg12)))
        (V0 (Proc.devRef .tc main_arg13)) (V0 (Proc.devRef .tc main_arg14)) (V0 (Proc.devRef .tc main_arg15)) (V0 (Proc.devRef .tc main_arg16)))
        (V0 (Proc.devRef .tc main_arg17)) (V0 (Proc.devRef .tc main_arg18)) (V0 (Proc.devRef .tc main_arg19)) (V0 (Proc.devRef .tc main_arg20))))
      (V0 (Proc.devRef .tc main_arg21)) (V0 (Proc.devRef .tc main_arg22)) (V0 (Proc.devRef .tc main_arg23)) (V0 (Proc.devRef .tc main_arg24))
      (V0 (Proc.devRef .tc main_arg25)) (V0 (Proc.devRef .tc main_arg26)) n := by
  unfold resTerm layer45 layer23 mid
  simp only [head_at, conv5_at, conv4_at, conv3_at, conv2_at, mid_at, v68_eq, region_at, actTerm_at, v12_at]

/-- The reference ends at its result's term with its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v174) = resTerm (StableHlo.launchContents m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24)
        ∧ r.2.mem ((c.tc : Thread nD τ).loc main_arg25) = m ((c.tc : Thread nD τ).loc main_arg25)
        ∧ r.2.mem ((c.tc : Thread nD τ).loc main_arg26) = m ((c.tc : Thread nD τ).loc main_arg26) :=
  Value.run m ρ

end Cert.ReferenceIdeal.Stages

end

end
-- ==== Proof.Tiles.lean ====
module

public import Idealize.ShloMosaic.Lib.Pipeline.ValueKit
public import proofs.«01_k».proof.Proof.Gen.KernelIdeal.Frame

@[expose] public section

set_option maxRecDepth 16384

noncomputable section

namespace Cert.KernelIdeal.Tiles

open Cert.KernelIdeal.Gen
open Idealize.ShloMosaic Idealize.ShloMosaic.TcCoe Idealize.SL.Sem
open Idealize.ShloMosaic.Pipeline (Dat)

/-- A value by cases is the value that every case has. -/
theorem dif_of {α : Type*} {p : Prop} [Decidable p] {A : p → α} {B : ¬p → α} {R : α} (hA : ∀ h, A h = R) (hB : ∀ h, B h = R) :
    dite p A B = R := by
  by_cases h : p
  · exact (dif_pos h).trans (hA h)
  · exact (dif_neg h).trans (hB h)

/-- A tile with one pixel of zeros around it. -/
def pad {hs ws : Nat} (y : Fin hs → Fin ws → EReal) (a b : Nat) : EReal :=
  if h : (1 ≤ a ∧ a < hs + 1) ∧ (1 ≤ b ∧ b < ws + 1) then y ⟨a - 1, by omega⟩ ⟨b - 1, by omega⟩ else 0

/-- Where the condition fails, the other value is nought. -/
theorem zero_dif {p : Prop} [Decidable p] {A : p → EReal} (h : ¬p) : (0 : EReal) = dite p A (fun _ => 0) := by rw [dif_neg h]

/-- Where the condition holds, the value is the first one's. -/
theorem val_dif {p : Prop} [Decidable p] {A : p → EReal} {B : ¬p → EReal} {x : EReal} (h : p) (e : x = A h) : x = dite p A B :=
  e.trans (dif_pos h).symm

/-- The activation of a tile's pixels in one channel: a scale and a shift, the negative part cut off. -/
def act {hs ws : Nat} (c : FVec Ideal ⟨4, ![1, hs, ws, 32]⟩ .f32) (rs rt : Vec Ideal S1x1x32 .f32) (k : Fin 32) : Fin hs → Fin ws → EReal :=
  fun p r => max (c (ix4 0 p r k) * rs (ix3 0 0 k) + rt (ix3 0 0 k)) 0

/-- A tile of 18 x 18 pixels, stored. -/
def tileA (c : Vec Ideal S1x18x18x32 .f32) (rs rt : Vec Ideal S1x1x32 .f32) (w : Vec Ideal S1x1x96x96 .f32) (cb : Vec Ideal S1x1x32 .f32) :
    FVec Ideal S18x18x32 .f32 := k1_pay8 (k1_pay4 c) (k1_pay6 c rs rt w) (k1_pay7 c rs rt w) cb

/-- The tile of 18 x 18 pixels at an element. -/
theorem tileA_at (c : Vec Ideal S1x18x18x32 .f32) (rs rt : Vec Ideal S1x1x32 .f32) (w : Vec Ideal S1x1x96x96 .f32) (cb : Vec Ideal S1x1x32 .f32)
    (a : Fin 18) (b : Fin 18) (o : Fin 32) : tileA c rs rt w cb (ix3 a b o)
      = (∑ u : Fin 3, ∑ k : Fin 96, pad (act c rs rt (⟨k % 32, by omega⟩ : Fin 32)) (a + u) (b + k / 32)
          * w (ix4 0 0 k (⟨u * 32 + o, by omega⟩ : Fin 96))) + cb (ix3 0 0 o) + c (ix4 0 a b o) := by
  pointwise [tileA, k1_pay8, k1_pay4, k1_pay6, k1_pay7, k1_pay5]
  refine congrArg (· + _) (congrArg (· + _) ((congrArg₂ (· + ·) (congrArg₂ (· + ·) ?_ ?_) ?_).trans (Fin.sum_univ_three _).symm)) <;>
  · refine Finset.sum_congr rfl fun k _ => congrArg₂ (· * ·) ?_ ?_
    · unfold pad act
      simp only [Fin.val_zero, Fin.val_one, Fin.val_two]
      refine dif_of (fun _ => ?_) fun _ => dif_of (fun _ => ?_) fun _ => ?_
      all_goals repeat' (first | exact zero_dif (by omega) | refine dif_of (fun _ => ?_) fun _ => ?_)
      all_goals (refine val_dif (by omega) (congrArg₂ max (congrArg₂ (· + ·) (congrArg₂ (· * ·) ?_ ?_) ?_) rfl) <;> blk_ext [])
    · blk_ext []

/-- A tile of 18 x 6 pixels, stored. -/
def tileB (c : Vec Ideal S1x18x6x32 .f32) (rs rt : Vec Ideal S1x1x32 .f32) (w : Vec Ideal S1x1x96x96 .f32) (cb : Vec Ideal S1x1x32 .f32) :
    FVec Ideal S18x6x32 .f32 := k1_pay31 (k1_pay30 c) rs rt w cb

/-- The tile of 18 x 6 pixels at an element. -/
theorem tileB_at (c : Vec Ideal S1x18x6x32 .f32) (rs rt : Vec Ideal S1x1x32 .f32) (w : Vec Ideal S1x1x96x96 .f32) (cb : Vec Ideal S1x1x32 .f32)
    (a : Fin 18) (b : Fin 6) (o : Fin 32) : tileB c rs rt w cb (ix3 a b o)
      = (∑ u : Fin 3, ∑ k : Fin 96, pad (act c rs rt (⟨k % 32, by omega⟩ : Fin 32)) (a + u) (b + k / 32)
          * w (ix4 0 0 k (⟨u * 32 + o, by omega⟩ : Fin 96))) + cb (ix3 0 0 o) + c (ix4 0 a b o) := by
  pointwise [tileB, k1_pay31, k1_pay30]
  refine congrArg (· + _) (congrArg (· + _) ((congrArg₂ (· + ·) (congrArg₂ (· + ·) ?_ ?_) ?_).trans (Fin.sum_univ_three _).symm)) <;>
  · refine Finset.sum_congr rfl fun k _ => congrArg₂ (· * ·) ?_ ?_
    · unfold pad act
      simp only [Fin.val_zero, Fin.val_one, Fin.val_two]
      refine dif_of (fun _ => ?_) fun _ => dif_of (fun _ => ?_) fun _ => ?_
      all_goals repeat' (first | exact zero_dif (by omega) | refine dif_of (fun _ => ?_) fun _ => ?_)
      all_goals (refine val_dif (by omega) (congrArg₂ max (congrArg₂ (· + ·) (congrArg₂ (· * ·) ?_ ?_) ?_) rfl) <;> blk_ext [])
    · blk_ext []

/-- A tile of 6 x 18 pixels, stored. -/
def tileC (c : Vec Ideal S1x6x18x32 .f32) (rs rt : Vec Ideal S1x1x32 .f32) (w : Vec Ideal S1x1x96x96 .f32) (cb : Vec Ideal S1x1x32 .f32) :
    FVec Ideal S6x18x32 .f32 := k1_pay229 (k1_pay228 c) rs rt w cb

/-- The tile of 6 x 18 pixels at an element. -/
theorem tileC_at (c : Vec Ideal S1x6x18x32 .f32) (rs rt : Vec Ideal S1x1x32 .f32) (w : Vec Ideal S1x1x96x96 .f32) (cb : Vec Ideal S1x1x32 .f32)
    (a : Fin 6) (b : Fin 18) (o : Fin 32) : tileC c rs rt w cb (ix3 a b o)
      = (∑ u : Fin 3, ∑ k : Fin 96, pad (act c rs rt (⟨k % 32, by omega⟩ : Fin 32)) (a + u) (b + k / 32)
          * w (ix4 0 0 k (⟨u * 32 + o, by omega⟩ : Fin 96))) + cb (ix3 0 0 o) + c (ix4 0 a b o) := by
  pointwise [tileC, k1_pay229, k1_pay228]
  refine congrArg (· + _) (congrArg (· + _) ((congrArg₂ (· + ·) (congrArg₂ (· + ·) ?_ ?_) ?_).trans (Fin.sum_univ_three _).symm)) <;>
  · refine Finset.sum_congr rfl fun k _ => congrArg₂ (· * ·) ?_ ?_
    · unfold pad act
      simp only [Fin.val_zero, Fin.val_one, Fin.val_two]
      refine dif_of (fun _ => ?_) fun _ => dif_of (fun _ => ?_) fun _ => ?_
      all_goals repeat' (first | exact zero_dif (by omega) | refine dif_of (fun _ => ?_) fun _ => ?_)
      all_goals (refine val_dif (by omega) (congrArg₂ max (congrArg₂ (· + ·) (congrArg₂ (· * ·) ?_ ?_) ?_) rfl) <;> blk_ext [])
    · blk_ext []

/-- A tile of 6 x 6 pixels, stored. -/
def tileD (c : Vec Ideal S1x6x6x32 .f32) (rs rt : Vec Ideal S1x1x32 .f32) (w : Vec Ideal S1x1x96x96 .f32) (cb : Vec Ideal S1x1x32 .f32) :
    FVec Ideal S6x6x32 .f32 := k1_pay231 (k1_pay230 c rs rt w cb)

/-- The tile of 6 x 6 pixels at an element. -/
theorem tileD_at (c : Vec Ideal S1x6x6x32 .f32) (rs rt : Vec Ideal S1x1x32 .f32) (w : Vec Ideal S1x1x96x96 .f32) (cb : Vec Ideal S1x1x32 .f32)
    (a : Fin 6) (b : Fin 6) (o : Fin 32) : tileD c rs rt w cb (ix3 a b o)
      = (∑ u : Fin 3, ∑ k : Fin 96, pad (act c rs rt (⟨k % 32, by omega⟩ : Fin 32)) (a + u) (b + k / 32)
          * w (ix4 0 0 k (⟨u * 32 + o, by omega⟩ : Fin 96))) + cb (ix3 0 0 o) + c (ix4 0 a b o) := by
  pointwise [tileD, k1_pay231, k1_pay230]
  refine congrArg (· + _) (congrArg (· + _) ((congrArg₂ (· + ·) (congrArg₂ (· + ·) ?_ ?_) ?_).trans (Fin.sum_univ_three _).symm)) <;>
  · refine Finset.sum_congr rfl fun k _ => congrArg₂ (· * ·) ?_ ?_
    · unfold pad act
      simp only [Fin.val_zero, Fin.val_one, Fin.val_two]
      refine dif_of (fun _ => ?_) fun _ => dif_of (fun _ => ?_) fun _ => ?_
      all_goals repeat' (first | exact zero_dif (by omega) | refine dif_of (fun _ => ?_) fun _ => ?_)
      all_goals (refine val_dif (by omega) (congrArg₂ max (congrArg₂ (· + ·) (congrArg₂ (· * ·) ?_ ?_) ?_) rfl) <;> blk_ext [])
    · blk_ext []

end Cert.KernelIdeal.Tiles

end

end
-- ==== Proof.Band.lean ====
module

public import Idealize.ShloMosaic.Lib.Pipeline.ValueKit
public import Idealize.ShloMosaic.Lib.Pipeline.ReadBack
public import proofs.«01_k».proof.Proof.Gen.KernelIdeal.Frame
public import proofs.«01_k».proof.Proof.Spec
public import proofs.«01_k».proof.Proof.Tiles

@[expose] public section

set_option maxRecDepth 16384

noncomputable section

namespace Cert.KernelIdeal.Band

open Cert.KernelIdeal.Gen Cert.KernelIdeal.Tiles
open Idealize.ShloMosaic Idealize.ShloMosaic.TcCoe Idealize.SL.Sem
open Idealize.ShloMosaic.Pipeline (Dat)

/-- What a load of a rectangle of a whole buffer reads. -/
def rd {s : Shape} (M : Memref sig .tc .vmem s .f32) (h : M.IsWhole) (x : Vec Ideal s .f32) (r : Rect s) : r.shape.Idx → EReal :=
  View.readAt (Elt Ideal) M.view r.toLoadRect (h.unread x)

/-- It reads the contents there. -/
theorem rd_at {s : Shape} (M : Memref sig .tc .vmem s .f32) (h : M.IsWhole) (x : Vec Ideal s .f32) (r : Rect s) (y : r.shape.Idx) :
    rd M h x r y = x (r.emb y) := by
  unfold rd
  rw [View.readAt_eq_ld, h.read_unread]
  rfl

/-- The activations of the region layer: a scale and a shift for each tile and channel, the negative part cut off. -/
def actV (x0 : Vec Ideal S1x132x132x32 .f32) (x1 x2 : Vec Ideal S8x8x32 .f32) : Spec.Img 32 132 132 := fun o h v =>
  max (x0 (ix4 0 h v o) * x1 (ix3 (Spec.tl h) (Spec.tl v) o) + x2 (ix3 (Spec.tl h) (Spec.tl v) o)) 0

/-- The region layer before its negative part is cut off. -/
def regV (x0 : Vec Ideal S1x132x132x32 .f32) (x1 x2 : Vec Ideal S8x8x32 .f32) (x3 : Vec Ideal S8x8x96x96 .f32) (x4 : Vec Ideal S8x8x32 .f32) :
    Spec.Img 32 132 132 := fun o h v =>
  (∑ u : Fin 3, ∑ k : Fin 96, Spec.tilePad (actV x0 x1 x2) (Spec.tl h) (Spec.tl v) ⟨k % 32, by omega⟩ ((h : Nat) % 18 + u) ((v : Nat) % 18 + k / 32)
    * x3 (ix4 (Spec.tl h) (Spec.tl v) k ⟨u * 32 + o, by omega⟩)) + x4 (ix3 (Spec.tl h) (Spec.tl v) o) + x0 (ix4 0 h v o)

/-- A band of 18 rows of it; below the image nothing. -/
def bandG (x0 : Vec Ideal S1x132x132x32 .f32) (x1 x2 : Vec Ideal S8x8x32 .f32) (x3 : Vec Ideal S8x8x96x96 .f32) (x4 : Vec Ideal S8x8x32 .f32)
    (i : Nat) : Vec Ideal S18x132x32 .f32 := fun y =>
  if h : 18 * i + (y 0).val < 132 then regV x0 x1 x2 x3 x4 (y 2) ⟨18 * i + (y 0).val, h⟩ (y 1) else 0

/-- A tile's formula over its own blocks is the region layer's at the tile's place. -/
theorem tile_reg (x0 : Vec Ideal S1x132x132x32 .f32) (x1 x2 : Vec Ideal S8x8x32 .f32) (x3 : Vec Ideal S8x8x96x96 .f32) (x4 : Vec Ideal S8x8x32 .f32)
    {hs ws : Nat} (i j : Nat) (hi : (i < 7 ∧ hs = 18) ∨ (i = 7 ∧ hs = 6)) (hj : (j < 7 ∧ ws = 18) ∨ (j = 7 ∧ ws = 6))
    (c : FVec Ideal ⟨4, ![1, hs, ws, 32]⟩ .f32) (rs rt : Vec Ideal S1x1x32 .f32) (w : Vec Ideal S1x1x96x96 .f32) (cb : Vec Ideal S1x1x32 .f32)
    (hc : ∀ (p : Fin hs) (r : Fin ws) (k : Fin 32), c (ix4 0 p r k) = x0 (ix4 0 ⟨18 * i + p, by omega⟩ ⟨18 * j + r, by omega⟩ k))
    (hrs : ∀ k : Fin 32, rs (ix3 0 0 k) = x1 (ix3 ⟨i, by omega⟩ ⟨j, by omega⟩ k)) (hrt : ∀ k : Fin 32, rt (ix3 0 0 k) = x2 (ix3 ⟨i, by omega⟩ ⟨j, by omega⟩ k))
    (hw : ∀ k l : Fin 96, w (ix4 0 0 k l) = x3 (ix4 ⟨i, by omega⟩ ⟨j, by omega⟩ k l)) (hcb : ∀ k : Fin 32, cb (ix3 0 0 k) = x4 (ix3 ⟨i, by omega⟩ ⟨j, by omega⟩ k))
    (a : Fin hs) (b : Fin ws) (o : Fin 32) :
    (∑ u : Fin 3, ∑ k : Fin 96, Tiles.pad (Tiles.act c rs rt (⟨k % 32, by omega⟩ : Fin 32)) (a + u) (b + k / 32)
          * w (ix4 0 0 k (⟨u * 32 + o, by omega⟩ : Fin 96))) + cb (ix3 0 0 o) + c (ix4 0 a b o)
      = regV x0 x1 x2 x3 x4 o ⟨18 * i + a, by omega⟩ ⟨18 * j + b, by omega⟩ := by
  have ta : Spec.tl ⟨18 * i + a, by omega⟩ = ⟨i, by omega⟩ := Fin.ext (show (18 * i + (a : Nat)) / 18 = i by omega)
  have tb : Spec.tl ⟨18 * j + b, by omega⟩ = ⟨j, by omega⟩ := Fin.ext (show (18 * j + (b : Nat)) / 18 = j by omega)
  have ma : (18 * i + (a : Nat)) % 18 = a := by omega
  have mb : (18 * j + (b : Nat)) % 18 = b := by omega
  unfold regV
  rw [ta, tb]
  refine congrArg₂ (· + ·) (congrArg₂ (· + ·) ?_ (hcb o)) (hc a b o)
  refine Finset.sum_congr rfl fun u _ => Finset.sum_congr rfl fun k _ => congrArg₂ (· * ·) ?_ (hw k _)
  show _ = Spec.tilePad _ _ _ _ ((18 * i + (a : Nat)) % 18 + u) ((18 * j + (b : Nat)) % 18 + k / 32)
  rw [ma, mb]
  unfold Tiles.pad Spec.tilePad
  refine dif_of (fun h => val_dif (by dsimp only; omega) ?_) fun h => zero_dif (by dsimp only; omega)
  have tp : Spec.tl ⟨18 * i + (a + u) - 1, by omega⟩ = ⟨i, by omega⟩ := Fin.ext (show (18 * i + (a + u : Nat) - 1) / 18 = i by omega)
  have tq : Spec.tl ⟨18 * j + (b + k / 32) - 1, by omega⟩ = ⟨j, by omega⟩ := Fin.ext (show (18 * j + (b + k / 32 : Nat) - 1) / 18 = j by omega)
  unfold Tiles.act actV
  rw [tp, tq, hrs, hrt, hc]
  refine congrArg (fun z => max (z * _ + _) 0) (congrArg x0 ?_)
  exact congrArg₂ (fun p q => ix4 0 p q _) (Fin.ext (show 18 * i + (a + u - 1 : Nat) = 18 * i + (a + u) - 1 by omega))
    (Fin.ext (show 18 * j + (b + k / 32 - 1 : Nat) = 18 * j + (b + k / 32) - 1 by omega))

/-- A tile's rectangle of the image lies in it. -/
theorem inb_c {i j hs ws : Nat} (hi : (i < 7 ∧ hs = 18) ∨ (i = 7 ∧ hs = 6)) (hj : (j < 7 ∧ ws = 18) ∨ (j = 7 ∧ ws = 6)) :
    ∀ a, (![0, 18 * i, 18 * j, 0] : Fin 4 → Nat) a + (![1, hs, ws, 32] : Fin 4 → Nat) a ≤ S1x132x132x32.size a := by
  intro a
  fin_cases a <;> simp [S1x132x132x32] <;> omega

/-- A tile's row of a table lies in it. -/
theorem inb_s {i j : Nat} (hi : i < 8) (hj : j < 8) : ∀ a, (![i, j, 0] : Fin 3 → Nat) a + S1x1x32.size a ≤ S8x8x32.size a := by
  intro a
  fin_cases a <;> simp [S1x1x32, S8x8x32] <;> omega

/-- A tile's weights lie in their table. -/
theorem inb_w {i j : Nat} (hi : i < 8) (hj : j < 8) : ∀ a, (![i, j, 0, 0] : Fin 4 → Nat) a + S1x1x96x96.size a ≤ S8x8x96x96.size a := by
  intro a
  fin_cases a <;> simp [S1x1x96x96, S8x8x96x96] <;> omega

/-- A tile's rectangle of a band lies in it. -/
theorem inb_b {j hs ws : Nat} (hh : hs ≤ 18) (hj : (j < 7 ∧ ws = 18) ∨ (j = 7 ∧ ws = 6)) :
    ∀ a, (![0, 18 * j, 0] : Fin 3 → Nat) a + (![hs, ws, 32] : Fin 3 → Nat) a ≤ S18x132x32.size a := by
  intro a
  fin_cases a <;> simp [S18x132x32] <;> omega

/-- A part of the list's head. -/
theorem step {s : Shape} {p : View.Piece (Elt Ideal) s .f32} {L : List (View.Piece (Elt Ideal) s .f32)} {y : s.Idx} (c : Prop) [Decidable c]
    (h1 : c → y ∈ p.1.set) (h2 : ¬c → ∃ q ∈ L, y ∈ q.1.set) : ∃ q ∈ p :: L, y ∈ q.1.set := by
  by_cases h : c
  · exact ⟨p, List.mem_cons_self, h1 h⟩
  · obtain ⟨q, hq, hy⟩ := h2 h
    exact ⟨q, List.mem_cons_of_mem _ hq, hy⟩

/-- Membership of a rectangle of three axes. -/
theorem mem3 {d off size : Fin 3 → Nat} {inb : ∀ a, off a + size a ≤ d a} {y : (⟨3, d⟩ : Shape).Idx}
    (h : (off 0 ≤ y 0 ∧ (y 0 : Nat) < off 0 + size 0) ∧ (off 1 ≤ y 1 ∧ (y 1 : Nat) < off 1 + size 1) ∧ (off 2 ≤ y 2 ∧ (y 2 : Nat) < off 2 + size 2)) :
    y ∈ (Rect.unit (s := ⟨3, d⟩) off size inb).set := Rect.mem_set_unit.mpr fun a => by
  fin_cases a
  · exact h.1
  · exact h.2.1
  · exact h.2.2

/-- Eight tiles of a band reach each element of their rows. -/
theorem cov_band {hs : Nat} {b7 b6 b5 b4 b3 b2 b1 b0} {w7 w6 w5 w4 w3 w2 w1 w0} (y : S18x132x32.Idx) (hy : (y 0).val < hs) :
    ∃ p ∈ ([⟨Rect.unit (s := S18x132x32) ![0, 126, 0] ![hs, 6, 32] b7, w7⟩, ⟨Rect.unit (s := S18x132x32) ![0, 108, 0] ![hs, 18, 32] b6, w6⟩, ⟨Rect.unit (s := S18x132x32) ![0, 90, 0] ![hs, 18, 32] b5, w5⟩, ⟨Rect.unit (s := S18x132x32) ![0, 72, 0] ![hs, 18, 32] b4, w4⟩, ⟨Rect.unit (s := S18x132x32) ![0, 54, 0] ![hs, 18, 32] b3, w3⟩, ⟨Rect.unit (s := S18x132x32) ![0, 36, 0] ![hs, 18, 32] b2, w2⟩, ⟨Rect.unit (s := S18x132x32) ![0, 18, 0] ![hs, 18, 32] b1, w1⟩, ⟨Rect.unit (s := S18x132x32) ![0, 0, 0] ![hs, 18, 32] b0, w0⟩] : List (View.Piece (Elt Ideal) S18x132x32 .f32)), y ∈ p.1.set := by
  have h1 : (y 1).val < 132 := (y 1).isLt
  have h2 : (y 2).val < 32 := (y 2).isLt
  refine step (126 ≤ (y 1).val) (fun h => mem3 (inb := b7) (show (0 ≤ (y 0).val ∧ (y 0).val < 0 + hs) ∧ (126 ≤ (y 1).val ∧ (y 1).val < 126 + 6) ∧ (0 ≤ (y 2).val ∧ (y 2).val < 0 + 32) by omega)) fun _ => ?_
  refine step (108 ≤ (y 1).val) (fun h => mem3 (inb := b6) (show (0 ≤ (y 0).val ∧ (y 0).val < 0 + hs) ∧ (108 ≤ (y 1).val ∧ (y 1).val < 108 + 18) ∧ (0 ≤ (y 2).val ∧ (y 2).val < 0 + 32) by omega)) fun _ => ?_
  refine step (90 ≤ (y 1).val) (fun h => mem3 (inb := b5) (show (0 ≤ (y 0).val ∧ (y 0).val < 0 + hs) ∧ (90 ≤ (y 1).val ∧ (y 1).val < 90 + 18) ∧ (0 ≤ (y 2).val ∧ (y 2).val < 0 + 32) by omega)) fun _ => ?_
  refine step (72 ≤ (y 1).val) (fun h => mem3 (inb := b4) (show (0 ≤ (y 0).val ∧ (y 0).val < 0 + hs) ∧ (72 ≤ (y 1).val ∧ (y 1).val < 72 + 18) ∧ (0 ≤ (y 2).val ∧ (y 2).val < 0 + 32) by omega)) fun _ => ?_
  refine step (54 ≤ (y 1).val) (fun h => mem3 (inb := b3) (show (0 ≤ (y 0).val ∧ (y 0).val < 0 + hs) ∧ (54 ≤ (y 1).val ∧ (y 1).val < 54 + 18) ∧ (0 ≤ (y 2).val ∧ (y 2).val < 0 + 32) by omega)) fun _ => ?_
  refine step (36 ≤ (y 1).val) (fun h => mem3 (inb := b2) (show (0 ≤ (y 0).val ∧ (y 0).val < 0 + hs) ∧ (36 ≤ (y 1).val ∧ (y 1).val < 36 + 18) ∧ (0 ≤ (y 2).val ∧ (y 2).val < 0 + 32) by omega)) fun _ => ?_
  refine step (18 ≤ (y 1).val) (fun h => mem3 (inb := b1) (show (0 ≤ (y 0).val ∧ (y 0).val < 0 + hs) ∧ (18 ≤ (y 1).val ∧ (y 1).val < 18 + 18) ∧ (0 ≤ (y 2).val ∧ (y 2).val < 0 + 32) by omega)) fun _ => ?_
  refine step (0 ≤ (y 1).val) (fun h => mem3 (inb := b0) (show (0 ≤ (y 0).val ∧ (y 0).val < 0 + hs) ∧ (0 ≤ (y 1).val ∧ (y 1).val < 0 + 18) ∧ (0 ≤ (y 2).val ∧ (y 2).val < 0 + 32) by omega)) fun _ => ?_
  omega

variable (arg1 : Memref sig .tc .vmem S1x132x132x32 .f32) (harg1 : arg1.IsWhole) (arg2 : Memref sig .tc .vmem S8x8x32 .f32) (harg2 : arg2.IsWhole)
  (arg3 : Memref sig .tc .vmem S8x8x32 .f32) (harg3 : arg3.IsWhole) (arg4 : Memref sig .tc .vmem S8x8x96x96 .f32) (harg4 : arg4.IsWhole)
  (arg5 : Memref sig .tc .vmem S8x8x32 .f32) (harg5 : arg5.IsWhole)
  (x0 : Vec Ideal S1x132x132x32 .f32) (x1 x2 : Vec Ideal S8x8x32 .f32) (x3 : Vec Ideal S8x8x96x96 .f32) (x4 : Vec Ideal S8x8x32 .f32)

/-- The image's tile. -/
def ldC {hs ws : Nat} (i j : Nat) (hi : (i < 7 ∧ hs = 18) ∨ (i = 7 ∧ hs = 6)) (hj : (j < 7 ∧ ws = 18) ∨ (j = 7 ∧ ws = 6)) :
    FVec Ideal ⟨4, ![1, hs, ws, 32]⟩ .f32 := rd arg1 harg1 x0 (Rect.unit ![0, 18 * i, 18 * j, 0] ![1, hs, ws, 32] (inb_c hi hj))

/-- A table's row of a tile. -/
def ldS (i j : Nat) (hi : i < 8) (hj : j < 8) : Vec Ideal S1x1x32 .f32 := rd arg2 harg2 x1 (Rect.unit ![i, j, 0] S1x1x32.size (inb_s hi hj))

/-- A tile's weights. -/
def ldW (i j : Nat) (hi : i < 8) (hj : j < 8) : Vec Ideal S1x1x96x96 .f32 := rd arg4 harg4 x3 (Rect.unit ![i, j, 0, 0] S1x1x96x96.size (inb_w hi hj))

/-- The image's tile at an element. -/
theorem ldC_at {hs ws : Nat} (i j : Nat) (hi : (i < 7 ∧ hs = 18) ∨ (i = 7 ∧ hs = 6)) (hj : (j < 7 ∧ ws = 18) ∨ (j = 7 ∧ ws = 6))
    (p : Fin hs) (r : Fin ws) (k : Fin 32) :
    ldC arg1 harg1 x0 i j hi hj (ix4 0 p r k) = x0 (ix4 0 ⟨18 * i + p, by omega⟩ ⟨18 * j + r, by omega⟩ k) := by
  unfold ldC
  rw [rd_at]
  refine congrArg x0 (funext fun a => Fin.ext ?_)
  fin_cases a
  · show 0 + 1 * 0 = 0
    omega
  · show 18 * i + 1 * (p : Nat) = 18 * i + p
    omega
  · show 18 * j + 1 * (r : Nat) = 18 * j + r
    omega
  · show 0 + 1 * (k : Nat) = k
    omega

/-- A table's row at an element. -/
theorem ldS_at (i j : Nat) (hi : i < 8) (hj : j < 8) (k : Fin 32) : ldS arg2 harg2 x1 i j hi hj (ix3 0 0 k) = x1 (ix3 ⟨i, hi⟩ ⟨j, hj⟩ k) := by
  unfold ldS
  rw [rd_at]
  refine congrArg x1 (funext fun a => Fin.ext ?_)
  fin_cases a
  · show i + 1 * 0 = i
    omega
  · show j + 1 * 0 = j
    omega
  · show 0 + 1 * (k : Nat) = k
    omega

/-- A tile's weights at an element. -/
theorem ldW_at (i j : Nat) (hi : i < 8) (hj : j < 8) (k l : Fin 96) : ldW arg4 harg4 x3 i j hi hj (ix4 0 0 k l) = x3 (ix4 ⟨i, hi⟩ ⟨j, hj⟩ k l) := by
  unfold ldW
  rw [rd_at]
  refine congrArg x3 (funext fun a => Fin.ext ?_)
  fin_cases a
  · show i + 1 * 0 = i
    omega
  · show j + 1 * 0 = j
    omega
  · show 0 + 1 * (k : Nat) = k
    omega
  · show 0 + 1 * (l : Nat) = l
    omega

/-- A stored tile is its part of the band. -/
theorem stA (P : Vec Ideal S1x18x18x32 .f32 → Vec Ideal S1x1x32 .f32 → Vec Ideal S1x1x32 .f32 → Vec Ideal S1x1x96x96 .f32 → Vec Ideal S1x1x32 .f32 →
    FVec Ideal S18x18x32 .f32) (hP : ∀ c rs rt w cb, P c rs rt w cb = tileA c rs rt w cb) (i j : Nat) (hi : i < 7) (hj : j < 7) (y : S18x18x32.Idx) :
    P (ldC arg1 harg1 x0 i j (by omega) (by omega)) (ldS arg2 harg2 x1 i j (by omega) (by omega)) (ldS arg3 harg3 x2 i j (by omega) (by omega))
        (ldW arg4 harg4 x3 i j (by omega) (by omega)) (ldS arg5 harg5 x4 i j (by omega) (by omega)) y
      = bandG x0 x1 x2 x3 x4 i ((Rect.unit (s := S18x132x32) ![0, 18 * j, 0] ![18, 18, 32] (inb_b (by omega) (by omega))).emb y) := by
  rw [hP]
  idx_vars y
  refine (tileA_at ..).trans ((tile_reg x0 x1 x2 x3 x4 i j (by omega) (by omega) _ _ _ _ _ ?_ ?_ ?_ ?_ ?_ ..).trans (val_dif ?_ ?_))
  · exact fun p r k => ldC_at ..
  · exact fun k => ldS_at ..
  · exact fun k => ldS_at ..
  · exact fun k l => ldW_at ..
  · exact fun k => ldS_at ..
  · show 18 * i + (0 + 1 * (y0 : Nat)) < 132
    omega
  · refine congr (congr (congrArg (regV x0 x1 x2 x3 x4) ?_) ?_) ?_
    · exact Fin.ext (show (y2 : Nat) = 0 + 1 * (y2 : Nat) by omega)
    · exact Fin.ext (show 18 * i + (y0 : Nat) = 18 * i + (0 + 1 * (y0 : Nat)) by omega)
    · exact Fin.ext (show 18 * j + (y1 : Nat) = 18 * j + 1 * (y1 : Nat) by omega)

/-- A stored tile is its part of the band. -/
theorem stB (P : Vec Ideal S1x18x6x32 .f32 → Vec Ideal S1x1x32 .f32 → Vec Ideal S1x1x32 .f32 → Vec Ideal S1x1x96x96 .f32 → Vec Ideal S1x1x32 .f32 →
    FVec Ideal S18x6x32 .f32) (hP : ∀ c rs rt w cb, P c rs rt w cb = tileB c rs rt w cb) (i j : Nat) (hi : i < 7) (hj : j = 7) (y : S18x6x32.Idx) :
    P (ldC arg1 harg1 x0 i j (by omega) (by omega)) (ldS arg2 harg2 x1 i j (by omega) (by omega)) (ldS arg3 harg3 x2 i j (by omega) (by omega))
        (ldW arg4 harg4 x3 i j (by omega) (by omega)) (ldS arg5 harg5 x4 i j (by omega) (by omega)) y
      = bandG x0 x1 x2 x3 x4 i ((Rect.unit (s := S18x132x32) ![0, 18 * j, 0] ![18, 6, 32] (inb_b (by omega) (by omega))).emb y) := by
  rw [hP]
  idx_vars y
  refine (tileB_at ..).trans ((tile_reg x0 x1 x2 x3 x4 i j (by omega) (by omega) _ _ _ _ _ ?_ ?_ ?_ ?_ ?_ ..).trans (val_dif ?_ ?_))
  · exact fun p r k => ldC_at ..
  · exact fun k => ldS_at ..
  · exact fun k => ldS_at ..
  · exact fun k l => ldW_at ..
  · exact fun k => ldS_at ..
  · show 18 * i + (0 + 1 * (y0 : Nat)) < 132
    omega
  · refine congr (congr (congrArg (regV x0 x1 x2 x3 x4) ?_) ?_) ?_
    · exact Fin.ext (show (y2 : Nat) = 0 + 1 * (y2 : Nat) by omega)
    · exact Fin.ext (show 18 * i + (y0 : Nat) = 18 * i + (0 + 1 * (y0 : Nat)) by omega)
    · exact Fin.ext (show 18 * j + (y1 : Nat) = 18 * j + 1 * (y1 : Nat) by omega)

/-- A stored tile is its part of the band. -/
theorem stC (P : Vec Ideal S1x6x18x32 .f32 → Vec Ideal S1x1x32 .f32 → Vec Ideal S1x1x32 .f32 → Vec Ideal S1x1x96x96 .f32 → Vec Ideal S1x1x32 .f32 →
    FVec Ideal S6x18x32 .f32) (hP : ∀ c rs rt w cb, P c rs rt w cb = tileC c rs rt w cb) (i j : Nat) (hi : i = 7) (hj : j < 7) (y : S6x18x32.Idx) :
    P (ldC arg1 harg1 x0 i j (by omega) (by omega)) (ldS arg2 harg2 x1 i j (by omega) (by omega)) (ldS arg3 harg3 x2 i j (by omega) (by omega))
        (ldW arg4 harg4 x3 i j (by omega) (by omega)) (ldS arg5 harg5 x4 i j (by omega) (by omega)) y
      = bandG x0 x1 x2 x3 x4 i ((Rect.unit (s := S18x132x32) ![0, 18 * j, 0] ![6, 18, 32] (inb_b (by omega) (by omega))).emb y) := by
  rw [hP]
  idx_vars y
  refine (tileC_at ..).trans ((tile_reg x0 x1 x2 x3 x4 i j (by omega) (by omega) _ _ _ _ _ ?_ ?_ ?_ ?_ ?_ ..).trans (val_dif ?_ ?_))
  · exact fun p r k => ldC_at ..
  · exact fun k => ldS_at ..
  · exact fun k => ldS_at ..
  · exact fun k l => ldW_at ..
  · exact fun k => ldS_at ..
  · show 18 * i + (0 + 1 * (y0 : Nat)) < 132
    omega
  · refine congr (congr (congrArg (regV x0 x1 x2 x3 x4) ?_) ?_) ?_
    · exact Fin.ext (show (y2 : Nat) = 0 + 1 * (y2 : Nat) by omega)
    · exact Fin.ext (show 18 * i + (y0 : Nat) = 18 * i + (0 + 1 * (y0 : Nat)) by omega)
    · exact Fin.ext (show 18 * j + (y1 : Nat) = 18 * j + 1 * (y1 : Nat) by omega)

/-- A stored tile is its part of the band. -/
theorem stD (P : Vec Ideal S1x6x6x32 .f32 → Vec Ideal S1x1x32 .f32 → Vec Ideal S1x1x32 .f32 → Vec Ideal S1x1x96x96 .f32 → Vec Ideal S1x1x32 .f32 →
    FVec Ideal S6x6x32 .f32) (hP : ∀ c rs rt w cb, P c rs rt w cb = tileD c rs rt w cb) (i j : Nat) (hi : i = 7) (hj : j = 7) (y : S6x6x32.Idx) :
    P (ldC arg1 harg1 x0 i j (by omega) (by omega)) (ldS arg2 harg2 x1 i j (by omega) (by omega)) (ldS arg3 harg3 x2 i j (by omega) (by omega))
        (ldW arg4 harg4 x3 i j (by omega) (by omega)) (ldS arg5 harg5 x4 i j (by omega) (by omega)) y
      = bandG x0 x1 x2 x3 x4 i ((Rect.unit (s := S18x132x32) ![0, 18 * j, 0] ![6, 6, 32] (inb_b (by omega) (by omega))).emb y) := by
  rw [hP]
  idx_vars y
  refine (tileD_at ..).trans ((tile_reg x0 x1 x2 x3 x4 i j (by omega) (by omega) _ _ _ _ _ ?_ ?_ ?_ ?_ ?_ ..).trans (val_dif ?_ ?_))
  · exact fun p r k => ldC_at ..
  · exact fun k => ldS_at ..
  · exact fun k => ldS_at ..
  · exact fun k l => ldW_at ..
  · exact fun k => ldS_at ..
  · show 18 * i + (0 + 1 * (y0 : Nat)) < 132
    omega
  · refine congr (congr (congrArg (regV x0 x1 x2 x3 x4) ?_) ?_) ?_
    · exact Fin.ext (show (y2 : Nat) = 0 + 1 * (y2 : Nat) by omega)
    · exact Fin.ext (show 18 * i + (y0 : Nat) = 18 * i + (0 + 1 * (y0 : Nat)) by omega)
    · exact Fin.ext (show 18 * j + (y1 : Nat) = 18 * j + 1 * (y1 : Nat) by omega)

end Cert.KernelIdeal.Band

end

end
-- ==== Proof.Bands.lean ====
module

public import Idealize.ShloMosaic.Lib.Pipeline.ValueKit
public import Idealize.ShloMosaic.Lib.Pipeline.ReadBack
public import proofs.«01_k».proof.Proof.Gen.KernelIdeal.Frame
public import proofs.«01_k».proof.Proof.Band

@[expose] public section

set_option maxRecDepth 16384

noncomputable section

namespace Cert.KernelIdeal.Band

open Cert.KernelIdeal.Gen Cert.KernelIdeal.Tiles
open Idealize.ShloMosaic Idealize.ShloMosaic.TcCoe Idealize.SL.Sem
open Idealize.ShloMosaic.Pipeline (Dat)

variable (arg1 : Memref sig .tc .vmem S1x132x132x32 .f32) (harg1 : arg1.IsWhole) (arg2 : Memref sig .tc .vmem S8x8x32 .f32) (harg2 : arg2.IsWhole)
  (arg3 : Memref sig .tc .vmem S8x8x32 .f32) (harg3 : arg3.IsWhole) (arg4 : Memref sig .tc .vmem S8x8x96x96 .f32) (harg4 : arg4.IsWhole)
  (arg5 : Memref sig .tc .vmem S8x8x32 .f32) (harg5 : arg5.IsWhole)
  (x0 : Vec Ideal S1x132x132x32 .f32) (x1 x2 : Vec Ideal S8x8x32 .f32) (x3 : Vec Ideal S8x8x96x96 .f32) (x4 : Vec Ideal S8x8x32 .f32)

/-- The band 0: its tiles. -/
theorem pieces0 (c : Dev nD) : ∃ L, kernelRun1_A.sl.HS0_8 (F := Ideal) c arg1 harg1 arg2 harg2 arg3 harg3 arg4 harg4 arg5 harg5 x0 x1 x2 x3 x4 = L ++ []
      ∧ View.PiecesOf (bandG x0 x1 x2 x3 x4 0) L ∧ ∀ y : S18x132x32.Idx, (y 0).val < 18 → ∃ p ∈ L, y ∈ p.1.set := by
  unfold kernelRun1_A.sl.HS0_8
  refine ⟨[_, _, _, _, _, _, _, _], rfl, ⟨?_, ?_, ?_, ?_, ?_, ?_, ?_, ?_, trivial⟩, fun y hy => cov_band y hy⟩
  · intro y
    have e := stB arg1 harg1 arg2 harg2 arg3 harg3 arg4 harg4 arg5 harg5 x0 x1 x2 x3 x4 (fun c rs rt w cb => k1_pay31 (k1_pay30 c) rs rt w cb) (fun _ _ _ _ _ => rfl) 0 7 (by decide) (by decide) y
    exact e
  · intro y
    have e := stA arg1 harg1 arg2 harg2 arg3 harg3 arg4 harg4 arg5 harg5 x0 x1 x2 x3 x4 (fun c rs rt w cb => k1_pay29 (k1_pay27 c) (k1_pay28 rs) rt w cb) (fun _ _ _ _ _ => rfl) 0 6 (by decide) (by decide) y
    exact e
  · intro y
    have e := stA arg1 harg1 arg2 harg2 arg3 harg3 arg4 harg4 arg5 harg5 x0 x1 x2 x3 x4 (fun c rs rt w cb => k1_pay26 (k1_pay23 c) (k1_pay24 c rs) (k1_pay25 rt) w cb) (fun _ _ _ _ _ => rfl) 0 5 (by decide) (by decide) y
    exact e
  · intro y
    have e := stA arg1 harg1 arg2 harg2 arg3 harg3 arg4 harg4 arg5 harg5 x0 x1 x2 x3 x4 (fun c rs rt w cb => k1_pay22 (k1_pay20 c) (k1_pay21 c rs rt) w cb) (fun _ _ _ _ _ => rfl) 0 4 (by decide) (by decide) y
    exact e
  · intro y
    have e := stA arg1 harg1 arg2 harg2 arg3 harg3 arg4 harg4 arg5 harg5 x0 x1 x2 x3 x4 (fun c rs rt w cb => k1_pay19 (k1_pay17 c) (k1_pay18 c rs rt) w cb) (fun _ _ _ _ _ => rfl) 0 3 (by decide) (by decide) y
    exact e
  · intro y
    have e := stA arg1 harg1 arg2 harg2 arg3 harg3 arg4 harg4 arg5 harg5 x0 x1 x2 x3 x4 (fun c rs rt w cb => k1_pay16 (k1_pay13 c) (k1_pay14 c rs rt) (k1_pay15 w) cb) (fun _ _ _ _ _ => rfl) 0 2 (by decide) (by decide) y
    exact e
  · intro y
    have e := stA arg1 harg1 arg2 harg2 arg3 harg3 arg4 harg4 arg5 harg5 x0 x1 x2 x3 x4 (fun c rs rt w cb => k1_pay12 (k1_pay9 c) (k1_pay10 w) (k1_pay11 c rs rt) (constant S360x96 FTy.f32 0x00000000#32) cb) (fun _ _ _ _ _ => rfl) 0 1 (by decide) (by decide) y
    exact e
  · intro y
    have e := stA arg1 harg1 arg2 harg2 arg3 harg3 arg4 harg4 arg5 harg5 x0 x1 x2 x3 x4 (fun c rs rt w cb => k1_pay8 (k1_pay4 c) (k1_pay6 c rs rt w) (k1_pay7 c rs rt w) cb) (fun _ _ _ _ _ => rfl) 0 0 (by decide) (by decide) y
    exact e
/-- The band 1: its tiles, stored over the earlier ones. -/
theorem pieces1 (c : Dev nD) : ∃ L, kernelRun1_A.sl.HS0_16 (F := Ideal) c arg1 harg1 arg2 harg2 arg3 harg3 arg4 harg4 arg5 harg5 x0 x1 x2 x3 x4 = L ++ kernelRun1_A.sl.HS0_8 (F := Ideal) c arg1 harg1 arg2 harg2 arg3 harg3 arg4 harg4 arg5 harg5 x0 x1 x2 x3 x4
      ∧ View.PiecesOf (bandG x0 x1 x2 x3 x4 1) L ∧ ∀ y : S18x132x32.Idx, (y 0).val < 18 → ∃ p ∈ L, y ∈ p.1.set := by
  unfold kernelRun1_A.sl.HS0_16
  refine ⟨[_, _, _, _, _, _, _, _], rfl, ⟨?_, ?_, ?_, ?_, ?_, ?_, ?_, ?_, trivial⟩, fun y hy => cov_band y hy⟩
  · intro y
    have e := stB arg1 harg1 arg2 harg2 arg3 harg3 arg4 harg4 arg5 harg5 x0 x1 x2 x3 x4 (fun c rs rt w cb => k1_pay58 (k1_pay54 c) (k1_pay56 c rs rt w) (k1_pay57 c rs rt w) cb) (fun _ _ _ _ _ => rfl) 1 7 (by decide) (by decide) y
    exact e
  · intro y
    have e := stA arg1 harg1 arg2 harg2 arg3 harg3 arg4 harg4 arg5 harg5 x0 x1 x2 x3 x4 (fun c rs rt w cb => k1_pay53 (k1_pay50 c) (k1_pay51 c rs rt w) (k1_pay52 cb)) (fun _ _ _ _ _ => rfl) 1 6 (by decide) (by decide) y
    exact e
  · intro y
    have e := stA arg1 harg1 arg2 harg2 arg3 harg3 arg4 harg4 arg5 harg5 x0 x1 x2 x3 x4 (fun c rs rt w cb => k1_pay49 (k1_pay48 c rs rt w cb)) (fun _ _ _ _ _ => rfl) 1 5 (by decide) (by decide) y
    exact e
  · intro y
    have e := stA arg1 harg1 arg2 harg2 arg3 harg3 arg4 harg4 arg5 harg5 x0 x1 x2 x3 x4 (fun c rs rt w cb => k1_pay47 (k1_pay46 c) rs rt w cb) (fun _ _ _ _ _ => rfl) 1 4 (by decide) (by decide) y
    exact e
  · intro y
    have e := stA arg1 harg1 arg2 harg2 arg3 harg3 arg4 harg4 arg5 harg5 x0 x1 x2 x3 x4 (fun c rs rt w cb => k1_pay45 (k1_pay43 c) (k1_pay44 rs) rt w cb) (fun _ _ _ _ _ => rfl) 1 3 (by decide) (by decide) y
    exact e
  · intro y
    have e := stA arg1 harg1 arg2 harg2 arg3 harg3 arg4 harg4 arg5 harg5 x0 x1 x2 x3 x4 (fun c rs rt w cb => k1_pay42 (k1_pay39 c) (k1_pay40 c rs) (k1_pay41 rt) w cb) (fun _ _ _ _ _ => rfl) 1 2 (by decide) (by decide) y
    exact e
  · intro y
    have e := stA arg1 harg1 arg2 harg2 arg3 harg3 arg4 harg4 arg5 harg5 x0 x1 x2 x3 x4 (fun c rs rt w cb => k1_pay38 (k1_pay36 c) (k1_pay37 c rs rt) w cb) (fun _ _ _ _ _ => rfl) 1 1 (by decide) (by decide) y
    exact e
  · intro y
    have e := stA arg1 harg1 arg2 harg2 arg3 harg3 arg4 harg4 arg5 harg5 x0 x1 x2 x3 x4 (fun c rs rt w cb => k1_pay35 (k1_pay33 c) (k1_pay34 c rs rt) w cb) (fun _ _ _ _ _ => rfl) 1 0 (by decide) (by decide) y
    exact e
/-- The band 2: its tiles, stored over the earlier ones. -/
theorem pieces2 (c : Dev nD) : ∃ L, kernelRun1_A.sl.HS0_24 (F := Ideal) c arg1 harg1 arg2 harg2 arg3 harg3 arg4 harg4 arg5 harg5 x0 x1 x2 x3 x4 = L ++ kernelRun1_A.sl.HS0_16 (F := Ideal) c arg1 harg1 arg2 harg2 arg3 harg3 arg4 harg4 arg5 harg5 x0 x1 x2 x3 x4
      ∧ View.PiecesOf (bandG x0 x1 x2 x3 x4 2) L ∧ ∀ y : S18x132x32.Idx, (y 0).val < 18 → ∃ p ∈ L, y ∈ p.1.set := by
  unfold kernelRun1_A.sl.HS0_24
  refine ⟨[_, _, _, _, _, _, _, _], rfl, ⟨?_, ?_, ?_, ?_, ?_, ?_, ?_, ?_, trivial⟩, fun y hy => cov_band y hy⟩
  · intro y
    have e := stB arg1 harg1 arg2 harg2 arg3 harg3 arg4 harg4 arg5 harg5 x0 x1 x2 x3 x4 (fun c rs rt w cb => k1_pay86 (k1_pay84 c) (k1_pay85 c rs rt) w cb) (fun _ _ _ _ _ => rfl) 2 7 (by decide) (by decide) y
    exact e
  · intro y
    have e := stA arg1 harg1 arg2 harg2 arg3 harg3 arg4 harg4 arg5 harg5 x0 x1 x2 x3 x4 (fun c rs rt w cb => k1_pay83 (k1_pay80 c) (k1_pay81 c rs rt) (k1_pay82 w) cb) (fun _ _ _ _ _ => rfl) 2 6 (by decide) (by decide) y
    exact e
  · intro y
    have e := stA arg1 harg1 arg2 harg2 arg3 harg3 arg4 harg4 arg5 harg5 x0 x1 x2 x3 x4 (fun c rs rt w cb => k1_pay79 (k1_pay76 c) (k1_pay77 w) (k1_pay78 c rs rt) (constant S360x96 FTy.f32 0x00000000#32) cb) (fun _ _ _ _ _ => rfl) 2 5 (by decide) (by decide) y
    exact e
  · intro y
    have e := stA arg1 harg1 arg2 harg2 arg3 harg3 arg4 harg4 arg5 harg5 x0 x1 x2 x3 x4 (fun c rs rt w cb => k1_pay75 (k1_pay71 c) (k1_pay73 c rs rt w) (k1_pay74 c rs rt w) cb) (fun _ _ _ _ _ => rfl) 2 4 (by decide) (by decide) y
    exact e
  · intro y
    have e := stA arg1 harg1 arg2 harg2 arg3 harg3 arg4 harg4 arg5 harg5 x0 x1 x2 x3 x4 (fun c rs rt w cb => k1_pay70 (k1_pay67 c) (k1_pay68 c rs rt w) (k1_pay69 cb)) (fun _ _ _ _ _ => rfl) 2 3 (by decide) (by decide) y
    exact e
  · intro y
    have e := stA arg1 harg1 arg2 harg2 arg3 harg3 arg4 harg4 arg5 harg5 x0 x1 x2 x3 x4 (fun c rs rt w cb => k1_pay66 (k1_pay65 c rs rt w cb)) (fun _ _ _ _ _ => rfl) 2 2 (by decide) (by decide) y
    exact e
  · intro y
    have e := stA arg1 harg1 arg2 harg2 arg3 harg3 arg4 harg4 arg5 harg5 x0 x1 x2 x3 x4 (fun c rs rt w cb => k1_pay64 (k1_pay63 c) rs rt w cb) (fun _ _ _ _ _ => rfl) 2 1 (by decide) (by decide) y
    exact e
  · intro y
    have e := stA arg1 harg1 arg2 harg2 arg3 harg3 arg4 harg4 arg5 harg5 x0 x1 x2 x3 x4 (fun c rs rt w cb => k1_pay62 (k1_pay60 c) (k1_pay61 rs) rt w cb) (fun _ _ _ _ _ => rfl) 2 0 (by decide) (by decide) y
    exact e
/-- The band 3: its tiles, stored over the earlier ones. -/
theorem pieces3 (c : Dev nD) : ∃ L, kernelRun1_A.sl.HS0_32 (F := Ideal) c arg1 harg1 arg2 harg2 arg3 harg3 arg4 harg4 arg5 harg5 x0 x1 x2 x3 x4 = L ++ kernelRun1_A.sl.HS0_24 (F := Ideal) c arg1 harg1 arg2 harg2 arg3 harg3 arg4 harg4 arg5 harg5 x0 x1 x2 x3 x4
      ∧ View.PiecesOf (bandG x0 x1 x2 x3 x4 3) L ∧ ∀ y : S18x132x32.Idx, (y 0).val < 18 → ∃ p ∈ L, y ∈ p.1.set := by
  unfold kernelRun1_A.sl.HS0_32
  refine ⟨[_, _, _, _, _, _, _, _], rfl, ⟨?_, ?_, ?_, ?_, ?_, ?_, ?_, ?_, trivial⟩, fun y hy => cov_band y hy⟩
  · intro y
    have e := stB arg1 harg1 arg2 harg2 arg3 harg3 arg4 harg4 arg5 harg5 x0 x1 x2 x3 x4 (fun c rs rt w cb => k1_pay118 (k1_pay116 c) (k1_pay117 rs) rt w cb) (fun _ _ _ _ _ => rfl) 3 7 (by decide) (by decide) y
    exact e
  · intro y
    have e := stA arg1 harg1 arg2 harg2 arg3 harg3 arg4 harg4 arg5 harg5 x0 x1 x2 x3 x4 (fun c rs rt w cb => k1_pay115 (k1_pay112 c) (k1_pay113 c rs) (k1_pay114 rt) w cb) (fun _ _ _ _ _ => rfl) 3 6 (by decide) (by decide) y
    exact e
  · intro y
    have e := stA arg1 harg1 arg2 harg2 arg3 harg3 arg4 harg4 arg5 harg5 x0 x1 x2 x3 x4 (fun c rs rt w cb => k1_pay111 (k1_pay109 c) (k1_pay110 c rs rt) w cb) (fun _ _ _ _ _ => rfl) 3 5 (by decide) (by decide) y
    exact e
  · intro y
    have e := stA arg1 harg1 arg2 harg2 arg3 harg3 arg4 harg4 arg5 harg5 x0 x1 x2 x3 x4 (fun c rs rt w cb => k1_pay108 (k1_pay106 c) (k1_pay107 c rs rt) w cb) (fun _ _ _ _ _ => rfl) 3 4 (by decide) (by decide) y
    exact e
  · intro y
    have e := stA arg1 harg1 arg2 harg2 arg3 harg3 arg4 harg4 arg5 harg5 x0 x1 x2 x3 x4 (fun c rs rt w cb => k1_pay105 (k1_pay102 c) (k1_pay103 c rs rt) (k1_pay104 w) cb) (fun _ _ _ _ _ => rfl) 3 3 (by decide) (by decide) y
    exact e
  · intro y
    have e := stA arg1 harg1 arg2 harg2 arg3 harg3 arg4 harg4 arg5 harg5 x0 x1 x2 x3 x4 (fun c rs rt w cb => k1_pay101 (k1_pay98 c) (k1_pay99 w) (k1_pay100 c rs rt) (constant S360x96 FTy.f32 0x00000000#32) cb) (fun _ _ _ _ _ => rfl) 3 2 (by decide) (by decide) y
    exact e
  · intro y
    have e := stA arg1 harg1 arg2 harg2 arg3 harg3 arg4 harg4 arg5 harg5 x0 x1 x2 x3 x4 (fun c rs rt w cb => k1_pay97 (k1_pay93 c) (k1_pay95 c rs rt w) (k1_pay96 c rs rt w) cb) (fun _ _ _ _ _ => rfl) 3 1 (by decide) (by decide) y
    exact e
  · intro y
    have e := stA arg1 harg1 arg2 harg2 arg3 harg3 arg4 harg4 arg5 harg5 x0 x1 x2 x3 x4 (fun c rs rt w cb => k1_pay92 (k1_pay89 c) (k1_pay90 c rs rt w) (k1_pay91 cb)) (fun _ _ _ _ _ => rfl) 3 0 (by decide) (by decide) y
    exact e
/-- The band 4: its tiles, stored over the earlier ones. -/
theorem pieces4 (c : Dev nD) : ∃ L, kernelRun1_A.sl.HS0_40 (F := Ideal) c arg1 harg1 arg2 harg2 arg3 harg3 arg4 harg4 arg5 harg5 x0 x1 x2 x3 x4 = L ++ kernelRun1_A.sl.HS0_32 (F := Ideal) c arg1 harg1 arg2 harg2 arg3 harg3 arg4 harg4 arg5 harg5 x0 x1 x2 x3 x4
      ∧ View.PiecesOf (bandG x0 x1 x2 x3 x4 4) L ∧ ∀ y : S18x132x32.Idx, (y 0).val < 18 → ∃ p ∈ L, y ∈ p.1.set := by
  unfold kernelRun1_A.sl.HS0_40
  refine ⟨[_, _, _, _, _, _, _, _], rfl, ⟨?_, ?_, ?_, ?_, ?_, ?_, ?_, ?_, trivial⟩, fun y hy => cov_band y hy⟩
  · intro y
    have e := stB arg1 harg1 arg2 harg2 arg3 harg3 arg4 harg4 arg5 harg5 x0 x1 x2 x3 x4 (fun c rs rt w cb => k1_pay145 (k1_pay142 c) (k1_pay143 c rs rt w) (k1_pay144 cb)) (fun _ _ _ _ _ => rfl) 4 7 (by decide) (by decide) y
    exact e
  · intro y
    have e := stA arg1 harg1 arg2 harg2 arg3 harg3 arg4 harg4 arg5 harg5 x0 x1 x2 x3 x4 (fun c rs rt w cb => k1_pay141 (k1_pay140 c rs rt w cb)) (fun _ _ _ _ _ => rfl) 4 6 (by decide) (by decide) y
    exact e
  · intro y
    have e := stA arg1 harg1 arg2 harg2 arg3 harg3 arg4 harg4 arg5 harg5 x0 x1 x2 x3 x4 (fun c rs rt w cb => k1_pay139 (k1_pay138 c) rs rt w cb) (fun _ _ _ _ _ => rfl) 4 5 (by decide) (by decide) y
    exact e
  · intro y
    have e := stA arg1 harg1 arg2 harg2 arg3 harg3 arg4 harg4 arg5 harg5 x0 x1 x2 x3 x4 (fun c rs rt w cb => k1_pay137 (k1_pay135 c) (k1_pay136 rs) rt w cb) (fun _ _ _ _ _ => rfl) 4 4 (by decide) (by decide) y
    exact e
  · intro y
    have e := stA arg1 harg1 arg2 harg2 arg3 harg3 arg4 harg4 arg5 harg5 x0 x1 x2 x3 x4 (fun c rs rt w cb => k1_pay134 (k1_pay131 c) (k1_pay132 c rs) (k1_pay133 rt) w cb) (fun _ _ _ _ _ => rfl) 4 3 (by decide) (by decide) y
    exact e
  · intro y
    have e := stA arg1 harg1 arg2 harg2 arg3 harg3 arg4 harg4 arg5 harg5 x0 x1 x2 x3 x4 (fun c rs rt w cb => k1_pay130 (k1_pay128 c) (k1_pay129 c rs rt) w cb) (fun _ _ _ _ _ => rfl) 4 2 (by decide) (by decide) y
    exact e
  · intro y
    have e := stA arg1 harg1 arg2 harg2 arg3 harg3 arg4 harg4 arg5 harg5 x0 x1 x2 x3 x4 (fun c rs rt w cb => k1_pay127 (k1_pay125 c) (k1_pay126 c rs rt) w cb) (fun _ _ _ _ _ => rfl) 4 1 (by decide) (by decide) y
    exact e
  · intro y
    have e := stA arg1 harg1 arg2 harg2 arg3 harg3 arg4 harg4 arg5 harg5 x0 x1 x2 x3 x4 (fun c rs rt w cb => k1_pay124 (k1_pay121 c) (k1_pay122 c rs rt) (k1_pay123 w) cb) (fun _ _ _ _ _ => rfl) 4 0 (by decide) (by decide) y
    exact e
/-- The band 5: its tiles, stored over the earlier ones. -/
theorem pieces5 (c : Dev nD) : ∃ L, kernelRun1_A.sl.HS0_48 (F := Ideal) c arg1 harg1 arg2 harg2 arg3 harg3 arg4 harg4 arg5 harg5 x0 x1 x2 x3 x4 = L ++ kernelRun1_A.sl.HS0_40 (F := Ideal) c arg1 harg1 arg2 harg2 arg3 harg3 arg4 harg4 arg5 harg5 x0 x1 x2 x3 x4
      ∧ View.PiecesOf (bandG x0 x1 x2 x3 x4 5) L ∧ ∀ y : S18x132x32.Idx, (y 0).val < 18 → ∃ p ∈ L, y ∈ p.1.set := by
  unfold kernelRun1_A.sl.HS0_48
  refine ⟨[_, _, _, _, _, _, _, _], rfl, ⟨?_, ?_, ?_, ?_, ?_, ?_, ?_, ?_, trivial⟩, fun y hy => cov_band y hy⟩
  · intro y
    have e := stB arg1 harg1 arg2 harg2 arg3 harg3 arg4 harg4 arg5 harg5 x0 x1 x2 x3 x4 (fun c rs rt w cb => k1_pay174 (k1_pay171 c) (k1_pay172 c rs rt) (k1_pay173 w) cb) (fun _ _ _ _ _ => rfl) 5 7 (by decide) (by decide) y
    exact e
  · intro y
    have e := stA arg1 harg1 arg2 harg2 arg3 harg3 arg4 harg4 arg5 harg5 x0 x1 x2 x3 x4 (fun c rs rt w cb => k1_pay170 (k1_pay167 c) (k1_pay168 w) (k1_pay169 c rs rt) (constant S360x96 FTy.f32 0x00000000#32) cb) (fun _ _ _ _ _ => rfl) 5 6 (by decide) (by decide) y
    exact e
  · intro y
    have e := stA arg1 harg1 arg2 harg2 arg3 harg3 arg4 harg4 arg5 harg5 x0 x1 x2 x3 x4 (fun c rs rt w cb => k1_pay166 (k1_pay162 c) (k1_pay164 c rs rt w) (k1_pay165 c rs rt w) cb) (fun _ _ _ _ _ => rfl) 5 5 (by decide) (by decide) y
    exact e
  · intro y
    have e := stA arg1 harg1 arg2 harg2 arg3 harg3 arg4 harg4 arg5 harg5 x0 x1 x2 x3 x4 (fun c rs rt w cb => k1_pay161 (k1_pay158 c) (k1_pay159 c rs rt w) (k1_pay160 cb)) (fun _ _ _ _ _ => rfl) 5 4 (by decide) (by decide) y
    exact e
  · intro y
    have e := stA arg1 harg1 arg2 harg2 arg3 harg3 arg4 harg4 arg5 harg5 x0 x1 x2 x3 x4 (fun c rs rt w cb => k1_pay157 (k1_pay156 c rs rt w cb)) (fun _ _ _ _ _ => rfl) 5 3 (by decide) (by decide) y
    exact e
  · intro y
    have e := stA arg1 harg1 arg2 harg2 arg3 harg3 arg4 harg4 arg5 harg5 x0 x1 x2 x3 x4 (fun c rs rt w cb => k1_pay155 (k1_pay154 c) rs rt w cb) (fun _ _ _ _ _ => rfl) 5 2 (by decide) (by decide) y
    exact e
  · intro y
    have e := stA arg1 harg1 arg2 harg2 arg3 harg3 arg4 harg4 arg5 harg5 x0 x1 x2 x3 x4 (fun c rs rt w cb => k1_pay153 (k1_pay151 c) (k1_pay152 rs) rt w cb) (fun _ _ _ _ _ => rfl) 5 1 (by decide) (by decide) y
    exact e
  · intro y
    have e := stA arg1 harg1 arg2 harg2 arg3 harg3 arg4 harg4 arg5 harg5 x0 x1 x2 x3 x4 (fun c rs rt w cb => k1_pay150 (k1_pay147 c) (k1_pay148 c rs) (k1_pay149 rt) w cb) (fun _ _ _ _ _ => rfl) 5 0 (by decide) (by decide) y
    exact e
/-- The band 6: its tiles, stored over the earlier ones. -/
theorem pieces6 (c : Dev nD) : ∃ L, kernelRun1_A.sl.HS0_56 (F := Ideal) c arg1 harg1 arg2 harg2 arg3 harg3 arg4 harg4 arg5 harg5 x0 x1 x2 x3 x4 = L ++ kernelRun1_A.sl.HS0_48 (F := Ideal) c arg1 harg1 arg2 harg2 arg3 harg3 arg4 harg4 arg5 harg5 x0 x1 x2 x3 x4
      ∧ View.PiecesOf (bandG x0 x1 x2 x3 x4 6) L ∧ ∀ y : S18x132x32.Idx, (y 0).val < 18 → ∃ p ∈ L, y ∈ p.1.set := by
  unfold kernelRun1_A.sl.HS0_56
  refine ⟨[_, _, _, _, _, _, _, _], rfl, ⟨?_, ?_, ?_, ?_, ?_, ?_, ?_, ?_, trivial⟩, fun y hy => cov_band y hy⟩
  · intro y
    have e := stB arg1 harg1 arg2 harg2 arg3 harg3 arg4 harg4 arg5 harg5 x0 x1 x2 x3 x4 (fun c rs rt w cb => k1_pay204 (k1_pay201 c) (k1_pay202 c rs) (k1_pay203 rt) w cb) (fun _ _ _ _ _ => rfl) 6 7 (by decide) (by decide) y
    exact e
  · intro y
    have e := stA arg1 harg1 arg2 harg2 arg3 harg3 arg4 harg4 arg5 harg5 x0 x1 x2 x3 x4 (fun c rs rt w cb => k1_pay200 (k1_pay198 c) (k1_pay199 c rs rt) w cb) (fun _ _ _ _ _ => rfl) 6 6 (by decide) (by decide) y
    exact e
  · intro y
    have e := stA arg1 harg1 arg2 harg2 arg3 harg3 arg4 harg4 arg5 harg5 x0 x1 x2 x3 x4 (fun c rs rt w cb => k1_pay197 (k1_pay195 c) (k1_pay196 c rs rt) w cb) (fun _ _ _ _ _ => rfl) 6 5 (by decide) (by decide) y
    exact e
  · intro y
    have e := stA arg1 harg1 arg2 harg2 arg3 harg3 arg4 harg4 arg5 harg5 x0 x1 x2 x3 x4 (fun c rs rt w cb => k1_pay194 (k1_pay191 c) (k1_pay192 c rs rt) (k1_pay193 w) cb) (fun _ _ _ _ _ => rfl) 6 4 (by decide) (by decide) y
    exact e
  · intro y
    have e := stA arg1 harg1 arg2 harg2 arg3 harg3 arg4 harg4 arg5 harg5 x0 x1 x2 x3 x4 (fun c rs rt w cb => k1_pay190 (k1_pay187 c) (k1_pay188 w) (k1_pay189 c rs rt) (constant S360x96 FTy.f32 0x00000000#32) cb) (fun _ _ _ _ _ => rfl) 6 3 (by decide) (by decide) y
    exact e
  · intro y
    have e := stA arg1 harg1 arg2 harg2 arg3 harg3 arg4 harg4 arg5 harg5 x0 x1 x2 x3 x4 (fun c rs rt w cb => k1_pay186 (k1_pay182 c) (k1_pay184 c rs rt w) (k1_pay185 c rs rt w) cb) (fun _ _ _ _ _ => rfl) 6 2 (by decide) (by decide) y
    exact e
  · intro y
    have e := stA arg1 harg1 arg2 harg2 arg3 harg3 arg4 harg4 arg5 harg5 x0 x1 x2 x3 x4 (fun c rs rt w cb => k1_pay181 (k1_pay178 c) (k1_pay179 c rs rt w) (k1_pay180 cb)) (fun _ _ _ _ _ => rfl) 6 1 (by decide) (by decide) y
    exact e
  · intro y
    have e := stA arg1 harg1 arg2 harg2 arg3 harg3 arg4 harg4 arg5 harg5 x0 x1 x2 x3 x4 (fun c rs rt w cb => k1_pay177 (k1_pay176 c rs rt w cb)) (fun _ _ _ _ _ => rfl) 6 0 (by decide) (by decide) y
    exact e
/-- The band 7: its tiles, stored over the earlier ones. -/
theorem pieces7 (c : Dev nD) : ∃ L, kernelRun1_A.sl.HS0_64 (F := Ideal) c arg1 harg1 arg2 harg2 arg3 harg3 arg4 harg4 arg5 harg5 x0 x1 x2 x3 x4 = L ++ kernelRun1_A.sl.HS0_56 (F := Ideal) c arg1 harg1 arg2 harg2 arg3 harg3 arg4 harg4 arg5 harg5 x0 x1 x2 x3 x4
      ∧ View.PiecesOf (bandG x0 x1 x2 x3 x4 7) L ∧ ∀ y : S18x132x32.Idx, (y 0).val < 6 → ∃ p ∈ L, y ∈ p.1.set := by
  unfold kernelRun1_A.sl.HS0_64
  refine ⟨[_, _, _, _, _, _, _, _], rfl, ⟨?_, ?_, ?_, ?_, ?_, ?_, ?_, ?_, trivial⟩, fun y hy => cov_band y hy⟩
  · intro y
    have e := stD arg1 harg1 arg2 harg2 arg3 harg3 arg4 harg4 arg5 harg5 x0 x1 x2 x3 x4 (fun c rs rt w cb => k1_pay231 (k1_pay230 c rs rt w cb)) (fun _ _ _ _ _ => rfl) 7 7 (by decide) (by decide) y
    exact e
  · intro y
    have e := stC arg1 harg1 arg2 harg2 arg3 harg3 arg4 harg4 arg5 harg5 x0 x1 x2 x3 x4 (fun c rs rt w cb => k1_pay229 (k1_pay228 c) rs rt w cb) (fun _ _ _ _ _ => rfl) 7 6 (by decide) (by decide) y
    exact e
  · intro y
    have e := stC arg1 harg1 arg2 harg2 arg3 harg3 arg4 harg4 arg5 harg5 x0 x1 x2 x3 x4 (fun c rs rt w cb => k1_pay227 (k1_pay225 c) (k1_pay226 rs) rt w cb) (fun _ _ _ _ _ => rfl) 7 5 (by decide) (by decide) y
    exact e
  · intro y
    have e := stC arg1 harg1 arg2 harg2 arg3 harg3 arg4 harg4 arg5 harg5 x0 x1 x2 x3 x4 (fun c rs rt w cb => k1_pay224 (k1_pay221 c) (k1_pay222 c rs) (k1_pay223 rt) w cb) (fun _ _ _ _ _ => rfl) 7 4 (by decide) (by decide) y
    exact e
  · intro y
    have e := stC arg1 harg1 arg2 harg2 arg3 harg3 arg4 harg4 arg5 harg5 x0 x1 x2 x3 x4 (fun c rs rt w cb => k1_pay220 (k1_pay218 c) (k1_pay219 c rs rt) w cb) (fun _ _ _ _ _ => rfl) 7 3 (by decide) (by decide) y
    exact e
  · intro y
    have e := stC arg1 harg1 arg2 harg2 arg3 harg3 arg4 harg4 arg5 harg5 x0 x1 x2 x3 x4 (fun c rs rt w cb => k1_pay217 (k1_pay215 c) (k1_pay216 c rs rt) w cb) (fun _ _ _ _ _ => rfl) 7 2 (by decide) (by decide) y
    exact e
  · intro y
    have e := stC arg1 harg1 arg2 harg2 arg3 harg3 arg4 harg4 arg5 harg5 x0 x1 x2 x3 x4 (fun c rs rt w cb => k1_pay214 (k1_pay211 c) (k1_pay212 c rs rt) (k1_pay213 w) cb) (fun _ _ _ _ _ => rfl) 7 1 (by decide) (by decide) y
    exact e
  · intro y
    have e := stC arg1 harg1 arg2 harg2 arg3 harg3 arg4 harg4 arg5 harg5 x0 x1 x2 x3 x4 (fun c rs rt w cb => k1_pay210 (k1_pay207 c) (k1_pay208 w) (k1_pay209 c rs rt) (constant S144x96 FTy.f32 0x00000000#32) cb) (fun _ _ _ _ _ => rfl) 7 0 (by decide) (by decide) y
    exact e

end Cert.KernelIdeal.Band

end

end
-- ==== Proof.First.lean ====
module

public import Idealize.ShloMosaic.Lib.Pipeline.ValueKit
public import proofs.«01_k».proof.Proof.Bands

@[expose] public section

set_option maxRecDepth 16384

noncomputable section

namespace Cert.KernelIdeal.First

open Cert.KernelIdeal.Gen Cert.KernelIdeal.Band Cert.KernelIdeal.Tiles
open Idealize.ShloMosaic Idealize.ShloMosaic.TcCoe Idealize.SL.Sem
open Idealize.ShloMosaic.Pipeline (Dat)

/-- The patches of chunk 0: eleven shifted slices side by side. -/
theorem patch0_at (x : Vec Ideal S1x142x426 .f32) (p : Fin 132) (k : Fin 1419) :
    k0_pay5 x (ix2 p k) = x (ix3 0 (⟨p + k / 129, by omega⟩ : Fin 142) (⟨0 + k % 129, by omega⟩ : Fin 426)) := by
  pointwise [k0_pay5, k0_pay3]
  iterate 10 refine dif_of (fun _ => by blk_ext []) fun _ => ?_
  blk_ext []

/-- Chunk 0's arithmetic on its patches. -/
theorem acc0_at (b : Vec Ideal S1x1056 .f32) (P : Vec Ideal S132x1419 .f32) (m : Vec Ideal S1419x1056 .f32) (p : Fin 132) (l : Fin 1056) :
    k0_pay6 b P m (ix3 0 p l) = (∑ k : Fin 1419, P (ix2 p k) * m (ix2 k l)) + b (ix2 0 l) := by
  pointwise [k0_pay6, k0_pay4]

/-- The patches of chunk 1: eleven shifted slices side by side. -/
theorem patch1_at (x : Vec Ideal S1x142x426 .f32) (p : Fin 132) (k : Fin 1419) :
    k0_pay8 (k0_pay7 x) (ix2 p k) = x (ix3 0 (⟨p + k / 129, by omega⟩ : Fin 142) (⟨99 + k % 129, by omega⟩ : Fin 426)) := by
  pointwise [k0_pay8, k0_pay7, k0_pay3]
  iterate 10 refine dif_of (fun _ => by blk_ext []) fun _ => ?_
  blk_ext []

/-- Chunk 1's arithmetic on its patches. -/
theorem acc1_at (b : Vec Ideal S1x1056 .f32) (P : Vec Ideal S132x1419 .f32) (m : Vec Ideal S1419x1056 .f32) (p : Fin 132) (l : Fin 1056) :
    k0_pay9 b P m (ix3 0 p l) = (∑ k : Fin 1419, P (ix2 p k) * m (ix2 k l)) + b (ix2 0 l) := by
  pointwise [k0_pay9]

/-- The patches of chunk 2: eleven shifted slices side by side. -/
theorem patch2_at (x : Vec Ideal S1x142x426 .f32) (p : Fin 132) (k : Fin 1419) :
    k0_pay10 (k0_pay3 x) (ix2 p k) = x (ix3 0 (⟨p + k / 129, by omega⟩ : Fin 142) (⟨198 + k % 129, by omega⟩ : Fin 426)) := by
  pointwise [k0_pay10, k0_pay3]
  iterate 10 refine dif_of (fun _ => by blk_ext []) fun _ => ?_
  blk_ext []

/-- Chunk 2's arithmetic on its patches. -/
theorem acc2_at (b : Vec Ideal S1x1056 .f32) (P : Vec Ideal S132x1419 .f32) (m : Vec Ideal S1419x1056 .f32) (p : Fin 132) (l : Fin 1056) :
    k0_pay11 b P m (ix3 0 p l) = (∑ k : Fin 1419, P (ix2 p k) * m (ix2 k l)) + b (ix2 0 l) := by
  pointwise [k0_pay11]

/-- The patches of chunk 3: eleven shifted slices side by side. -/
theorem patch3_at (x : Vec Ideal S1x142x426 .f32) (p : Fin 132) (k : Fin 1419) :
    k0_pay1 (k0_pay3 x) (k0_pay12 (k0_pay3 x)) (k0_pay13 (k0_pay3 x)) (ix2 p k) = x (ix3 0 (⟨p + k / 129, by omega⟩ : Fin 142) (⟨297 + k % 129, by omega⟩ : Fin 426)) := by
  pointwise [k0_pay1, k0_pay12, k0_pay13, k0_pay3]
  iterate 10 refine dif_of (fun _ => by blk_ext []) fun _ => ?_
  blk_ext []

/-- Chunk 3's arithmetic on its patches. -/
theorem acc3_at (b : Vec Ideal S1x1056 .f32) (P : Vec Ideal S132x1419 .f32) (m : Vec Ideal S1419x1056 .f32) (p : Fin 132) (l : Fin 1056) :
    k0_pay2 b P m (ix3 0 p l) = (∑ k : Fin 1419, P (ix2 p k) * m (ix2 k l)) + b (ix2 0 l) := by
  pointwise [k0_pay2]

variable (x0 : Vec Ideal S1x142x426 .f32) (x1 : Vec Ideal S1419x1056 .f32) (x2 : Vec Ideal S1x1056 .f32)

/-- The first convolution in the layout of the kernel: rows against (column, channel) pairs. -/
def rowsV (p : Fin 132) (l : Fin 4224) : Ideal .f32 :=
  (∑ k : Fin 1419, x0 (ix3 0 (⟨p + k / 129, by omega⟩ : Fin 142) (⟨99 * (l / 1056) + k % 129, by omega⟩ : Fin 426)) * x1 (ix2 k (⟨l % 1056, by omega⟩ : Fin 1056)))
    + x2 (ix2 0 (⟨l % 1056, by omega⟩ : Fin 1056))

/-- The same as an array. -/
def rowsG : Vec Ideal S1x132x4224 .f32 := fun y => rowsV x0 x1 x2 (y 1) (y 2)

/-- A chunk is its part of the first convolution. -/
theorem chunk_rows (q : Nat) (hq : q < 4) (A : FVec Ideal S1x132x1056 .f32) (b : Vec Ideal S1x1056 .f32) (P : Vec Ideal S132x1419 .f32) (m : Vec Ideal S1419x1056 .f32)
    (hA : ∀ (p : Fin 132) (l : Fin 1056), A (ix3 0 p l) = (∑ k : Fin 1419, P (ix2 p k) * m (ix2 k l)) + b (ix2 0 l))
    (hP : ∀ (p : Fin 132) (k : Fin 1419), P (ix2 p k) = x0 (ix3 0 (⟨p + k / 129, by omega⟩ : Fin 142) (⟨99 * q + k % 129, by omega⟩ : Fin 426)))
    (hm : ∀ (k : Fin 1419) (l : Fin 1056), m (ix2 k l) = x1 (ix2 k l)) (hb : ∀ l : Fin 1056, b (ix2 0 l) = x2 (ix2 0 l))
    (inb : ∀ a, (![0, 0, 1056 * q] : Fin 3 → Nat) a + (![1, 132, 1056] : Fin 3 → Nat) a ≤ S1x132x4224.size a) (y : S1x132x1056.Idx) :
    A y = rowsG x0 x1 x2 ((Rect.unit (s := S1x132x4224) ![0, 0, 1056 * q] ![1, 132, 1056] inb).emb y) := by
  idx_vars y
  have h0 : y0 = 0 := Fin.ext (by omega)
  subst h0
  rw [hA]
  have e : ∀ (p : Fin 132) (l : Fin 4224), p = y1 → (l : Nat) = 1056 * q + y2 →
      (∑ k : Fin 1419, P (ix2 y1 k) * m (ix2 k y2)) + b (ix2 0 y2) = rowsV x0 x1 x2 p l := by
    rintro p l rfl hl
    unfold rowsV
    have e2 : y2 = (⟨l % 1056, by omega⟩ : Fin 1056) := Fin.ext (show (y2 : Nat) = l % 1056 by omega)
    refine congrArg₂ (· + ·) (Finset.sum_congr rfl fun k _ => congrArg₂ (· * ·) ((hP _ _).trans ?_) ((hm _ _).trans ?_)) ((hb _).trans ?_)
    · exact congrArg (fun z => x0 (ix3 0 _ z)) (Fin.ext (show 99 * q + (k : Nat) % 129 = 99 * (l / 1056) + k % 129 by omega))
    · exact congrArg (fun z => x1 (ix2 k z)) e2
    · exact congrArg (fun z => x2 (ix2 0 z)) e2
  refine e _ _ (Fin.ext ?_) ?_
  · show 0 + 1 * (y1 : Nat) = y1
    omega
  · show 1056 * q + 1 * (y2 : Nat) = 1056 * q + y2
    omega

omit x0 x1 x2 in
/-- Four chunks reach each element. -/
theorem cov_cols {b3 b2 b1 b0} {w3 w2 w1 w0} (y : S1x132x4224.Idx) :
    ∃ p ∈ ([⟨Rect.unit (s := S1x132x4224) ![0, 0, 3168] ![1, 132, 1056] b3, w3⟩, ⟨Rect.unit (s := S1x132x4224) ![0, 0, 2112] ![1, 132, 1056] b2, w2⟩, ⟨Rect.unit (s := S1x132x4224) ![0, 0, 1056] ![1, 132, 1056] b1, w1⟩, ⟨Rect.unit (s := S1x132x4224) ![0, 0, 0] ![1, 132, 1056] b0, w0⟩] : List (View.Piece (Elt Ideal) S1x132x4224 .f32)), y ∈ p.1.set := by
  have h0 : (y 0).val < 1 := (y 0).isLt
  have h1 : (y 1).val < 132 := (y 1).isLt
  have h2 : (y 2).val < 4224 := (y 2).isLt
  refine step (3168 ≤ (y 2).val) (fun h => mem3 (inb := b3) (show (0 ≤ (y 0).val ∧ (y 0).val < 0 + 1) ∧ (0 ≤ (y 1).val ∧ (y 1).val < 0 + 132) ∧ (3168 ≤ (y 2).val ∧ (y 2).val < 3168 + 1056) by omega)) fun _ => ?_
  refine step (2112 ≤ (y 2).val) (fun h => mem3 (inb := b2) (show (0 ≤ (y 0).val ∧ (y 0).val < 0 + 1) ∧ (0 ≤ (y 1).val ∧ (y 1).val < 0 + 132) ∧ (2112 ≤ (y 2).val ∧ (y 2).val < 2112 + 1056) by omega)) fun _ => ?_
  refine step (1056 ≤ (y 2).val) (fun h => mem3 (inb := b1) (show (0 ≤ (y 0).val ∧ (y 0).val < 0 + 1) ∧ (0 ≤ (y 1).val ∧ (y 1).val < 0 + 132) ∧ (1056 ≤ (y 2).val ∧ (y 2).val < 1056 + 1056) by omega)) fun _ => ?_
  refine step (0 ≤ (y 2).val) (fun h => mem3 (inb := b0) (show (0 ≤ (y 0).val ∧ (y 0).val < 0 + 1) ∧ (0 ≤ (y 1).val ∧ (y 1).val < 0 + 132) ∧ (0 ≤ (y 2).val ∧ (y 2).val < 0 + 1056) by omega)) fun _ => ?_
  omega

variable (c : Dev nD) (arg1 : Memref sig .tc .vmem S1x142x426 .f32) (harg1 : arg1.IsWhole) (arg2 : Memref sig .tc .vmem S1419x1056 .f32) (harg2 : arg2.IsWhole)
  (arg3 : Memref sig .tc .vmem S1x1056 .f32) (harg3 : arg3.IsWhole) (arg4 : Memref sig .tc .vmem S1x132x4224 .f32) (harg4 : arg4.IsWhole)
  (arg5 : Memref sig .tc .vmem S132x1419 .f32) (harg5 : arg5.IsWhole)

/-- The image as it is loaded. -/
def img : Vec Ideal S1x142x426 .f32 := rd arg1 harg1 x0 (Rect.unit (s := S1x142x426) ![0, 0, 0] S1x142x426.size inb_S1x142x426_S1x142x426_0_0_0)

/-- A load of the image. -/
theorem img_at (p : Fin 142) (q : Fin 426) : img x0 arg1 harg1 (ix3 0 p q) = x0 (ix3 0 p q) := by
  refine (rd_at arg1 harg1 x0 _ _).trans (congrArg x0 (funext fun a => Fin.ext ?_))
  fin_cases a
  · rfl
  · show 0 + 1 * (p : Nat) = p
    omega
  · show 0 + 1 * (q : Nat) = q
    omega

/-- The biases as they are loaded. -/
def bia : Vec Ideal S1x1056 .f32 := rd arg3 harg3 x2 (Rect.unit (s := S1x1056) ![0, 0] S1x1056.size inb_S1x1056_S1x1056_0_0)

/-- A load of the biases. -/
theorem bia_at (l : Fin 1056) : bia x2 arg3 harg3 (ix2 0 l) = x2 (ix2 0 l) := by
  refine (rd_at arg3 harg3 x2 _ _).trans (congrArg x2 (funext fun a => Fin.ext ?_))
  fin_cases a
  · rfl
  · show 0 + 1 * (l : Nat) = l
    omega

/-- The biases as they are kept. -/
theorem r_1_at (l : Fin 1056) : kernelRun0_A.sl.r_1 (F := Ideal) c arg3 harg3 x2 (ix2 0 l) = x2 (ix2 0 l) := by
  have e : ∀ z : Vec Ideal S1x1056 .f32, k0_pay4 z (ix2 0 l) = z (ix2 0 l) := fun z => by pointwise [k0_pay4]
  exact (e _).trans (bia_at x2 arg3 harg3 l)

/-- The banded weights as they are loaded. -/
def wts : Vec Ideal S1419x1056 .f32 := rd arg2 harg2 x1 (Rect.unit (s := S1419x1056) ![0, 0] S1419x1056.size inb_S1419x1056_S1419x1056_0_0)

/-- A load of the banded weights. -/
theorem wts_at (k : Fin 1419) (l : Fin 1056) : wts x1 arg2 harg2 (ix2 k l) = x1 (ix2 k l) := by
  refine (rd_at arg2 harg2 x1 _ _).trans (congrArg x1 (funext fun a => Fin.ext ?_))
  fin_cases a
  · show 0 + 1 * (k : Nat) = k
    omega
  · show 0 + 1 * (l : Nat) = l
    omega

/-- Chunk 0's patches as they are read back. -/
theorem v19_at (p : Fin 132) (k : Fin 1419) :
    kernelRun0_A.sl.v19 (F := Ideal) c arg1 harg1 arg5 x0 (ix2 p k) = x0 (ix3 0 (⟨p + k / 129, by omega⟩ : Fin 142) (⟨99 * 0 + k % 129, by omega⟩ : Fin 426)) := by
  have e : kernelRun0_A.sl.v19 (F := Ideal) c arg1 harg1 arg5 x0 = k0_pay5 (img x0 arg1 harg1) := by
    unfold kernelRun0_A.sl.v19 kernelRun0_A.sl.HS0_1
    rw [View.readCov_eq_canon']
    funext j
    exact View.canon_cons_emb _ _ _ j
  rw [e]
  exact (patch0_at ..).trans (img_at x0 arg1 harg1 _ _)

/-- Chunk 1's patches as they are read back. -/
theorem v43_at (p : Fin 132) (k : Fin 1419) :
    kernelRun0_A.sl.v43 (F := Ideal) c arg1 harg1 arg5 x0 (ix2 p k) = x0 (ix3 0 (⟨p + k / 129, by omega⟩ : Fin 142) (⟨99 * 1 + k % 129, by omega⟩ : Fin 426)) := by
  have e : kernelRun0_A.sl.v43 (F := Ideal) c arg1 harg1 arg5 x0 = k0_pay8 (k0_pay7 (img x0 arg1 harg1)) := by
    unfold kernelRun0_A.sl.v43 kernelRun0_A.sl.HS0_2
    rw [View.readCov_eq_canon']
    funext j
    exact View.canon_cons_emb _ _ _ j
  rw [e]
  exact (patch1_at ..).trans (img_at x0 arg1 harg1 _ _)

/-- Chunk 2's patches as they are read back. -/
theorem v67_at (p : Fin 132) (k : Fin 1419) :
    kernelRun0_A.sl.v67 (F := Ideal) c arg1 harg1 arg5 x0 (ix2 p k) = x0 (ix3 0 (⟨p + k / 129, by omega⟩ : Fin 142) (⟨99 * 2 + k % 129, by omega⟩ : Fin 426)) := by
  have e : kernelRun0_A.sl.v67 (F := Ideal) c arg1 harg1 arg5 x0 = k0_pay10 (k0_pay3 (img x0 arg1 harg1)) := by
    unfold kernelRun0_A.sl.v67 kernelRun0_A.sl.HS0_3
    rw [View.readCov_eq_canon']
    funext j
    exact View.canon_cons_emb _ _ _ j
  rw [e]
  exact (patch2_at ..).trans (img_at x0 arg1 harg1 _ _)

/-- Chunk 3's patches as they are read back. -/
theorem v91_at (p : Fin 132) (k : Fin 1419) :
    kernelRun0_A.sl.v91 (F := Ideal) c arg1 harg1 arg5 x0 (ix2 p k) = x0 (ix3 0 (⟨p + k / 129, by omega⟩ : Fin 142) (⟨99 * 3 + k % 129, by omega⟩ : Fin 426)) := by
  have e : kernelRun0_A.sl.v91 (F := Ideal) c arg1 harg1 arg5 x0 = k0_pay1 (k0_pay3 (img x0 arg1 harg1)) (k0_pay12 (k0_pay3 (img x0 arg1 harg1))) (k0_pay13 (k0_pay3 (img x0 arg1 harg1))) := by
    unfold kernelRun0_A.sl.v91 kernelRun0_A.sl.HS0_4
    rw [View.readCov_eq_canon']
    funext j
    exact View.canon_cons_emb _ _ _ j
  rw [e]
  exact (patch3_at ..).trans (img_at x0 arg1 harg1 _ _)

/-- What one point of the region leaves in its output block. -/
theorem out0_eq (i : grid0.Coords) (y : S1x132x4224.Idx) : out0_A_3 (F := Ideal) c i arg1 harg1 arg2 harg2 arg3 harg3 arg4 harg4 arg5 harg5 x0 x1 x2 y = rowsG x0 x1 x2 y := by
  unfold out0_A_3
  rw [View.read_writes_junk_eq_canon]
  unfold kernelRun0_A
  show View.canon [_, _, _, _] y = _
  refine (congrFun (congrArg View.canon (List.append_nil _).symm) y).trans (View.canon_append_of_piecesOf (rowsG x0 x1 x2) [] _ ?_ y (cov_cols y))
  refine ⟨?_, ?_, ?_, ?_, trivial⟩
  · intro y
    have e := chunk_rows x0 x1 x2 3 (by decide) (k0_pay2 (kernelRun0_A.sl.r_1 (F := Ideal) c arg3 harg3 x2) (kernelRun0_A.sl.v91 (F := Ideal) c arg1 harg1 arg5 x0) (wts x1 arg2 harg2)) (kernelRun0_A.sl.r_1 (F := Ideal) c arg3 harg3 x2) (kernelRun0_A.sl.v91 (F := Ideal) c arg1 harg1 arg5 x0) (wts x1 arg2 harg2)
      (acc3_at _ _ _) (v91_at x0 c arg1 harg1 arg5) (wts_at x1 arg2 harg2) (r_1_at x2 c arg3 harg3) (by decide) y
    exact e
  · intro y
    have e := chunk_rows x0 x1 x2 2 (by decide) (k0_pay11 (kernelRun0_A.sl.r_1 (F := Ideal) c arg3 harg3 x2) (kernelRun0_A.sl.v67 (F := Ideal) c arg1 harg1 arg5 x0) (wts x1 arg2 harg2)) (kernelRun0_A.sl.r_1 (F := Ideal) c arg3 harg3 x2) (kernelRun0_A.sl.v67 (F := Ideal) c arg1 harg1 arg5 x0) (wts x1 arg2 harg2)
      (acc2_at _ _ _) (v67_at x0 c arg1 harg1 arg5) (wts_at x1 arg2 harg2) (r_1_at x2 c arg3 harg3) (by decide) y
    exact e
  · intro y
    have e := chunk_rows x0 x1 x2 1 (by decide) (k0_pay9 (kernelRun0_A.sl.r_1 (F := Ideal) c arg3 harg3 x2) (kernelRun0_A.sl.v43 (F := Ideal) c arg1 harg1 arg5 x0) (wts x1 arg2 harg2)) (kernelRun0_A.sl.r_1 (F := Ideal) c arg3 harg3 x2) (kernelRun0_A.sl.v43 (F := Ideal) c arg1 harg1 arg5 x0) (wts x1 arg2 harg2)
      (acc1_at _ _ _) (v43_at x0 c arg1 harg1 arg5) (wts_at x1 arg2 harg2) (r_1_at x2 c arg3 harg3) (by decide) y
    exact e
  · intro y
    have e := chunk_rows x0 x1 x2 0 (by decide) (k0_pay6 (bia x2 arg3 harg3) (kernelRun0_A.sl.v19 (F := Ideal) c arg1 harg1 arg5 x0) (wts x1 arg2 harg2)) (bia x2 arg3 harg3) (kernelRun0_A.sl.v19 (F := Ideal) c arg1 harg1 arg5 x0) (wts x1 arg2 harg2)
      (acc0_at _ _ _) (v19_at x0 c arg1 harg1 arg5) (wts_at x1 arg2 harg2) (bia_at x2 arg3 harg3) (by decide) y
    exact e

variable (V : (c : Dev nD) → (b : Ref sig .tc) → Buf (Elt Ideal) ((c : Thread nD τ).loc b))

/-- The region's output, image by image. -/
def stage (x : Vec Ideal S64x142x426 .f32) (m : Vec Ideal S1419x1056 .f32) (b : Vec Ideal S1x1056 .f32) : Vec Ideal S64x132x4224 .f32 := fun j =>
  rowsV (fun y => x (ix3 (j 0) (y 1) (y 2))) m b (j 1) (j 2)

/-- Which block each window of the region stages at a point. -/
theorem idx0 : ∀ t : Fin cfg0.N, win0_0.index t = ![t.val, 0, 0] ∧ win0_1.index t = ![0, 0] ∧ win0_2.index t = ![0, 0] ∧ win0_3.index t = ![t.val, 0, 0] :=
  (by decide +kernel : ∀ t : Fin grid0.N, _)

/-- The block of input 1 is the whole array. -/
theorem whole1 (c : Dev nD) (t : Fin cfg0.N) : (iblk0 V c 1 t : Vec Ideal S1419x1056 .f32) = V c main_call0_v60 := by
  funext y
  blk_point [iblk0, idx0 t]

/-- The block of input 2 is the whole array. -/
theorem whole2 (c : Dev nD) (t : Fin cfg0.N) : (iblk0 V c 2 t : Vec Ideal S1x1056 .f32) = V c main_call0_v64 := by
  funext y
  blk_point [iblk0, idx0 t]

/-- The block of input 0 is one image. -/
theorem img0 (c : Dev nD) (t : Fin cfg0.N) (y : S1x142x426.Idx) : (iblk0 V c 0 t : Vec Ideal S1x142x426 .f32) y = V c main_call0_v1 (ix3 (⟨t.val, by have := t.isLt; exact this⟩ : Fin 64) (y 1) (y 2)) := by
  blk_point [iblk0, idx0 t]

/-- Where a point's output block sits. -/
theorem place3 (t : Fin cfg0.N) (g : Vec Ideal S64x132x4224 .f32) (y : S1x132x4224.Idx) :
    g (ix3 (⟨t.val, t.isLt⟩ : Fin 64) (y 1) (y 2)) = g (((cfg0.win 3).blk t).view.emb y) := by
  blk_point [idx0 t]

/-- What a point leaves is the region's output at the place its block sits at. -/
theorem point0 (c : Dev nD) (t : Fin cfg0.N) (y : S1x132x4224.Idx) :
    outsAt0 V c t y = stage (V c main_call0_v1) (V c main_call0_v60) (V c main_call0_v64) (((cfg0.win 3).blk t).view.emb y) := by
  refine Eq.trans ?_ (place3 t _ y)
  unfold outsAt0
  refine (out0_eq ..).trans ?_
  rw [whole1, whole2]
  have hx : (iblk0 V c 0 t : Vec Ideal S1x142x426 .f32) = fun y => V c main_call0_v1 (ix3 (⟨t.val, t.isLt⟩ : Fin 64) (y 1) (y 2)) := by
    funext y
    rw [img0]
  rw [hx]
  rfl

/-- The region's output array, as a function of the arrays it was entered with. -/
theorem stage_arr (c : Dev nD) : (dat0 V c).arrAt 3 cfg0.N = stage (V c main_call0_v1) (V c main_call0_v60) (V c main_call0_v64) := by
  refine (dat0 V c).arrAt_eq_of_covers 3 _ (by decide +kernel) fun t hf y => ?_
  blk_simp
  rw [after0_3]
  exact point0 V c t y

end Cert.KernelIdeal.First

end

end
-- ==== Proof.Match.lean ====
module
public import Idealize.ShloMosaic.Lib.Pipeline.ValueKit
public import proofs.«01_k».proof.Proof.Spec

/-! Sums over the packed axes of the kernel's dot products, as sums over channels and taps. -/

@[expose] public section

set_option maxRecDepth 16384

noncomputable section

namespace Cert.Match

open Idealize.ShloMosaic

/-- A sum over row taps and a packed axis of column taps and channels is the sum over channels, column taps and row taps. -/
theorem taps {J C U : Nat} (N : Nat) (hN : J * C = N) (F : Fin C → Fin J → Fin U → EReal) (Z : Fin U → Fin N → EReal)
    (hZ : ∀ (u : Fin U) (i : Fin N) (c : Fin C) (t : Fin J), (i : Nat) = t * C + c → Z u i = F c t u) :
    ∑ u : Fin U, ∑ k : Fin N, Z u k = ∑ c : Fin C, ∑ t : Fin J, ∑ u : Fin U, F c t u := by
  have h : ∀ u : Fin U, ∑ k : Fin N, Z u k = ∑ t : Fin J, ∑ c : Fin C, F c t u := fun u => by
    rw [Fin.sum_univ_tiles J C hN]
    exact Finset.sum_congr rfl fun t _ => Finset.sum_congr rfl fun c _ => hZ u _ c t rfl
  rw [Finset.sum_congr rfl fun u _ => h u, Finset.sum_comm]
  rw [Finset.sum_congr rfl fun t _ => Finset.sum_comm, Finset.sum_comm]

/-- Two values by cases agree. -/
theorem ite_eq {α : Type*} {p q : Prop} [Decidable p] [Decidable q] {a b z : α} (h : p ↔ q) (e : a = b) : (if p then a else z) = if q then b else z := by
  subst e
  by_cases hq : q
  · rw [if_pos hq, if_pos (h.mpr hq)]
  · rw [if_neg hq, if_neg fun k => hq (h.mp k)]

/-- A value times a sum with at most one term. -/
theorem mul_pick {n : Nat} (C : Fin n → Prop) [DecidablePred C] (hC : ∀ t t', C t → C t' → t = t') (a : Fin n → EReal) (x : EReal) :
    x * (∑ t, if C t then a t else 0) = ∑ t, if C t then x * a t else 0 := by
  by_cases h : ∃ t, C t
  · obtain ⟨t, ht⟩ := h
    rw [Finset.sum_eq_single t (fun s _ hs => if_neg fun k => hs (hC s t k ht)) (fun k => absurd (Finset.mem_univ t) k),
      Finset.sum_eq_single t (fun s _ hs => if_neg fun k => hs (hC s t k ht)) (fun k => absurd (Finset.mem_univ t) k), if_pos ht, if_pos ht]
  · have h' : ∀ t, ¬ C t := fun t k => h ⟨t, k⟩
    rw [Finset.sum_eq_zero (fun t _ => if_neg (h' t)), Finset.sum_eq_zero (fun t _ => if_neg (h' t)), mul_zero]

/-- The banded product of convolution 1: the sum over the window's pixels and the band is the sum over channels and taps. -/
theorem band (X : Nat → Nat → Nat → EReal) (A : Nat → Nat → Nat → EReal) (w : Nat) (hw : w < 33) :
    ∑ k : Fin 1419, X (k % 129 % 3) (k / 129) (k % 129 / 3) * (∑ t : Fin 11, if (k : Nat) % 129 / 3 = w + t then A (k % 129 % 3) (k / 129) t else 0)
      = ∑ c : Fin 3, ∑ t : Fin 11, ∑ u : Fin 11, A c u t * X c u (w + t) := by
  have h1 : ∀ (c : Nat) (u : Nat) (s : Nat), X c u s * (∑ t : Fin 11, if s = w + t then A c u t else 0)
      = ∑ t : Fin 11, if s = w + t then A c u t * X c u (w + t) else 0 := fun c u s => by
    rw [mul_pick (fun t : Fin 11 => s = w + t) (fun t t' h h' => Fin.ext (by omega))]
    refine Finset.sum_congr rfl fun t _ => ?_
    by_cases h : s = w + t
    · rw [if_pos h, if_pos h, h, mul_comm]
    · rw [if_neg h, if_neg h]
  rw [Finset.sum_congr rfl fun k _ => h1 _ _ _]
  rw [Fin.sum_univ_tiles 11 129 rfl]
  have h2 : ∀ u : Fin 11, (∑ r : Fin 129, ∑ t : Fin 11, if (u * 129 + r : Nat) % 129 / 3 = w + t then
      A ((u * 129 + r : Nat) % 129 % 3) ((u * 129 + r : Nat) / 129) t * X ((u * 129 + r : Nat) % 129 % 3) ((u * 129 + r : Nat) / 129) (w + t) else 0)
      = ∑ c : Fin 3, ∑ t : Fin 11, A c u t * X c u (w + t) := fun u => by
    rw [Fin.sum_univ_tiles 43 3 rfl, Finset.sum_comm]
    refine Finset.sum_congr rfl fun c _ => ?_
    rw [Finset.sum_comm]
    refine Finset.sum_congr rfl fun t _ => ?_
    have e : ∀ s : Fin 43, (u * 129 + (s * 3 + c) : Nat) % 129 = s * 3 + c ∧ (u * 129 + (s * 3 + c) : Nat) / 129 = u ∧ (s * 3 + c : Nat) / 3 = s ∧ (s * 3 + c : Nat) % 3 = c := fun s => by
      have := s.isLt; have := c.isLt
      omega
    have ht := t.isLt
    rw [Finset.sum_eq_single (⟨w + t, by omega⟩ : Fin 43)]
    · obtain ⟨e1, e2, e3, e4⟩ := e ⟨w + t, by omega⟩
      dsimp only at e1 e2 e3 e4 ⊢
      rw [e1, e2, e3, e4, if_pos rfl]
    · intro s _ hs
      obtain ⟨e1, e2, e3, e4⟩ := e s
      dsimp only
      rw [e1, e3]
      exact if_neg fun h => hs (Fin.ext h)
    · exact fun k => absurd (Finset.mem_univ _) k
  rw [Finset.sum_congr rfl fun u _ => h2 u, Finset.sum_comm]
  exact Finset.sum_congr rfl fun c _ => Finset.sum_comm

/-- A sum over six taps is the sum over three steps and two phases. -/
theorem phases (f : Nat → Nat → EReal) :
    (∑ t : Fin 6, ∑ u : Fin 6, f t u) = (∑ t : Fin 3, ∑ u : Fin 3, f (2 * t) (2 * u)) + (∑ t : Fin 3, ∑ u : Fin 3, f (2 * t + 1) (2 * u))
      + (∑ t : Fin 3, ∑ u : Fin 3, f (2 * t) (2 * u + 1)) + (∑ t : Fin 3, ∑ u : Fin 3, f (2 * t + 1) (2 * u + 1)) := by
  simp only [Fin.sum_univ_six, Fin.sum_univ_three]
  show _ = _
  simp only [show ((0 : Fin 6) : Nat) = 0 from rfl, show ((1 : Fin 6) : Nat) = 1 from rfl, show ((2 : Fin 6) : Nat) = 2 from rfl, show ((3 : Fin 6) : Nat) = 3 from rfl,
    show ((4 : Fin 6) : Nat) = 4 from rfl, show ((5 : Fin 6) : Nat) = 5 from rfl, show ((0 : Fin 3) : Nat) = 0 from rfl, show ((1 : Fin 3) : Nat) = 1 from rfl,
    show ((2 : Fin 3) : Nat) = 2 from rfl, Nat.mul_zero, Nat.mul_one, Nat.zero_add, Nat.reduceMul, Nat.reduceAdd]
  abel

/-- A flattened image's position counted pixel by pixel. -/
theorem pixels (f : Nat → Nat → EReal) :
    ∑ k : Fin 6400, f (k % 16) (k / 16) = ∑ k : Fin 6400, f (k / 400) (k % 400) := by
  rw [Fin.sum_univ_tiles 400 16 rfl, Finset.sum_comm]
  rw [Fin.sum_univ_tiles 16 400 rfl]
  refine Finset.sum_congr rfl fun c _ => Finset.sum_congr rfl fun p _ => ?_
  have hc := c.isLt
  have hp := p.isLt
  have e1 : ((p : Nat) * 16 + c) % 16 = c := by omega
  have e2 : ((p : Nat) * 16 + c) / 16 = p := by omega
  have e3 : ((c : Nat) * 400 + p) / 400 = c := by omega
  have e4 : ((c : Nat) * 400 + p) % 400 = p := by omega
  dsimp only
  rw [e1, e2, e3, e4]

end Cert.Match

end

end
-- ==== Proof.MatchFirst.lean ====
module

public import proofs.«01_k».proof.Proof.First
public import proofs.«01_k».proof.Proof.Match

/-! The first region computes the first convolution. -/

@[expose] public section

set_option maxRecDepth 16384

noncomputable section

namespace Cert.MatchFirst

open Idealize.ShloMosaic Cert.KernelIdeal Cert.KernelIdeal.Gen

/-- With the banded weights the first region is the first convolution. -/
theorem first (x : Vec Ideal S64x142x426 .f32) (m : Vec Ideal S1419x1056 .f32) (b : Vec Ideal S1x1056 .f32)
    (X : FVec Ideal S64x3x142x142 .f32) (W : FVec Ideal S32x3x11x11 .f32) (B : FVec Ideal S32 .f32)
    (hx : ∀ (n : Fin 64) (p : Fin 142) (r : Fin 426), x (ix3 n p r) = X (ix4 n (⟨r % 3, by omega⟩ : Fin 3) p (⟨r / 3, by omega⟩ : Fin 142)))
    (hm : ∀ (k : Fin 1419) (l : Fin 1056), m (ix2 k l) = ∑ t : Fin 11, if (k : Nat) % 129 / 3 = l / 32 + t then
      (show EReal from W (ix4 (⟨l % 32, by omega⟩ : Fin 32) (⟨k % 129 % 3, by omega⟩ : Fin 3) (⟨k / 129, by omega⟩ : Fin 11) t)) else (0 : EReal))
    (hb : ∀ l : Fin 1056, b (ix2 0 l) = B (ix1 (⟨l % 32, by omega⟩ : Fin 32)))
    (n : Fin 64) (o : Fin 32) (h v : Fin 132) :
    First.stage x m b (ix3 n h (⟨v * 32 + o, by omega⟩ : Fin 4224)) = Spec.layer1 (fun c h v => X (ix4 n c h v)) W B o h v := by
  have hh := h.isLt
  have hv := v.isLt
  have ho := o.isLt
  unfold Spec.layer1 Spec.convB Spec.conv
  show First.rowsV _ m b h ⟨v * 32 + o, _⟩ = _
  unfold First.rowsV
  refine congrArg₂ (· + ·) ?_ ((hb _).trans (by blk_ext []))
  refine Eq.trans ?_ ((Match.band (fun c u s => X (ix4 n (⟨c % 3, by omega⟩ : Fin 3) (⟨(h + u) % 142, by omega⟩ : Fin 142) (⟨(33 * (v / 33) + s) % 142, by omega⟩ : Fin 142)))
    (fun c u t => W (ix4 o (⟨c % 3, by omega⟩ : Fin 3) (⟨u % 11, by omega⟩ : Fin 11) (⟨t % 11, by omega⟩ : Fin 11))) (v % 33) (by omega)).trans ?_)
  · refine Finset.sum_congr rfl fun k _ => ?_
    have hk := k.isLt
    refine congrArg₂ (· * ·) ((hx _ _ _).trans (by blk_ext [])) ((hm _ _).trans (Finset.sum_congr rfl fun t _ => ?_))
    have ht := t.isLt
    refine Match.ite_eq (by dsimp only; omega) ?_
    blk_ext []
  · refine Finset.sum_congr rfl fun c _ => Finset.sum_congr rfl fun t _ => Finset.sum_congr rfl fun u _ => ?_
    have hc := c.isLt
    have ht := t.isLt
    have hu := u.isLt
    unfold Spec.sh
    refine congrArg₂ (· * ·) ?_ ?_
    · blk_ext []
    · blk_ext []

end Cert.MatchFirst

end

end
-- ==== Proof.Pay.lean ====
module

public import Idealize.ShloMosaic.Lib.Pipeline.ValueKit
public import proofs.«01_k».proof.Proof.Gen.KernelIdeal.Frame

@[expose] public section

set_option maxRecDepth 16384

noncomputable section

namespace Cert.KernelIdeal.Pay

open Cert.KernelIdeal.Gen
open Idealize.ShloMosaic Idealize.ShloMosaic.TcCoe Idealize.SL.Sem
open Idealize.ShloMosaic.Pipeline (Dat)

/-- The pooled and scaled rows of a band of 18 rows. -/
theorem poolA_at (s t : Vec Ideal S1x1x32 .f32) (b : Vec Ideal S18x132x32 .f32) (p : Fin 9) (q : Fin 66) (o : Fin 32) :
    k1_pay32 s t b (ix3 p q o)
      = max (max (max (b (ix3 (⟨2 * p, by omega⟩ : Fin 18) (⟨2 * q, by omega⟩ : Fin 132) o)) 0) (max (b (ix3 (⟨1 + 2 * p, by omega⟩ : Fin 18) (⟨2 * q, by omega⟩ : Fin 132) o)) 0))
          (max (max (b (ix3 (⟨2 * p, by omega⟩ : Fin 18) (⟨1 + 2 * q, by omega⟩ : Fin 132) o)) 0) (max (b (ix3 (⟨1 + 2 * p, by omega⟩ : Fin 18) (⟨1 + 2 * q, by omega⟩ : Fin 132) o)) 0))
        * s (ix3 0 0 o) + t (ix3 0 0 o) := by
  pointwise [k1_pay32]
  blk_point []

/-- The pooled and scaled rows of a band of 6 rows. -/
theorem poolB_at (s t : Vec Ideal S1x1x32 .f32) (b : Vec Ideal S6x132x32 .f32) (p : Fin 3) (q : Fin 66) (o : Fin 32) :
    k1_pay232 s t b (ix3 p q o)
      = max (max (max (b (ix3 (⟨2 * p, by omega⟩ : Fin 6) (⟨2 * q, by omega⟩ : Fin 132) o)) 0) (max (b (ix3 (⟨1 + 2 * p, by omega⟩ : Fin 6) (⟨2 * q, by omega⟩ : Fin 132) o)) 0))
          (max (max (b (ix3 (⟨2 * p, by omega⟩ : Fin 6) (⟨1 + 2 * q, by omega⟩ : Fin 132) o)) 0) (max (b (ix3 (⟨1 + 2 * p, by omega⟩ : Fin 6) (⟨1 + 2 * q, by omega⟩ : Fin 132) o)) 0))
        * s (ix3 0 0 o) + t (ix3 0 0 o) := by
  pointwise [k1_pay232]
  blk_point []

/-- A convolution's rows from its rows of patches: the sum over taps and patches, the negative part cut off. -/
theorem chunk_at (w : Vec Ideal S256x128 .f32) (b : Vec Ideal S1x1x16 .f32) (p : Vec Ideal S22x59x256 .f32) (h : Fin 15) (v : Fin 59) (o : Fin 16) :
    k1_pay246 b (k1_pay245 (k1_pay244 w p)) (ix3 h v o)
      = max ((∑ u : Fin 8, ∑ k : Fin 256, p (ix3 (⟨h + u, by omega⟩ : Fin 22) v k) * w (ix2 k (⟨u * 16 + o, by omega⟩ : Fin 128))) + b (ix3 0 0 o)) 0 := by
  pointwise [k1_pay246, k1_pay245, k1_pay244]
  refine congrArg (max · 0) (congrArg (· + _) (Eq.trans ?_ (Fin.sum_univ_eight _).symm))
  simp only [Fin.val_zero, Fin.val_one, Fin.val_two, show ((3 : Fin 8) : Nat) = 3 from rfl, show ((4 : Fin 8) : Nat) = 4 from rfl,
    show ((5 : Fin 8) : Nat) = 5 from rfl, show ((6 : Fin 8) : Nat) = 6 from rfl, show ((7 : Fin 8) : Nat) = 7 from rfl]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
  · refine Finset.sum_congr rfl fun k _ => congrArg₂ (· * ·) ?_ ?_ <;> blk_ext []

/-- A convolution's rows from its rows of patches: the sum over taps and patches, the negative part cut off. -/
theorem chunkL_at (w : Vec Ideal S256x128 .f32) (b : Vec Ideal S1x1x16 .f32) (p : Vec Ideal S21x59x256 .f32) (h : Fin 14) (v : Fin 59) (o : Fin 16) :
    k1_pay282 b (k1_pay280 (k1_pay279 w p)) (k1_pay281 (k1_pay279 w p)) (ix3 h v o)
      = max ((∑ u : Fin 8, ∑ k : Fin 256, p (ix3 (⟨h + u, by omega⟩ : Fin 21) v k) * w (ix2 k (⟨u * 16 + o, by omega⟩ : Fin 128))) + b (ix3 0 0 o)) 0 := by
  pointwise [k1_pay282, k1_pay280, k1_pay281, k1_pay279]
  refine congrArg (max · 0) (congrArg (· + _) (Eq.trans ?_ (Fin.sum_univ_eight _).symm))
  simp only [Fin.val_zero, Fin.val_one, Fin.val_two, show ((3 : Fin 8) : Nat) = 3 from rfl, show ((4 : Fin 8) : Nat) = 4 from rfl,
    show ((5 : Fin 8) : Nat) = 5 from rfl, show ((6 : Fin 8) : Nat) = 6 from rfl, show ((7 : Fin 8) : Nat) = 7 from rfl]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
  · refine Finset.sum_congr rfl fun k _ => congrArg₂ (· * ·) ?_ ?_ <;> blk_ext []

/-- A convolution's rows from its rows of patches: the sum over taps and patches, the negative part cut off. -/
theorem conv3_at (w : Vec Ideal S128x128 .f32) (b : Vec Ideal S1x1x16 .f32) (p : Vec Ideal S59x52x128 .f32) (h : Fin 52) (v : Fin 52) (o : Fin 16) :
    k1_pay1 (k1_pay294 (k1_pay293 w p)) (k1_pay295 (k1_pay293 w p)) b (ix4 0 h v o)
      = max ((∑ u : Fin 8, ∑ k : Fin 128, p (ix3 (⟨h + u, by omega⟩ : Fin 59) v k) * w (ix2 k (⟨u * 16 + o, by omega⟩ : Fin 128))) + b (ix3 0 0 o)) 0 := by
  pointwise [k1_pay1, k1_pay294, k1_pay295, k1_pay293]
  refine congrArg (max · 0) (congrArg (· + _) (Eq.trans ?_ (Fin.sum_univ_eight _).symm))
  simp only [Fin.val_zero, Fin.val_one, Fin.val_two, show ((3 : Fin 8) : Nat) = 3 from rfl, show ((4 : Fin 8) : Nat) = 4 from rfl,
    show ((5 : Fin 8) : Nat) = 5 from rfl, show ((6 : Fin 8) : Nat) = 6 from rfl, show ((7 : Fin 8) : Nat) = 7 from rfl]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
  · refine Finset.sum_congr rfl fun k _ => congrArg₂ (· * ·) ?_ ?_ <;> blk_ext []

end Cert.KernelIdeal.Pay

end

end
-- ==== Proof.Mid1.lean ====
module

public import Idealize.ShloMosaic.Lib.Pipeline.ValueKit
public import Idealize.ShloMosaic.Lib.Pipeline.ReadBack
public import proofs.«01_k».proof.Proof.Gen.KernelIdeal.Frame
public import proofs.«01_k».proof.Proof.Bands
public import proofs.«01_k».proof.Proof.Pay

@[expose] public section

set_option maxRecDepth 16384

noncomputable section

namespace Cert.KernelIdeal.Band

open Cert.KernelIdeal.Gen Cert.KernelIdeal.Pay Cert.KernelIdeal.Tiles
open Idealize.ShloMosaic Idealize.ShloMosaic.TcCoe Idealize.SL.Sem
open Idealize.ShloMosaic.Pipeline (Dat)

variable (x0 : Vec Ideal S1x132x132x32 .f32) (x1 x2 : Vec Ideal S8x8x32 .f32) (x3 : Vec Ideal S8x8x96x96 .f32) (x4 : Vec Ideal S8x8x32 .f32)
  (x5 x6 : Vec Ideal S1x1x32 .f32)

/-- A load of a rectangle that the last writes fill. -/
theorem load_of {s : Shape} (G : s.Idx → EReal) (v : View sig .tc .vmem s .f32) (L' L : List (View.Piece (Elt Ideal) s .f32)) (hp : View.PiecesOf G L)
    (r : Rect s) (x : r.shape.Idx) (hc : ∃ p ∈ L, r.emb x ∈ p.1.set) : v.readCov (L ++ L') r.toLoadRect x = G (r.emb x) := by
  rw [View.readCov_eq_canon']
  exact View.canon_append_of_piecesOf G L' L hp _ hc

/-- A band's load reads the region layer's rows. -/
theorem band_load (v : View sig .tc .vmem S18x132x32 .f32) {hs : Nat} (i : Nat) (hi : (i < 7 ∧ hs = 18) ∨ (i = 7 ∧ hs = 6))
    (L' L : List (View.Piece (Elt Ideal) S18x132x32 .f32)) (hp : View.PiecesOf (bandG x0 x1 x2 x3 x4 i) L)
    (hc : ∀ y : S18x132x32.Idx, (y 0).val < hs → ∃ p ∈ L, y ∈ p.1.set) (inb : ∀ a, (![0, 0, 0] : Fin 3 → Nat) a + (![hs, 132, 32] : Fin 3 → Nat) a ≤ S18x132x32.size a)
    (p : Fin hs) (q : Fin 132) (o : Fin 32) :
    v.readCov (L ++ L') (Rect.unit (s := S18x132x32) ![0, 0, 0] ![hs, 132, 32] inb).toLoadRect (ix3 p q o) = regV x0 x1 x2 x3 x4 o ⟨18 * i + p, by omega⟩ q := by
  refine (load_of _ v L' L hp (Rect.unit (s := S18x132x32) ![0, 0, 0] ![hs, 132, 32] inb) (ix3 p q o) (hc _ ?_)).trans ?_
  · show 0 + 1 * (p : Nat) < hs
    omega
  · refine (val_dif (x := regV x0 x1 x2 x3 x4 o ⟨18 * i + p, by omega⟩ q) ?_ ?_).symm
    · show 18 * i + (0 + 1 * (p : Nat)) < 132
      omega
    · refine congr (congr (congrArg (regV x0 x1 x2 x3 x4) ?_) ?_) ?_
      · exact Fin.ext (show (o : Nat) = 0 + 1 * (o : Nat) by omega)
      · exact Fin.ext (show 18 * i + (p : Nat) = 18 * i + (0 + 1 * (p : Nat)) by omega)
      · exact Fin.ext (show (q : Nat) = 0 + 1 * (q : Nat) by omega)

/-- The second layer's input: the region layer pooled, scaled and shifted. -/
def h2V : Spec.Img 32 66 66 := fun o h v =>
  Spec.pool2 (fun o h v => max (regV x0 x1 x2 x3 x4 o h v) 0) o h v * x5 (ix3 0 0 o) + x6 (ix3 0 0 o)

/-- The same as an array of rows, columns and channels. -/
def h2G : Vec Ideal S66x66x32 .f32 := fun y => h2V x0 x1 x2 x3 x4 x5 x6 (y 2) (y 0) (y 1)

/-- The pooling formula over a band's rows is the whole's at the band's place. -/
theorem pool_reg {hs ps : Nat} (i : Nat) (hi : (i < 7 ∧ hs = 18 ∧ ps = 9) ∨ (i = 7 ∧ hs = 6 ∧ ps = 3)) (s t : Vec Ideal S1x1x32 .f32) (b : FVec Ideal ⟨3, ![hs, 132, 32]⟩ .f32)
    (hs' : ∀ o : Fin 32, s (ix3 0 0 o) = x5 (ix3 0 0 o)) (ht : ∀ o : Fin 32, t (ix3 0 0 o) = x6 (ix3 0 0 o))
    (hb : ∀ (p : Fin hs) (q : Fin 132) (o : Fin 32), b (ix3 p q o) = regV x0 x1 x2 x3 x4 o ⟨18 * i + p, by omega⟩ q) (p : Fin ps) (q : Fin 66) (o : Fin 32) :
    max (max (max (b (ix3 (⟨2 * p, by omega⟩ : Fin hs) (⟨2 * q, by omega⟩ : Fin 132) o)) 0) (max (b (ix3 (⟨1 + 2 * p, by omega⟩ : Fin hs) (⟨2 * q, by omega⟩ : Fin 132) o)) 0))
          (max (max (b (ix3 (⟨2 * p, by omega⟩ : Fin hs) (⟨1 + 2 * q, by omega⟩ : Fin 132) o)) 0) (max (b (ix3 (⟨1 + 2 * p, by omega⟩ : Fin hs) (⟨1 + 2 * q, by omega⟩ : Fin 132) o)) 0))
        * s (ix3 0 0 o) + t (ix3 0 0 o) = h2V x0 x1 x2 x3 x4 x5 x6 o ⟨9 * i + p, by omega⟩ q := by
  rw [hb, hb, hb, hb, hs', ht]
  unfold h2V Spec.pool2
  refine congrArg (fun z : EReal => z * _ + _) ?_
  have e0 : (⟨18 * i + 2 * (p : Nat), by omega⟩ : Fin 132) = ⟨2 * (9 * i + (p : Nat)), by omega⟩ := Fin.ext (show 18 * i + 2 * (p : Nat) = 2 * (9 * i + (p : Nat)) by omega)
  have e1 : (⟨18 * i + (1 + 2 * (p : Nat)), by omega⟩ : Fin 132) = ⟨1 + 2 * (9 * i + (p : Nat)), by omega⟩ :=
    Fin.ext (show 18 * i + (1 + 2 * (p : Nat)) = 1 + 2 * (9 * i + (p : Nat)) by omega)
  exact congrArg₂ (fun h h' : Fin 132 => max (max (max (regV x0 x1 x2 x3 x4 o h ⟨2 * (q : Nat), by omega⟩) 0) (max (regV x0 x1 x2 x3 x4 o h' ⟨2 * (q : Nat), by omega⟩) 0))
    (max (max (regV x0 x1 x2 x3 x4 o h ⟨1 + 2 * (q : Nat), by omega⟩) 0) (max (regV x0 x1 x2 x3 x4 o h' ⟨1 + 2 * (q : Nat), by omega⟩) 0))) e0 e1

/-- A pooled band is its part of the second layer's input. -/
theorem plA (i : Nat) (hi : i < 7) (P : Vec Ideal S1x1x32 .f32 → Vec Ideal S1x1x32 .f32 → Vec Ideal S18x132x32 .f32 → FVec Ideal S9x66x32 .f32)
    (hP : ∀ s t b, P s t b = k1_pay32 s t b) (s t : Vec Ideal S1x1x32 .f32) (b : Vec Ideal S18x132x32 .f32)
    (hs' : ∀ o : Fin 32, s (ix3 0 0 o) = x5 (ix3 0 0 o)) (ht : ∀ o : Fin 32, t (ix3 0 0 o) = x6 (ix3 0 0 o))
    (hb : ∀ (p : Fin 18) (q : Fin 132) (o : Fin 32), b (ix3 p q o) = regV x0 x1 x2 x3 x4 o ⟨18 * i + p, by omega⟩ q)
    (inb : ∀ a, (![9 * i, 0, 0] : Fin 3 → Nat) a + (![9, 66, 32] : Fin 3 → Nat) a ≤ S66x66x32.size a) (y : S9x66x32.Idx) :
    P s t b y = h2G x0 x1 x2 x3 x4 x5 x6 ((Rect.unit (s := S66x66x32) ![9 * i, 0, 0] ![9, 66, 32] inb).emb y) := by
  rw [hP]
  idx_vars y
  refine (poolA_at ..).trans ((pool_reg x0 x1 x2 x3 x4 x5 x6 i (by omega) s t b hs' ht hb _ _ _).trans ?_)
  refine congr (congr (congrArg (h2V x0 x1 x2 x3 x4 x5 x6) ?_) ?_) ?_
  · exact Fin.ext (show (y2 : Nat) = 0 + 1 * (y2 : Nat) by omega)
  · exact Fin.ext (show 9 * i + (y0 : Nat) = 9 * i + 1 * (y0 : Nat) by omega)
  · exact Fin.ext (show (y1 : Nat) = 0 + 1 * (y1 : Nat) by omega)

/-- A pooled band is its part of the second layer's input. -/
theorem plB (i : Nat) (hi : i = 7) (P : Vec Ideal S1x1x32 .f32 → Vec Ideal S1x1x32 .f32 → Vec Ideal S6x132x32 .f32 → FVec Ideal S3x66x32 .f32)
    (hP : ∀ s t b, P s t b = k1_pay232 s t b) (s t : Vec Ideal S1x1x32 .f32) (b : Vec Ideal S6x132x32 .f32)
    (hs' : ∀ o : Fin 32, s (ix3 0 0 o) = x5 (ix3 0 0 o)) (ht : ∀ o : Fin 32, t (ix3 0 0 o) = x6 (ix3 0 0 o))
    (hb : ∀ (p : Fin 6) (q : Fin 132) (o : Fin 32), b (ix3 p q o) = regV x0 x1 x2 x3 x4 o ⟨18 * i + p, by omega⟩ q)
    (inb : ∀ a, (![9 * i, 0, 0] : Fin 3 → Nat) a + (![3, 66, 32] : Fin 3 → Nat) a ≤ S66x66x32.size a) (y : S3x66x32.Idx) :
    P s t b y = h2G x0 x1 x2 x3 x4 x5 x6 ((Rect.unit (s := S66x66x32) ![9 * i, 0, 0] ![3, 66, 32] inb).emb y) := by
  rw [hP]
  idx_vars y
  refine (poolB_at ..).trans ((pool_reg x0 x1 x2 x3 x4 x5 x6 i (by omega) s t b hs' ht hb _ _ _).trans ?_)
  refine congr (congr (congrArg (h2V x0 x1 x2 x3 x4 x5 x6) ?_) ?_) ?_
  · exact Fin.ext (show (y2 : Nat) = 0 + 1 * (y2 : Nat) by omega)
  · exact Fin.ext (show 9 * i + (y0 : Nat) = 9 * i + 1 * (y0 : Nat) by omega)
  · exact Fin.ext (show (y1 : Nat) = 0 + 1 * (y1 : Nat) by omega)

/-- Eight bands reach each element. -/
theorem cov_rows {b7 b6 b5 b4 b3 b2 b1 b0} {w7 w6 w5 w4 w3 w2 w1 w0} (y : S66x66x32.Idx) :
    ∃ p ∈ ([⟨Rect.unit (s := S66x66x32) ![63, 0, 0] ![3, 66, 32] b7, w7⟩, ⟨Rect.unit (s := S66x66x32) ![54, 0, 0] ![9, 66, 32] b6, w6⟩, ⟨Rect.unit (s := S66x66x32) ![45, 0, 0] ![9, 66, 32] b5, w5⟩, ⟨Rect.unit (s := S66x66x32) ![36, 0, 0] ![9, 66, 32] b4, w4⟩, ⟨Rect.unit (s := S66x66x32) ![27, 0, 0] ![9, 66, 32] b3, w3⟩, ⟨Rect.unit (s := S66x66x32) ![18, 0, 0] ![9, 66, 32] b2, w2⟩, ⟨Rect.unit (s := S66x66x32) ![9, 0, 0] ![9, 66, 32] b1, w1⟩, ⟨Rect.unit (s := S66x66x32) ![0, 0, 0] ![9, 66, 32] b0, w0⟩] : List (View.Piece (Elt Ideal) S66x66x32 .f32)), y ∈ p.1.set := by
  have h0 : (y 0).val < 66 := (y 0).isLt
  have h1 : (y 1).val < 66 := (y 1).isLt
  have h2 : (y 2).val < 32 := (y 2).isLt
  refine step (63 ≤ (y 0).val) (fun h => mem3 (inb := b7) (show (63 ≤ (y 0).val ∧ (y 0).val < 63 + 3) ∧ (0 ≤ (y 1).val ∧ (y 1).val < 0 + 66) ∧ (0 ≤ (y 2).val ∧ (y 2).val < 0 + 32) by omega)) fun _ => ?_
  refine step (54 ≤ (y 0).val) (fun h => mem3 (inb := b6) (show (54 ≤ (y 0).val ∧ (y 0).val < 54 + 9) ∧ (0 ≤ (y 1).val ∧ (y 1).val < 0 + 66) ∧ (0 ≤ (y 2).val ∧ (y 2).val < 0 + 32) by omega)) fun _ => ?_
  refine step (45 ≤ (y 0).val) (fun h => mem3 (inb := b5) (show (45 ≤ (y 0).val ∧ (y 0).val < 45 + 9) ∧ (0 ≤ (y 1).val ∧ (y 1).val < 0 + 66) ∧ (0 ≤ (y 2).val ∧ (y 2).val < 0 + 32) by omega)) fun _ => ?_
  refine step (36 ≤ (y 0).val) (fun h => mem3 (inb := b4) (show (36 ≤ (y 0).val ∧ (y 0).val < 36 + 9) ∧ (0 ≤ (y 1).val ∧ (y 1).val < 0 + 66) ∧ (0 ≤ (y 2).val ∧ (y 2).val < 0 + 32) by omega)) fun _ => ?_
  refine step (27 ≤ (y 0).val) (fun h => mem3 (inb := b3) (show (27 ≤ (y 0).val ∧ (y 0).val < 27 + 9) ∧ (0 ≤ (y 1).val ∧ (y 1).val < 0 + 66) ∧ (0 ≤ (y 2).val ∧ (y 2).val < 0 + 32) by omega)) fun _ => ?_
  refine step (18 ≤ (y 0).val) (fun h => mem3 (inb := b2) (show (18 ≤ (y 0).val ∧ (y 0).val < 18 + 9) ∧ (0 ≤ (y 1).val ∧ (y 1).val < 0 + 66) ∧ (0 ≤ (y 2).val ∧ (y 2).val < 0 + 32) by omega)) fun _ => ?_
  refine step (9 ≤ (y 0).val) (fun h => mem3 (inb := b1) (show (9 ≤ (y 0).val ∧ (y 0).val < 9 + 9) ∧ (0 ≤ (y 1).val ∧ (y 1).val < 0 + 66) ∧ (0 ≤ (y 2).val ∧ (y 2).val < 0 + 32) by omega)) fun _ => ?_
  refine step (0 ≤ (y 0).val) (fun h => mem3 (inb := b0) (show (0 ≤ (y 0).val ∧ (y 0).val < 0 + 9) ∧ (0 ≤ (y 1).val ∧ (y 1).val < 0 + 66) ∧ (0 ≤ (y 2).val ∧ (y 2).val < 0 + 32) by omega)) fun _ => ?_
  omega

/-- A load of rows of the second layer's input. -/
theorem h2_load (v : View sig .tc .vmem S66x66x32 .f32) (off n : Nat) (L : List (View.Piece (Elt Ideal) S66x66x32 .f32)) (hp : View.PiecesOf (h2G x0 x1 x2 x3 x4 x5 x6) L)
    (hc : ∀ y : S66x66x32.Idx, ∃ p ∈ L, y ∈ p.1.set) (hn : off + n ≤ 66) (inb : ∀ a, (![off, 0, 0] : Fin 3 → Nat) a + (![n, 66, 32] : Fin 3 → Nat) a ≤ S66x66x32.size a)
    (p : Fin n) (q : Fin 66) (o : Fin 32) :
    v.readCov L (Rect.unit (s := S66x66x32) ![off, 0, 0] ![n, 66, 32] inb).toLoadRect (ix3 p q o) = h2V x0 x1 x2 x3 x4 x5 x6 o ⟨off + p, by omega⟩ q := by
  have e := load_of _ v [] L hp (Rect.unit (s := S66x66x32) ![off, 0, 0] ![n, 66, 32] inb) (ix3 p q o) (hc _)
  rw [List.append_nil] at e
  refine e.trans ?_
  refine congr (congr (congrArg (h2V x0 x1 x2 x3 x4 x5 x6) ?_) ?_) ?_
  · exact Fin.ext (show 0 + 1 * (o : Nat) = o by omega)
  · exact Fin.ext (show off + 1 * (p : Nat) = off + p by omega)
  · exact Fin.ext (show 0 + 1 * (q : Nat) = q by omega)

variable (c : Dev nD) (arg1 : Memref sig .tc .vmem S1x132x132x32 .f32) (harg1 : arg1.IsWhole) (arg2 : Memref sig .tc .vmem S8x8x32 .f32) (harg2 : arg2.IsWhole)
  (arg3 : Memref sig .tc .vmem S8x8x32 .f32) (harg3 : arg3.IsWhole) (arg4 : Memref sig .tc .vmem S8x8x96x96 .f32) (harg4 : arg4.IsWhole)
  (arg5 : Memref sig .tc .vmem S8x8x32 .f32) (harg5 : arg5.IsWhole) (arg6 : Memref sig .tc .vmem S1x1x32 .f32) (harg6 : arg6.IsWhole)
  (arg7 : Memref sig .tc .vmem S1x1x32 .f32) (harg7 : arg7.IsWhole) (arg13 : Memref sig .tc .vmem S18x132x32 .f32) (arg14 : Memref sig .tc .vmem S66x66x32 .f32)

/-- The band 0 as it is read back. -/
theorem v332_at (p : Fin 18) (q : Fin 132) (o : Fin 32) : kernelRun1_A.sl.v332 (F := Ideal) c arg1 harg1 arg2 harg2 arg3 harg3 arg4 harg4 arg5 harg5 arg13 x0 x1 x2 x3 x4 (ix3 p q o) = regV x0 x1 x2 x3 x4 o ⟨18 * 0 + p, by omega⟩ q := by
  obtain ⟨L, hL, hp, hc⟩ := pieces0 arg1 harg1 arg2 harg2 arg3 harg3 arg4 harg4 arg5 harg5 x0 x1 x2 x3 x4 c
  unfold kernelRun1_A.sl.v332
  rw [hL]
  exact band_load x0 x1 x2 x3 x4 arg13.view 0 (by omega) _ L hp hc _ p q o

/-- The band 1 as it is read back. -/
theorem v682_at (p : Fin 18) (q : Fin 132) (o : Fin 32) : kernelRun1_A.sl.v682 (F := Ideal) c arg1 harg1 arg2 harg2 arg3 harg3 arg4 harg4 arg5 harg5 arg13 x0 x1 x2 x3 x4 (ix3 p q o) = regV x0 x1 x2 x3 x4 o ⟨18 * 1 + p, by omega⟩ q := by
  obtain ⟨L, hL, hp, hc⟩ := pieces1 arg1 harg1 arg2 harg2 arg3 harg3 arg4 harg4 arg5 harg5 x0 x1 x2 x3 x4 c
  unfold kernelRun1_A.sl.v682
  rw [hL]
  exact band_load x0 x1 x2 x3 x4 arg13.view 1 (by omega) _ L hp hc _ p q o

/-- The band 2 as it is read back. -/
theorem v1032_at (p : Fin 18) (q : Fin 132) (o : Fin 32) : kernelRun1_A.sl.v1032 (F := Ideal) c arg1 harg1 arg2 harg2 arg3 harg3 arg4 harg4 arg5 harg5 arg13 x0 x1 x2 x3 x4 (ix3 p q o) = regV x0 x1 x2 x3 x4 o ⟨18 * 2 + p, by omega⟩ q := by
  obtain ⟨L, hL, hp, hc⟩ := pieces2 arg1 harg1 arg2 harg2 arg3 harg3 arg4 harg4 arg5 harg5 x0 x1 x2 x3 x4 c
  unfold kernelRun1_A.sl.v1032
  rw [hL]
  exact band_load x0 x1 x2 x3 x4 arg13.view 2 (by omega) _ L hp hc _ p q o

/-- The band 3 as it is read back. -/
theorem v1382_at (p : Fin 18) (q : Fin 132) (o : Fin 32) : kernelRun1_A.sl.v1382 (F := Ideal) c arg1 harg1 arg2 harg2 arg3 harg3 arg4 harg4 arg5 harg5 arg13 x0 x1 x2 x3 x4 (ix3 p q o) = regV x0 x1 x2 x3 x4 o ⟨18 * 3 + p, by omega⟩ q := by
  obtain ⟨L, hL, hp, hc⟩ := pieces3 arg1 harg1 arg2 harg2 arg3 harg3 arg4 harg4 arg5 harg5 x0 x1 x2 x3 x4 c
  unfold kernelRun1_A.sl.v1382
  rw [hL]
  exact band_load x0 x1 x2 x3 x4 arg13.view 3 (by omega) _ L hp hc _ p q o

/-- The band 4 as it is read back. -/
theorem v1732_at (p : Fin 18) (q : Fin 132) (o : Fin 32) : kernelRun1_A.sl.v1732 (F := Ideal) c arg1 harg1 arg2 harg2 arg3 harg3 arg4 harg4 arg5 harg5 arg13 x0 x1 x2 x3 x4 (ix3 p q o) = regV x0 x1 x2 x3 x4 o ⟨18 * 4 + p, by omega⟩ q := by
  obtain ⟨L, hL, hp, hc⟩ := pieces4 arg1 harg1 arg2 harg2 arg3 harg3 arg4 harg4 arg5 harg5 x0 x1 x2 x3 x4 c
  unfold kernelRun1_A.sl.v1732
  rw [hL]
  exact band_load x0 x1 x2 x3 x4 arg13.view 4 (by omega) _ L hp hc _ p q o

/-- The band 5 as it is read back. -/
theorem v2082_at (p : Fin 18) (q : Fin 132) (o : Fin 32) : kernelRun1_A.sl.v2082 (F := Ideal) c arg1 harg1 arg2 harg2 arg3 harg3 arg4 harg4 arg5 harg5 arg13 x0 x1 x2 x3 x4 (ix3 p q o) = regV x0 x1 x2 x3 x4 o ⟨18 * 5 + p, by omega⟩ q := by
  obtain ⟨L, hL, hp, hc⟩ := pieces5 arg1 harg1 arg2 harg2 arg3 harg3 arg4 harg4 arg5 harg5 x0 x1 x2 x3 x4 c
  unfold kernelRun1_A.sl.v2082
  rw [hL]
  exact band_load x0 x1 x2 x3 x4 arg13.view 5 (by omega) _ L hp hc _ p q o

/-- The band 6 as it is read back. -/
theorem v2432_at (p : Fin 18) (q : Fin 132) (o : Fin 32) : kernelRun1_A.sl.v2432 (F := Ideal) c arg1 harg1 arg2 harg2 arg3 harg3 arg4 harg4 arg5 harg5 arg13 x0 x1 x2 x3 x4 (ix3 p q o) = regV x0 x1 x2 x3 x4 o ⟨18 * 6 + p, by omega⟩ q := by
  obtain ⟨L, hL, hp, hc⟩ := pieces6 arg1 harg1 arg2 harg2 arg3 harg3 arg4 harg4 arg5 harg5 x0 x1 x2 x3 x4 c
  unfold kernelRun1_A.sl.v2432
  rw [hL]
  exact band_load x0 x1 x2 x3 x4 arg13.view 6 (by omega) _ L hp hc _ p q o

/-- The band 7 as it is read back. -/
theorem v2782_at (p : Fin 6) (q : Fin 132) (o : Fin 32) : kernelRun1_A.sl.v2782 (F := Ideal) c arg1 harg1 arg2 harg2 arg3 harg3 arg4 harg4 arg5 harg5 arg13 x0 x1 x2 x3 x4 (ix3 p q o) = regV x0 x1 x2 x3 x4 o ⟨18 * 7 + p, by omega⟩ q := by
  obtain ⟨L, hL, hp, hc⟩ := pieces7 arg1 harg1 arg2 harg2 arg3 harg3 arg4 harg4 arg5 harg5 x0 x1 x2 x3 x4 c
  unfold kernelRun1_A.sl.v2782
  rw [hL]
  exact band_load x0 x1 x2 x3 x4 arg13.view 7 (by omega) _ L hp hc _ p q o

/-- A row of parameters as it is read. -/
theorem r_at (o : Fin 32) : kernelRun1_A.sl.r (F := Ideal) c arg6 harg6 x5 (ix3 0 0 o) = x5 (ix3 0 0 o) := by
  have e : ∀ z : Vec Ideal S1x1x32 .f32, k1_pay2 z (ix3 0 0 o) = z (ix3 0 0 o) := fun z => by pointwise [k1_pay2]
  refine (e _).trans ((rd_at arg6 harg6 x5 _ _).trans (congrArg x5 (funext fun a => Fin.ext ?_)))
  fin_cases a
  · rfl
  · rfl
  · show 0 + 1 * (o : Nat) = o
    omega

/-- A row of parameters as it is read. -/
theorem r_1_at (o : Fin 32) : kernelRun1_A.sl.r_1 (F := Ideal) c arg7 harg7 x6 (ix3 0 0 o) = x6 (ix3 0 0 o) := by
  have e : ∀ z : Vec Ideal S1x1x32 .f32, k1_pay3 z (ix3 0 0 o) = z (ix3 0 0 o) := fun z => by pointwise [k1_pay3]
  refine (e _).trans ((rd_at arg7 harg7 x6 _ _).trans (congrArg x6 (funext fun a => Fin.ext ?_)))
  fin_cases a
  · rfl
  · rfl
  · show 0 + 1 * (o : Nat) = o
    omega

/-- The second layer's input: its bands. -/
theorem h2_pieces : View.PiecesOf (h2G x0 x1 x2 x3 x4 x5 x6) (kernelRun1_A.sl.HS1_8 (F := Ideal) c arg1 harg1 arg2 harg2 arg3 harg3 arg4 harg4 arg5 harg5 arg6 harg6 arg7 harg7 arg13 x0 x1 x2 x3 x4 x5 x6) ∧ ∀ y : S66x66x32.Idx, ∃ p ∈ kernelRun1_A.sl.HS1_8 (F := Ideal) c arg1 harg1 arg2 harg2 arg3 harg3 arg4 harg4 arg5 harg5 arg6 harg6 arg7 harg7 arg13 x0 x1 x2 x3 x4 x5 x6, y ∈ p.1.set := by
  unfold kernelRun1_A.sl.HS1_8
  refine ⟨⟨?_, ?_, ?_, ?_, ?_, ?_, ?_, ?_, trivial⟩, fun y => cov_rows y⟩
  · intro y
    have e := plB x0 x1 x2 x3 x4 x5 x6 7 (by decide) (fun s t b => k1_pay232 s t b) (fun _ _ _ => rfl) _ _ _ (r_at x5 c arg6 harg6) (r_1_at x6 c arg7 harg7)
      (v2782_at x0 x1 x2 x3 x4 c arg1 harg1 arg2 harg2 arg3 harg3 arg4 harg4 arg5 harg5 arg13) (by decide) y
    exact e
  · intro y
    have e := plA x0 x1 x2 x3 x4 x5 x6 6 (by decide) (fun s t b => k1_pay206 s t (k1_pay205 b)) (fun _ _ _ => rfl) _ _ _ (r_at x5 c arg6 harg6) (r_1_at x6 c arg7 harg7)
      (v2432_at x0 x1 x2 x3 x4 c arg1 harg1 arg2 harg2 arg3 harg3 arg4 harg4 arg5 harg5 arg13) (by decide) y
    exact e
  · intro y
    have e := plA x0 x1 x2 x3 x4 x5 x6 5 (by decide) (fun s t b => k1_pay175 s t b) (fun _ _ _ => rfl) _ _ _ (r_at x5 c arg6 harg6) (r_1_at x6 c arg7 harg7)
      (v2082_at x0 x1 x2 x3 x4 c arg1 harg1 arg2 harg2 arg3 harg3 arg4 harg4 arg5 harg5 arg13) (by decide) y
    exact e
  · intro y
    have e := plA x0 x1 x2 x3 x4 x5 x6 4 (by decide) (fun s t b => k1_pay146 s t b) (fun _ _ _ => rfl) _ _ _ (r_at x5 c arg6 harg6) (r_1_at x6 c arg7 harg7)
      (v1732_at x0 x1 x2 x3 x4 c arg1 harg1 arg2 harg2 arg3 harg3 arg4 harg4 arg5 harg5 arg13) (by decide) y
    exact e
  · intro y
    have e := plA x0 x1 x2 x3 x4 x5 x6 3 (by decide) (fun s t b => k1_pay120 s t (k1_pay119 b)) (fun _ _ _ => rfl) _ _ _ (r_at x5 c arg6 harg6) (r_1_at x6 c arg7 harg7)
      (v1382_at x0 x1 x2 x3 x4 c arg1 harg1 arg2 harg2 arg3 harg3 arg4 harg4 arg5 harg5 arg13) (by decide) y
    exact e
  · intro y
    have e := plA x0 x1 x2 x3 x4 x5 x6 2 (by decide) (fun s t b => k1_pay88 (k1_pay87 s t b)) (fun _ _ _ => rfl) _ _ _ (r_at x5 c arg6 harg6) (r_1_at x6 c arg7 harg7)
      (v1032_at x0 x1 x2 x3 x4 c arg1 harg1 arg2 harg2 arg3 harg3 arg4 harg4 arg5 harg5 arg13) (by decide) y
    exact e
  · intro y
    have e := plA x0 x1 x2 x3 x4 x5 x6 1 (by decide) (fun s t b => k1_pay59 s t b) (fun _ _ _ => rfl) _ _ _ (r_at x5 c arg6 harg6) (r_1_at x6 c arg7 harg7)
      (v682_at x0 x1 x2 x3 x4 c arg1 harg1 arg2 harg2 arg3 harg3 arg4 harg4 arg5 harg5 arg13) (by decide) y
    exact e
  · intro y
    have e := plA x0 x1 x2 x3 x4 x5 x6 0 (by decide) (fun s t b => k1_pay32 s t b) (fun _ _ _ => rfl) _ _ _ (r_at x5 c arg6 harg6) (r_1_at x6 c arg7 harg7)
      (v332_at x0 x1 x2 x3 x4 c arg1 harg1 arg2 harg2 arg3 harg3 arg4 harg4 arg5 harg5 arg13) (by decide) y
    exact e

/-- The rows from 0 on as they are read. -/
theorem v2806_at (p : Fin 22) (q : Fin 66) (o : Fin 32) : kernelRun1_A.sl.v2806 (F := Ideal) c arg1 harg1 arg2 harg2 arg3 harg3 arg4 harg4 arg5 harg5 arg6 harg6 arg7 harg7 arg13 arg14 x0 x1 x2 x3 x4 x5 x6 (ix3 p q o) = h2V x0 x1 x2 x3 x4 x5 x6 o ⟨0 + p, by omega⟩ q := by
  obtain ⟨hp, hc⟩ := h2_pieces x0 x1 x2 x3 x4 x5 x6 c arg1 harg1 arg2 harg2 arg3 harg3 arg4 harg4 arg5 harg5 arg6 harg6 arg7 harg7 arg13
  unfold kernelRun1_A.sl.v2806
  exact h2_load x0 x1 x2 x3 x4 x5 x6 arg14.view 0 22 _ hp hc (by decide) _ p q o

/-- The rows from 15 on as they are read. -/
theorem v2871_at (p : Fin 22) (q : Fin 66) (o : Fin 32) : kernelRun1_A.sl.v2871 (F := Ideal) c arg1 harg1 arg2 harg2 arg3 harg3 arg4 harg4 arg5 harg5 arg6 harg6 arg7 harg7 arg13 arg14 x0 x1 x2 x3 x4 x5 x6 (ix3 p q o) = h2V x0 x1 x2 x3 x4 x5 x6 o ⟨15 + p, by omega⟩ q := by
  obtain ⟨hp, hc⟩ := h2_pieces x0 x1 x2 x3 x4 x5 x6 c arg1 harg1 arg2 harg2 arg3 harg3 arg4 harg4 arg5 harg5 arg6 harg6 arg7 harg7 arg13
  unfold kernelRun1_A.sl.v2871
  exact h2_load x0 x1 x2 x3 x4 x5 x6 arg14.view 15 22 _ hp hc (by decide) _ p q o

/-- The rows from 30 on as they are read. -/
theorem v2936_at (p : Fin 22) (q : Fin 66) (o : Fin 32) : kernelRun1_A.sl.v2936 (F := Ideal) c arg1 harg1 arg2 harg2 arg3 harg3 arg4 harg4 arg5 harg5 arg6 harg6 arg7 harg7 arg13 arg14 x0 x1 x2 x3 x4 x5 x6 (ix3 p q o) = h2V x0 x1 x2 x3 x4 x5 x6 o ⟨30 + p, by omega⟩ q := by
  obtain ⟨hp, hc⟩ := h2_pieces x0 x1 x2 x3 x4 x5 x6 c arg1 harg1 arg2 harg2 arg3 harg3 arg4 harg4 arg5 harg5 arg6 harg6 arg7 harg7 arg13
  unfold kernelRun1_A.sl.v2936
  exact h2_load x0 x1 x2 x3 x4 x5 x6 arg14.view 30 22 _ hp hc (by decide) _ p q o

/-- The rows from 45 on as they are read. -/
theorem v3001_at (p : Fin 21) (q : Fin 66) (o : Fin 32) : kernelRun1_A.sl.v3001 (F := Ideal) c arg1 harg1 arg2 harg2 arg3 harg3 arg4 harg4 arg5 harg5 arg6 harg6 arg7 harg7 arg13 arg14 x0 x1 x2 x3 x4 x5 x6 (ix3 p q o) = h2V x0 x1 x2 x3 x4 x5 x6 o ⟨45 + p, by omega⟩ q := by
  obtain ⟨hp, hc⟩ := h2_pieces x0 x1 x2 x3 x4 x5 x6 c arg1 harg1 arg2 harg2 arg3 harg3 arg4 harg4 arg5 harg5 arg6 harg6 arg7 harg7 arg13
  unfold kernelRun1_A.sl.v3001
  exact h2_load x0 x1 x2 x3 x4 x5 x6 arg14.view 45 21 _ hp hc (by decide) _ p q o

end Cert.KernelIdeal.Band

end

end
-- ==== Proof.Mid2.lean ====
module

public import Idealize.ShloMosaic.Lib.Pipeline.ValueKit
public import Idealize.ShloMosaic.Lib.Pipeline.ReadBack
public import proofs.«01_k».proof.Proof.Gen.KernelIdeal.Frame
public import proofs.«01_k».proof.Proof.Mid1

@[expose] public section

set_option maxRecDepth 16384

noncomputable section

namespace Cert.KernelIdeal.Band

open Cert.KernelIdeal.Gen Cert.KernelIdeal.Pay Cert.KernelIdeal.Tiles
open Idealize.ShloMosaic Idealize.ShloMosaic.TcCoe Idealize.SL.Sem
open Idealize.ShloMosaic.Pipeline (Dat)

variable (x0 : Vec Ideal S1x132x132x32 .f32) (x1 x2 : Vec Ideal S8x8x32 .f32) (x3 : Vec Ideal S8x8x96x96 .f32) (x4 : Vec Ideal S8x8x32 .f32)
  (x5 x6 : Vec Ideal S1x1x32 .f32) (x7 : Vec Ideal S256x128 .f32) (x8 : Vec Ideal S1x1x16 .f32)

/-- The patches of a chunk of rows; below the image nothing. -/
def p2G (off : Nat) : Vec Ideal S22x59x256 .f32 := fun y =>
  if h : off + (y 0).val < 66 then h2V x0 x1 x2 x3 x4 x5 x6 ⟨(y 2).val % 32, by omega⟩ ⟨off + (y 0).val, h⟩
    ⟨(y 1).val + (y 2).val / 32, by have h1 : (y 1).val < 59 := (y 1).isLt; have h2 : (y 2).val < 256 := (y 2).isLt; omega⟩ else 0

/-- A stored slice is its part of the patches. -/
theorem sl2 {n : Nat} (off t : Nat) (ht : t < 8) (hn : off + n ≤ 66) (P : FVec Ideal ⟨3, ![n, 66, 32]⟩ .f32 → FVec Ideal ⟨3, ![n, 59, 32]⟩ .f32)
    (hP : ∀ b (a : Fin n) (v : Fin 59) (k : Fin 32), P b (ix3 a v k) = b (ix3 a (⟨t + v, by omega⟩ : Fin 66) k)) (b : FVec Ideal ⟨3, ![n, 66, 32]⟩ .f32)
    (hb : ∀ (p : Fin n) (q : Fin 66) (o : Fin 32), b (ix3 p q o) = h2V x0 x1 x2 x3 x4 x5 x6 o ⟨off + p, by omega⟩ q)
    (inb : ∀ a, (![0, 0, 32 * t] : Fin 3 → Nat) a + (![n, 59, 32] : Fin 3 → Nat) a ≤ S22x59x256.size a) (a : Fin n) (v : Fin 59) (k : Fin 32) :
    P b (ix3 a v k) = p2G x0 x1 x2 x3 x4 x5 x6 off ((Rect.unit (s := S22x59x256) ![0, 0, 32 * t] ![n, 59, 32] inb).emb (ix3 a v k)) := by
  rw [hP, hb]
  refine val_dif ?_ ?_
  · show off + (0 + 1 * (a : Nat)) < 66
    omega
  · refine congr (congr (congrArg (h2V x0 x1 x2 x3 x4 x5 x6) ?_) ?_) ?_
    · exact Fin.ext (show (k : Nat) = (32 * t + 1 * (k : Nat)) % 32 by omega)
    · exact Fin.ext (show off + (a : Nat) = off + (0 + 1 * (a : Nat)) by omega)
    · exact Fin.ext (show t + (v : Nat) = 0 + 1 * (v : Nat) + (32 * t + 1 * (k : Nat)) / 32 by omega)

/-- Eight slices reach each element of their rows. -/
theorem cov_lanes {n : Nat} {b7 b6 b5 b4 b3 b2 b1 b0} {w7 w6 w5 w4 w3 w2 w1 w0} (y : S22x59x256.Idx) (hy : (y 0).val < n) :
    ∃ p ∈ ([⟨Rect.unit (s := S22x59x256) ![0, 0, 224] ![n, 59, 32] b7, w7⟩, ⟨Rect.unit (s := S22x59x256) ![0, 0, 192] ![n, 59, 32] b6, w6⟩, ⟨Rect.unit (s := S22x59x256) ![0, 0, 160] ![n, 59, 32] b5, w5⟩, ⟨Rect.unit (s := S22x59x256) ![0, 0, 128] ![n, 59, 32] b4, w4⟩, ⟨Rect.unit (s := S22x59x256) ![0, 0, 96] ![n, 59, 32] b3, w3⟩, ⟨Rect.unit (s := S22x59x256) ![0, 0, 64] ![n, 59, 32] b2, w2⟩, ⟨Rect.unit (s := S22x59x256) ![0, 0, 32] ![n, 59, 32] b1, w1⟩, ⟨Rect.unit (s := S22x59x256) ![0, 0, 0] ![n, 59, 32] b0, w0⟩] : List (View.Piece (Elt Ideal) S22x59x256 .f32)), y ∈ p.1.set := by
  have h1 : (y 1).val < 59 := (y 1).isLt
  have h2 : (y 2).val < 256 := (y 2).isLt
  refine step (224 ≤ (y 2).val) (fun h => mem3 (inb := b7) (show (0 ≤ (y 0).val ∧ (y 0).val < 0 + n) ∧ (0 ≤ (y 1).val ∧ (y 1).val < 0 + 59) ∧ (224 ≤ (y 2).val ∧ (y 2).val < 224 + 32) by omega)) fun _ => ?_
  refine step (192 ≤ (y 2).val) (fun h => mem3 (inb := b6) (show (0 ≤ (y 0).val ∧ (y 0).val < 0 + n) ∧ (0 ≤ (y 1).val ∧ (y 1).val < 0 + 59) ∧ (192 ≤ (y 2).val ∧ (y 2).val < 192 + 32) by omega)) fun _ => ?_
  refine step (160 ≤ (y 2).val) (fun h => mem3 (inb := b5) (show (0 ≤ (y 0).val ∧ (y 0).val < 0 + n) ∧ (0 ≤ (y 1).val ∧ (y 1).val < 0 + 59) ∧ (160 ≤ (y 2).val ∧ (y 2).val < 160 + 32) by omega)) fun _ => ?_
  refine step (128 ≤ (y 2).val) (fun h => mem3 (inb := b4) (show (0 ≤ (y 0).val ∧ (y 0).val < 0 + n) ∧ (0 ≤ (y 1).val ∧ (y 1).val < 0 + 59) ∧ (128 ≤ (y 2).val ∧ (y 2).val < 128 + 32) by omega)) fun _ => ?_
  refine step (96 ≤ (y 2).val) (fun h => mem3 (inb := b3) (show (0 ≤ (y 0).val ∧ (y 0).val < 0 + n) ∧ (0 ≤ (y 1).val ∧ (y 1).val < 0 + 59) ∧ (96 ≤ (y 2).val ∧ (y 2).val < 96 + 32) by omega)) fun _ => ?_
  refine step (64 ≤ (y 2).val) (fun h => mem3 (inb := b2) (show (0 ≤ (y 0).val ∧ (y 0).val < 0 + n) ∧ (0 ≤ (y 1).val ∧ (y 1).val < 0 + 59) ∧ (64 ≤ (y 2).val ∧ (y 2).val < 64 + 32) by omega)) fun _ => ?_
  refine step (32 ≤ (y 2).val) (fun h => mem3 (inb := b1) (show (0 ≤ (y 0).val ∧ (y 0).val < 0 + n) ∧ (0 ≤ (y 1).val ∧ (y 1).val < 0 + 59) ∧ (32 ≤ (y 2).val ∧ (y 2).val < 32 + 32) by omega)) fun _ => ?_
  refine step (0 ≤ (y 2).val) (fun h => mem3 (inb := b0) (show (0 ≤ (y 0).val ∧ (y 0).val < 0 + n) ∧ (0 ≤ (y 1).val ∧ (y 1).val < 0 + 59) ∧ (0 ≤ (y 2).val ∧ (y 2).val < 0 + 32) by omega)) fun _ => ?_
  omega

/-- A load of the patches. -/
theorem p2_load (w : View sig .tc .vmem S22x59x256 .f32) (off n : Nat) (L' L : List (View.Piece (Elt Ideal) S22x59x256 .f32)) (hp : View.PiecesOf (p2G x0 x1 x2 x3 x4 x5 x6 off) L)
    (hc : ∀ y : S22x59x256.Idx, (y 0).val < n → ∃ p ∈ L, y ∈ p.1.set) (hn : off + n ≤ 66) (inb : ∀ a, (![0, 0, 0] : Fin 3 → Nat) a + (![n, 59, 256] : Fin 3 → Nat) a ≤ S22x59x256.size a)
    (a : Fin n) (v : Fin 59) (k : Fin 256) :
    w.readCov (L ++ L') (Rect.unit (s := S22x59x256) ![0, 0, 0] ![n, 59, 256] inb).toLoadRect (ix3 a v k)
      = h2V x0 x1 x2 x3 x4 x5 x6 ⟨k % 32, by omega⟩ ⟨off + a, by omega⟩ ⟨v + k / 32, by omega⟩ := by
  refine (load_of _ w L' L hp (Rect.unit (s := S22x59x256) ![0, 0, 0] ![n, 59, 256] inb) (ix3 a v k) (hc _ ?_)).trans (val_dif ?_ ?_).symm
  · show 0 + 1 * (a : Nat) < n
    omega
  · show off + (0 + 1 * (a : Nat)) < 66
    omega
  · refine congr (congr (congrArg (h2V x0 x1 x2 x3 x4 x5 x6) ?_) ?_) ?_
    · exact Fin.ext (show (k : Nat) % 32 = (0 + 1 * (k : Nat)) % 32 by omega)
    · exact Fin.ext (show off + (a : Nat) = off + (0 + 1 * (a : Nat)) by omega)
    · exact Fin.ext (show (v : Nat) + k / 32 = 0 + 1 * (v : Nat) + (0 + 1 * (k : Nat)) / 32 by omega)

/-- The second convolution with its bias, the negative part cut off. -/
def conv2V : Spec.Img 16 59 59 := fun o h v =>
  max ((∑ u : Fin 8, ∑ k : Fin 256, h2V x0 x1 x2 x3 x4 x5 x6 ⟨k % 32, by omega⟩ ⟨h + u, by omega⟩ ⟨v + k / 32, by omega⟩ * x7 (ix2 k (⟨u * 16 + o, by omega⟩ : Fin 128)))
    + x8 (ix3 0 0 o)) 0

/-- The same as an array of rows, columns and channels. -/
def o2G : Vec Ideal S59x59x16 .f32 := fun y => conv2V x0 x1 x2 x3 x4 x5 x6 x7 x8 (y 2) (y 0) (y 1)

/-- A chunk of 15 rows is its part of the second convolution. -/
theorem ck (off : Nat) (hn : off + 15 ≤ 59) (b : Vec Ideal S1x1x16 .f32) (w : Vec Ideal S256x128 .f32) (p : Vec Ideal S22x59x256 .f32)
    (hb : ∀ o : Fin 16, b (ix3 0 0 o) = x8 (ix3 0 0 o)) (hw : ∀ (k : Fin 256) (l : Fin 128), w (ix2 k l) = x7 (ix2 k l))
    (hp : ∀ (a : Fin 22) (v : Fin 59) (k : Fin 256), p (ix3 a v k) = h2V x0 x1 x2 x3 x4 x5 x6 ⟨k % 32, by omega⟩ ⟨off + a, by omega⟩ ⟨v + k / 32, by omega⟩)
    (inb : ∀ a, (![off, 0, 0] : Fin 3 → Nat) a + (![15, 59, 16] : Fin 3 → Nat) a ≤ S59x59x16.size a) (y : S15x59x16.Idx) :
    k1_pay246 b (k1_pay245 (k1_pay244 w p)) y = o2G x0 x1 x2 x3 x4 x5 x6 x7 x8 ((Rect.unit (s := S59x59x16) ![off, 0, 0] ![15, 59, 16] inb).emb y) := by
  idx_vars y
  refine (chunk_at ..).trans ?_
  have e : ∀ (h : Fin 59) (v : Fin 59) (o : Fin 16), (h : Nat) = off + y0 → v = y1 → o = y2 →
      max ((∑ u : Fin 8, ∑ k : Fin 256, p (ix3 (⟨y0 + u, by omega⟩ : Fin 22) y1 k) * w (ix2 k (⟨u * 16 + y2, by omega⟩ : Fin 128))) + b (ix3 0 0 y2)) 0 = conv2V x0 x1 x2 x3 x4 x5 x6 x7 x8 o h v := by
    rintro h v o hh rfl rfl
    unfold conv2V
    refine congrArg (max · 0) (congrArg₂ (· + ·) ?_ (hb _))
    refine Finset.sum_congr rfl fun u _ => Finset.sum_congr rfl fun k _ => congrArg₂ (· * ·) ((hp _ _ _).trans ?_) (hw _ _)
    exact congrArg (fun z => h2V x0 x1 x2 x3 x4 x5 x6 _ z _) (Fin.ext (show off + ((y0 : Nat) + u) = h + u by omega))
  refine e _ _ _ ?_ (Fin.ext ?_) (Fin.ext ?_)
  · show off + 1 * (y0 : Nat) = off + y0
    omega
  · show 0 + 1 * (y1 : Nat) = y1
    omega
  · show 0 + 1 * (y2 : Nat) = y2
    omega

/-- A chunk of 14 rows is its part of the second convolution. -/
theorem ckL (off : Nat) (hn : off + 14 ≤ 59) (b : Vec Ideal S1x1x16 .f32) (w : Vec Ideal S256x128 .f32) (p : Vec Ideal S21x59x256 .f32)
    (hb : ∀ o : Fin 16, b (ix3 0 0 o) = x8 (ix3 0 0 o)) (hw : ∀ (k : Fin 256) (l : Fin 128), w (ix2 k l) = x7 (ix2 k l))
    (hp : ∀ (a : Fin 21) (v : Fin 59) (k : Fin 256), p (ix3 a v k) = h2V x0 x1 x2 x3 x4 x5 x6 ⟨k % 32, by omega⟩ ⟨off + a, by omega⟩ ⟨v + k / 32, by omega⟩)
    (inb : ∀ a, (![off, 0, 0] : Fin 3 → Nat) a + (![14, 59, 16] : Fin 3 → Nat) a ≤ S59x59x16.size a) (y : S14x59x16.Idx) :
    k1_pay282 b (k1_pay280 (k1_pay279 w p)) (k1_pay281 (k1_pay279 w p)) y = o2G x0 x1 x2 x3 x4 x5 x6 x7 x8 ((Rect.unit (s := S59x59x16) ![off, 0, 0] ![14, 59, 16] inb).emb y) := by
  idx_vars y
  refine (chunkL_at ..).trans ?_
  have e : ∀ (h : Fin 59) (v : Fin 59) (o : Fin 16), (h : Nat) = off + y0 → v = y1 → o = y2 →
      max ((∑ u : Fin 8, ∑ k : Fin 256, p (ix3 (⟨y0 + u, by omega⟩ : Fin 21) y1 k) * w (ix2 k (⟨u * 16 + y2, by omega⟩ : Fin 128))) + b (ix3 0 0 y2)) 0 = conv2V x0 x1 x2 x3 x4 x5 x6 x7 x8 o h v := by
    rintro h v o hh rfl rfl
    unfold conv2V
    refine congrArg (max · 0) (congrArg₂ (· + ·) ?_ (hb _))
    refine Finset.sum_congr rfl fun u _ => Finset.sum_congr rfl fun k _ => congrArg₂ (· * ·) ((hp _ _ _).trans ?_) (hw _ _)
    exact congrArg (fun z => h2V x0 x1 x2 x3 x4 x5 x6 _ z _) (Fin.ext (show off + ((y0 : Nat) + u) = h + u by omega))
  refine e _ _ _ ?_ (Fin.ext ?_) (Fin.ext ?_)
  · show off + 1 * (y0 : Nat) = off + y0
    omega
  · show 0 + 1 * (y1 : Nat) = y1
    omega
  · show 0 + 1 * (y2 : Nat) = y2
    omega

variable (c : Dev nD) (arg1 : Memref sig .tc .vmem S1x132x132x32 .f32) (harg1 : arg1.IsWhole) (arg2 : Memref sig .tc .vmem S8x8x32 .f32) (harg2 : arg2.IsWhole)
  (arg3 : Memref sig .tc .vmem S8x8x32 .f32) (harg3 : arg3.IsWhole) (arg4 : Memref sig .tc .vmem S8x8x96x96 .f32) (harg4 : arg4.IsWhole)
  (arg5 : Memref sig .tc .vmem S8x8x32 .f32) (harg5 : arg5.IsWhole) (arg6 : Memref sig .tc .vmem S1x1x32 .f32) (harg6 : arg6.IsWhole)
  (arg7 : Memref sig .tc .vmem S1x1x32 .f32) (harg7 : arg7.IsWhole) (arg8 : Memref sig .tc .vmem S256x128 .f32) (harg8 : arg8.IsWhole)
  (arg9 : Memref sig .tc .vmem S1x1x16 .f32) (harg9 : arg9.IsWhole) (arg13 : Memref sig .tc .vmem S18x132x32 .f32) (arg14 : Memref sig .tc .vmem S66x66x32 .f32)
  (arg16 : Memref sig .tc .vmem S22x59x256 .f32) (arg17 : Memref sig .tc .vmem S1298x128 .f32)

/-- The patches from row 0 on: their slices. -/
theorem HS3_8_pieces : ∃ L, kernelRun1_A.sl.HS3_8 (F := Ideal) c arg1 harg1 arg2 harg2 arg3 harg3 arg4 harg4 arg5 harg5 arg6 harg6 arg7 harg7 arg13 arg14 x0 x1 x2 x3 x4 x5 x6 = L ++ []
      ∧ View.PiecesOf (p2G x0 x1 x2 x3 x4 x5 x6 0) L ∧ ∀ y : S22x59x256.Idx, (y 0).val < 22 → ∃ p ∈ L, y ∈ p.1.set := by
  unfold kernelRun1_A.sl.HS3_8
  refine ⟨[_, _, _, _, _, _, _, _], rfl, ⟨?_, ?_, ?_, ?_, ?_, ?_, ?_, ?_, trivial⟩, fun y hy => cov_lanes y hy⟩
  · intro y
    idx_vars y
    have e := sl2 x0 x1 x2 x3 x4 x5 x6 0 7 (by decide) (by decide) (fun b => k1_pay243 b) (fun b a v k => by pointwise [k1_pay243] <;> blk_ext []) _
      (v2806_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 0 6 (by decide) (by decide) (fun b => k1_pay242 b) (fun b a v k => by pointwise [k1_pay242] <;> blk_ext []) _
      (v2806_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 0 5 (by decide) (by decide) (fun b => k1_pay241 b) (fun b a v k => by pointwise [k1_pay241] <;> blk_ext []) _
      (v2806_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 0 4 (by decide) (by decide) (fun b => k1_pay240 b) (fun b a v k => by pointwise [k1_pay240] <;> blk_ext []) _
      (v2806_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 0 3 (by decide) (by decide) (fun b => k1_pay239 b) (fun b a v k => by pointwise [k1_pay239] <;> blk_ext []) _
      (v2806_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 0 2 (by decide) (by decide) (fun b => k1_pay238 b) (fun b a v k => by pointwise [k1_pay238] <;> blk_ext []) _
      (v2806_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 0 1 (by decide) (by decide) (fun b => k1_pay237 (k1_pay236 b)) (fun b a v k => by pointwise [k1_pay237, k1_pay236] <;> blk_ext []) _
      (v2806_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 0 0 (by decide) (by decide) (fun b => k1_pay235 b) (fun b a v k => by pointwise [k1_pay235] <;> blk_ext []) _
      (v2806_at x0 x1 x2 x3 x4 x5 x6 c arg1 harg1 arg2 harg2 arg3 harg3 arg4 harg4 arg5 harg5 arg6 harg6 arg7 harg7 arg13 arg14) (by decide) y0 y1 y2
    exact e

/-- The patches from row 0 on as they are read back. -/
theorem v2841_at (a : Fin 22) (v : Fin 59) (k : Fin 256) :
    kernelRun1_A.sl.v2841 (F := Ideal) c arg1 harg1 arg2 harg2 arg3 harg3 arg4 harg4 arg5 harg5 arg6 harg6 arg7 harg7 arg13 arg14 arg16 x0 x1 x2 x3 x4 x5 x6 (ix3 a v k) = h2V x0 x1 x2 x3 x4 x5 x6 ⟨k % 32, by omega⟩ ⟨0 + a, by omega⟩ ⟨v + k / 32, by omega⟩ := by
  obtain ⟨L, hL, hp, hc⟩ := HS3_8_pieces x0 x1 x2 x3 x4 x5 x6 c arg1 harg1 arg2 harg2 arg3 harg3 arg4 harg4 arg5 harg5 arg6 harg6 arg7 harg7 arg13 arg14
  unfold kernelRun1_A.sl.v2841
  rw [hL]
  exact p2_load x0 x1 x2 x3 x4 x5 x6 arg16.view 0 22 _ L hp hc (by decide) _ a v k

/-- The patches from row 15 on: their slices. -/
theorem HS3_16_pieces : ∃ L, kernelRun1_A.sl.HS3_16 (F := Ideal) c arg1 harg1 arg2 harg2 arg3 harg3 arg4 harg4 arg5 harg5 arg6 harg6 arg7 harg7 arg13 arg14 x0 x1 x2 x3 x4 x5 x6 = L ++ kernelRun1_A.sl.HS3_8 (F := Ideal) c arg1 harg1 arg2 harg2 arg3 harg3 arg4 harg4 arg5 harg5 arg6 harg6 arg7 harg7 arg13 arg14 x0 x1 x2 x3 x4 x5 x6
      ∧ View.PiecesOf (p2G x0 x1 x2 x3 x4 x5 x6 15) L ∧ ∀ y : S22x59x256.Idx, (y 0).val < 22 → ∃ p ∈ L, y ∈ p.1.set := by
  unfold kernelRun1_A.sl.HS3_16
  refine ⟨[_, _, _, _, _, _, _, _], rfl, ⟨?_, ?_, ?_, ?_, ?_, ?_, ?_, ?_, trivial⟩, fun y hy => cov_lanes y hy⟩
  · intro y
    idx_vars y
    have e := sl2 x0 x1 x2 x3 x4 x5 x6 15 7 (by decide) (by decide) (fun b => k1_pay255 b) (fun b a v k => by pointwise [k1_pay255] <;> blk_ext []) _
      (v2871_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 15 6 (by decide) (by decide) (fun b => k1_pay254 b) (fun b a v k => by pointwise [k1_pay254] <;> blk_ext []) _
      (v2871_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 15 5 (by decide) (by decide) (fun b => k1_pay253 b) (fun b a v k => by pointwise [k1_pay253] <;> blk_ext []) _
      (v2871_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 15 4 (by decide) (by decide) (fun b => k1_pay252 b) (fun b a v k => by pointwise [k1_pay252] <;> blk_ext []) _
      (v2871_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 15 3 (by decide) (by decide) (fun b => k1_pay251 b) (fun b a v k => by pointwise [k1_pay251] <;> blk_ext []) _
      (v2871_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 15 2 (by decide) (by decide) (fun b => k1_pay250 b) (fun b a v k => by pointwise [k1_pay250] <;> blk_ext []) _
      (v2871_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 15 1 (by decide) (by decide) (fun b => k1_pay249 b) (fun b a v k => by pointwise [k1_pay249] <;> blk_ext []) _
      (v2871_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 15 0 (by decide) (by decide) (fun b => k1_pay248 b) (fun b a v k => by pointwise [k1_pay248] <;> blk_ext []) _
      (v2871_at x0 x1 x2 x3 x4 x5 x6 c arg1 harg1 arg2 harg2 arg3 harg3 arg4 harg4 arg5 harg5 arg6 harg6 arg7 harg7 arg13 arg14) (by decide) y0 y1 y2
    exact e

/-- The patches from row 15 on as they are read back. -/
theorem v2906_at (a : Fin 22) (v : Fin 59) (k : Fin 256) :
    kernelRun1_A.sl.v2906 (F := Ideal) c arg1 harg1 arg2 harg2 arg3 harg3 arg4 harg4 arg5 harg5 arg6 harg6 arg7 harg7 arg13 arg14 arg16 x0 x1 x2 x3 x4 x5 x6 (ix3 a v k) = h2V x0 x1 x2 x3 x4 x5 x6 ⟨k % 32, by omega⟩ ⟨15 + a, by omega⟩ ⟨v + k / 32, by omega⟩ := by
  obtain ⟨L, hL, hp, hc⟩ := HS3_16_pieces x0 x1 x2 x3 x4 x5 x6 c arg1 harg1 arg2 harg2 arg3 harg3 arg4 harg4 arg5 harg5 arg6 harg6 arg7 harg7 arg13 arg14
  unfold kernelRun1_A.sl.v2906
  rw [hL]
  exact p2_load x0 x1 x2 x3 x4 x5 x6 arg16.view 15 22 _ L hp hc (by decide) _ a v k

/-- The patches from row 30 on: their slices. -/
theorem HS3_24_pieces : ∃ L, kernelRun1_A.sl.HS3_24 (F := Ideal) c arg1 harg1 arg2 harg2 arg3 harg3 arg4 harg4 arg5 harg5 arg6 harg6 arg7 harg7 arg13 arg14 x0 x1 x2 x3 x4 x5 x6 = L ++ kernelRun1_A.sl.HS3_16 (F := Ideal) c arg1 harg1 arg2 harg2 arg3 harg3 arg4 harg4 arg5 harg5 arg6 harg6 arg7 harg7 arg13 arg14 x0 x1 x2 x3 x4 x5 x6
      ∧ View.PiecesOf (p2G x0 x1 x2 x3 x4 x5 x6 30) L ∧ ∀ y : S22x59x256.Idx, (y 0).val < 22 → ∃ p ∈ L, y ∈ p.1.set := by
  unfold kernelRun1_A.sl.HS3_24
  refine ⟨[_, _, _, _, _, _, _, _], rfl, ⟨?_, ?_, ?_, ?_, ?_, ?_, ?_, ?_, trivial⟩, fun y hy => cov_lanes y hy⟩
  · intro y
    idx_vars y
    have e := sl2 x0 x1 x2 x3 x4 x5 x6 30 7 (by decide) (by decide) (fun b => k1_pay267 b) (fun b a v k => by pointwise [k1_pay267] <;> blk_ext []) _
      (v2936_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 30 6 (by decide) (by decide) (fun b => k1_pay266 b) (fun b a v k => by pointwise [k1_pay266] <;> blk_ext []) _
      (v2936_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 30 5 (by decide) (by decide) (fun b => k1_pay265 b) (fun b a v k => by pointwise [k1_pay265] <;> blk_ext []) _
      (v2936_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 30 4 (by decide) (by decide) (fun b => k1_pay264 b) (fun b a v k => by pointwise [k1_pay264] <;> blk_ext []) _
      (v2936_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 30 3 (by decide) (by decide) (fun b => k1_pay263 b) (fun b a v k => by pointwise [k1_pay263] <;> blk_ext []) _
      (v2936_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 30 2 (by decide) (by decide) (fun b => k1_pay262 (k1_pay261 b)) (fun b a v k => by pointwise [k1_pay262, k1_pay261] <;> blk_ext []) _
      (v2936_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 30 1 (by decide) (by decide) (fun b => k1_pay260 b) (fun b a v k => by pointwise [k1_pay260] <;> blk_ext []) _
      (v2936_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 30 0 (by decide) (by decide) (fun b => k1_pay259 b) (fun b a v k => by pointwise [k1_pay259] <;> blk_ext []) _
      (v2936_at x0 x1 x2 x3 x4 x5 x6 c arg1 harg1 arg2 harg2 arg3 harg3 arg4 harg4 arg5 harg5 arg6 harg6 arg7 harg7 arg13 arg14) (by decide) y0 y1 y2
    exact e

/-- The patches from row 30 on as they are read back. -/
theorem v2971_at (a : Fin 22) (v : Fin 59) (k : Fin 256) :
    kernelRun1_A.sl.v2971 (F := Ideal) c arg1 harg1 arg2 harg2 arg3 harg3 arg4 harg4 arg5 harg5 arg6 harg6 arg7 harg7 arg13 arg14 arg16 x0 x1 x2 x3 x4 x5 x6 (ix3 a v k) = h2V x0 x1 x2 x3 x4 x5 x6 ⟨k % 32, by omega⟩ ⟨30 + a, by omega⟩ ⟨v + k / 32, by omega⟩ := by
  obtain ⟨L, hL, hp, hc⟩ := HS3_24_pieces x0 x1 x2 x3 x4 x5 x6 c arg1 harg1 arg2 harg2 arg3 harg3 arg4 harg4 arg5 harg5 arg6 harg6 arg7 harg7 arg13 arg14
  unfold kernelRun1_A.sl.v2971
  rw [hL]
  exact p2_load x0 x1 x2 x3 x4 x5 x6 arg16.view 30 22 _ L hp hc (by decide) _ a v k

/-- The patches from row 45 on: their slices. -/
theorem HS3_32_pieces : ∃ L, kernelRun1_A.sl.HS3_32 (F := Ideal) c arg1 harg1 arg2 harg2 arg3 harg3 arg4 harg4 arg5 harg5 arg6 harg6 arg7 harg7 arg13 arg14 x0 x1 x2 x3 x4 x5 x6 = L ++ kernelRun1_A.sl.HS3_24 (F := Ideal) c arg1 harg1 arg2 harg2 arg3 harg3 arg4 harg4 arg5 harg5 arg6 harg6 arg7 harg7 arg13 arg14 x0 x1 x2 x3 x4 x5 x6
      ∧ View.PiecesOf (p2G x0 x1 x2 x3 x4 x5 x6 45) L ∧ ∀ y : S22x59x256.Idx, (y 0).val < 21 → ∃ p ∈ L, y ∈ p.1.set := by
  unfold kernelRun1_A.sl.HS3_32
  refine ⟨[_, _, _, _, _, _, _, _], rfl, ⟨?_, ?_, ?_, ?_, ?_, ?_, ?_, ?_, trivial⟩, fun y hy => cov_lanes y hy⟩
  · intro y
    idx_vars y
    have e := sl2 x0 x1 x2 x3 x4 x5 x6 45 7 (by decide) (by decide) (fun b => k1_pay278 b) (fun b a v k => by pointwise [k1_pay278] <;> blk_ext []) _
      (v3001_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 45 6 (by decide) (by decide) (fun b => k1_pay277 b) (fun b a v k => by pointwise [k1_pay277] <;> blk_ext []) _
      (v3001_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 45 5 (by decide) (by decide) (fun b => k1_pay276 b) (fun b a v k => by pointwise [k1_pay276] <;> blk_ext []) _
      (v3001_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 45 4 (by decide) (by decide) (fun b => k1_pay275 b) (fun b a v k => by pointwise [k1_pay275] <;> blk_ext []) _
      (v3001_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 45 3 (by decide) (by decide) (fun b => k1_pay274 b) (fun b a v k => by pointwise [k1_pay274] <;> blk_ext []) _
      (v3001_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 45 2 (by decide) (by decide) (fun b => k1_pay273 b) (fun b a v k => by pointwise [k1_pay273] <;> blk_ext []) _
      (v3001_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 45 1 (by decide) (by decide) (fun b => k1_pay272 b) (fun b a v k => by pointwise [k1_pay272] <;> blk_ext []) _
      (v3001_at x0 x1 x2 x3 x4 x5 x6 c arg1 harg1 arg2 harg2 arg3 harg3 arg4 harg4 arg5 harg5 arg6 harg6 arg7 harg7 arg13 arg14) (by decide) y0 y1 y2
    exact e
  · intro y
    idx_vars y
    have e := sl2 x0 x1 x2 x3 x4 x5 x6 45 0 (by decide) (by decide) (fun b => k1_pay271 b) (fun b a v k => by pointwise [k1_pay271] <;> blk_ext []) _
      (v3001_at x0 x1 x2 x3 x4 x5 x6 c arg1 harg1 arg2 harg2 arg3 harg3 arg4 harg4 arg5 harg5 arg6 harg6 arg7 harg7 arg13 arg14) (by decide) y0 y1 y2
    exact e

/-- The patches from row 45 on as they are read back. -/
theorem v3036_at (a : Fin 21) (v : Fin 59) (k : Fin 256) :
    kernelRun1_A.sl.v3036 (F := Ideal) c arg1 harg1 arg2 harg2 arg3 harg3 arg4 harg4 arg5 harg5 arg6 harg6 arg7 harg7 arg13 arg14 arg16 x0 x1 x2 x3 x4 x5 x6 (ix3 a v k) = h2V x0 x1 x2 x3 x4 x5 x6 ⟨k % 32, by omega⟩ ⟨45 + a, by omega⟩ ⟨v + k / 32, by omega⟩ := by
  obtain ⟨L, hL, hp, hc⟩ := HS3_32_pieces x0 x1 x2 x3 x4 x5 x6 c arg1 harg1 arg2 harg2 arg3 harg3 arg4 harg4 arg5 harg5 arg6 harg6 arg7 harg7 arg13 arg14
  unfold kernelRun1_A.sl.v3036
  rw [hL]
  exact p2_load x0 x1 x2 x3 x4 x5 x6 arg16.view 45 21 _ L hp hc (by decide) _ a v k

/-- The weights as they are read. -/
theorem r_154_at (k : Fin 256) (l : Fin 128) : kernelRun1_A.sl.r_154 (F := Ideal) c arg8 harg8 x7 (ix2 k l) = x7 (ix2 k l) := by
  have e : ∀ z : Vec Ideal S256x128 .f32, k1_pay234 z (ix2 k l) = z (ix2 k l) := fun z => by pointwise [k1_pay234]
  refine (e _).trans ((rd_at arg8 harg8 x7 _ _).trans (congrArg x7 (funext fun a => Fin.ext ?_)))
  fin_cases a
  · show 0 + 1 * (k : Nat) = k
    omega
  · show 0 + 1 * (l : Nat) = l
    omega

/-- The weights as they are read. -/
theorem r_157_at (k : Fin 256) (l : Fin 128) : kernelRun1_A.sl.r_157 (F := Ideal) c arg8 harg8 x7 (ix2 k l) = x7 (ix2 k l) := by
  have e : ∀ z : Vec Ideal S256x128 .f32, k1_pay247 z (ix2 k l) = z (ix2 k l) := fun z => by pointwise [k1_pay247]
  refine (e _).trans ((rd_at arg8 harg8 x7 _ _).trans (congrArg x7 (funext fun a => Fin.ext ?_)))
  fin_cases a
  · show 0 + 1 * (k : Nat) = k
    omega
  · show 0 + 1 * (l : Nat) = l
    omega

/-- The weights as they are read. -/
theorem r_159_at (k : Fin 256) (l : Fin 128) : kernelRun1_A.sl.r_159 (F := Ideal) c arg8 harg8 x7 (ix2 k l) = x7 (ix2 k l) := by
  have e : ∀ z : Vec Ideal S256x128 .f32, k1_pay258 z (ix2 k l) = z (ix2 k l) := fun z => by pointwise [k1_pay258]
  refine (e _).trans ((rd_at arg8 harg8 x7 _ _).trans (congrArg x7 (funext fun a => Fin.ext ?_)))
  fin_cases a
  · show 0 + 1 * (k : Nat) = k
    omega
  · show 0 + 1 * (l : Nat) = l
    omega

/-- The weights as they are read. -/
theorem r_161_at (k : Fin 256) (l : Fin 128) : kernelRun1_A.sl.r_161 (F := Ideal) c arg8 harg8 x7 (ix2 k l) = x7 (ix2 k l) := by
  have e : ∀ z : Vec Ideal S256x128 .f32, k1_pay270 z (ix2 k l) = z (ix2 k l) := fun z => by pointwise [k1_pay270]
  refine (e _).trans ((rd_at arg8 harg8 x7 _ _).trans (congrArg x7 (funext fun a => Fin.ext ?_)))
  fin_cases a
  · show 0 + 1 * (k : Nat) = k
    omega
  · show 0 + 1 * (l : Nat) = l
    omega

/-- The biases as they are read. -/
theorem r_153_at (o : Fin 16) : kernelRun1_A.sl.r_153 (F := Ideal) c arg9 harg9 x8 (ix3 0 0 o) = x8 (ix3 0 0 o) := by
  have e : ∀ z : Vec Ideal S1x1x16 .f32, k1_pay233 z (ix3 0 0 o) = z (ix3 0 0 o) := fun z => by pointwise [k1_pay233]
  refine (e _).trans ((rd_at arg9 harg9 x8 _ _).trans (congrArg x8 (funext fun a => Fin.ext ?_)))
  fin_cases a
  · rfl
  · rfl
  · show 0 + 1 * (o : Nat) = o
    omega

/-- The products as they are read back. -/
theorem v2847_eq : kernelRun1_A.sl.v2847 (F := Ideal) c arg1 harg1 arg2 harg2 arg3 harg3 arg4 harg4 arg5 harg5 arg6 harg6 arg7 harg7 arg8 harg8 arg13 arg14 arg16 arg17 x0 x1 x2 x3 x4 x5 x6 x7 = k1_pay245 (k1_pay244 (kernelRun1_A.sl.r_154 (F := Ideal) c arg8 harg8 x7) (kernelRun1_A.sl.v2841 (F := Ideal) c arg1 harg1 arg2 harg2 arg3 harg3 arg4 harg4 arg5 harg5 arg6 harg6 arg7 harg7 arg13 arg14 arg16 x0 x1 x2 x3 x4 x5 x6)) := by
  unfold kernelRun1_A.sl.v2847 kernelRun1_A.sl.HS4_1
  rw [View.readCov_eq_canon']
  funext j
  exact View.canon_cons_emb _ _ _ j

/-- The products as they are read back. -/
theorem v2912_eq : kernelRun1_A.sl.v2912 (F := Ideal) c arg1 harg1 arg2 harg2 arg3 harg3 arg4 harg4 arg5 harg5 arg6 harg6 arg7 harg7 arg8 harg8 arg13 arg14 arg16 arg17 x0 x1 x2 x3 x4 x5 x6 x7 = k1_pay256 (kernelRun1_A.sl.r_157 (F := Ideal) c arg8 harg8 x7) (kernelRun1_A.sl.v2906 (F := Ideal) c arg1 harg1 arg2 harg2 arg3 harg3 arg4 harg4 arg5 harg5 arg6 harg6 arg7 harg7 arg13 arg14 arg16 x0 x1 x2 x3 x4 x5 x6) := by
  unfold kernelRun1_A.sl.v2912 kernelRun1_A.sl.HS4_2
  rw [View.readCov_eq_canon']
  funext j
  exact View.canon_cons_emb _ _ _ j

/-- The products as they are read back. -/
theorem v_eq : kernelRun1_A.sl.v (F := Ideal) c arg1 harg1 arg2 harg2 arg3 harg3 arg4 harg4 arg5 harg5 arg6 harg6 arg7 harg7 arg8 harg8 arg13 arg14 arg16 arg17 x0 x1 x2 x3 x4 x5 x6 x7 = k1_pay268 (kernelRun1_A.sl.r_159 (F := Ideal) c arg8 harg8 x7) (kernelRun1_A.sl.v2971 (F := Ideal) c arg1 harg1 arg2 harg2 arg3 harg3 arg4 harg4 arg5 harg5 arg6 harg6 arg7 harg7 arg13 arg14 arg16 x0 x1 x2 x3 x4 x5 x6) := by
  unfold kernelRun1_A.sl.v kernelRun1_A.sl.HS4_3
  rw [View.readCov_eq_canon']
  funext j
  exact View.canon_cons_emb _ _ _ j

/-- The products as they are read back. -/
theorem v3042_eq : kernelRun1_A.sl.v3042 (F := Ideal) c arg1 harg1 arg2 harg2 arg3 harg3 arg4 harg4 arg5 harg5 arg6 harg6 arg7 harg7 arg8 harg8 arg13 arg14 arg16 arg17 x0 x1 x2 x3 x4 x5 x6 x7 = k1_pay279 (kernelRun1_A.sl.r_161 (F := Ideal) c arg8 harg8 x7) (kernelRun1_A.sl.v3036 (F := Ideal) c arg1 harg1 arg2 harg2 arg3 harg3 arg4 harg4 arg5 harg5 arg6 harg6 arg7 harg7 arg13 arg14 arg16 x0 x1 x2 x3 x4 x5 x6) := by
  unfold kernelRun1_A.sl.v3042 kernelRun1_A.sl.HS4_4
  rw [View.readCov_eq_canon']
  funext j
  exact View.canon_cons_emb _ _ _ j

omit c in
/-- Four chunks reach each element. -/
theorem cov_chunks {b3 b2 b1 b0} {w3 w2 w1 w0} (y : S59x59x16.Idx) :
    ∃ p ∈ ([⟨Rect.unit (s := S59x59x16) ![45, 0, 0] ![14, 59, 16] b3, w3⟩, ⟨Rect.unit (s := S59x59x16) ![30, 0, 0] ![15, 59, 16] b2, w2⟩, ⟨Rect.unit (s := S59x59x16) ![15, 0, 0] ![15, 59, 16] b1, w1⟩, ⟨Rect.unit (s := S59x59x16) ![0, 0, 0] ![15, 59, 16] b0, w0⟩] : List (View.Piece (Elt Ideal) S59x59x16 .f32)), y ∈ p.1.set := by
  have h0 : (y 0).val < 59 := (y 0).isLt
  have h1 : (y 1).val < 59 := (y 1).isLt
  have h2 : (y 2).val < 16 := (y 2).isLt
  refine step (45 ≤ (y 0).val) (fun h => mem3 (inb := b3) (show (45 ≤ (y 0).val ∧ (y 0).val < 45 + 14) ∧ (0 ≤ (y 1).val ∧ (y 1).val < 0 + 59) ∧ (0 ≤ (y 2).val ∧ (y 2).val < 0 + 16) by omega)) fun _ => ?_
  refine step (30 ≤ (y 0).val) (fun h => mem3 (inb := b2) (show (30 ≤ (y 0).val ∧ (y 0).val < 30 + 15) ∧ (0 ≤ (y 1).val ∧ (y 1).val < 0 + 59) ∧ (0 ≤ (y 2).val ∧ (y 2).val < 0 + 16) by omega)) fun _ => ?_
  refine step (15 ≤ (y 0).val) (fun h => mem3 (inb := b1) (show (15 ≤ (y 0).val ∧ (y 0).val < 15 + 15) ∧ (0 ≤ (y 1).val ∧ (y 1).val < 0 + 59) ∧ (0 ≤ (y 2).val ∧ (y 2).val < 0 + 16) by omega)) fun _ => ?_
  refine step (0 ≤ (y 0).val) (fun h => mem3 (inb := b0) (show (0 ≤ (y 0).val ∧ (y 0).val < 0 + 15) ∧ (0 ≤ (y 1).val ∧ (y 1).val < 0 + 59) ∧ (0 ≤ (y 2).val ∧ (y 2).val < 0 + 16) by omega)) fun _ => ?_
  omega

/-- A chunk's arithmetic takes the products just stored. -/
theorem ck_read0 (b : Vec Ideal S1x1x16 .f32) : k1_pay246 b (kernelRun1_A.sl.v2847 (F := Ideal) c arg1 harg1 arg2 harg2 arg3 harg3 arg4 harg4 arg5 harg5 arg6 harg6 arg7 harg7 arg8 harg8 arg13 arg14 arg16 arg17 x0 x1 x2 x3 x4 x5 x6 x7) = k1_pay246 b (k1_pay245 (k1_pay244 (kernelRun1_A.sl.r_154 (F := Ideal) c arg8 harg8 x7) (kernelRun1_A.sl.v2841 (F := Ideal) c arg1 harg1 arg2 harg2 arg3 harg3 arg4 harg4 arg5 harg5 arg6 harg6 arg7 harg7 arg13 arg14 arg16 x0 x1 x2 x3 x4 x5 x6))) := by
  rw [v2847_eq]

/-- A chunk that is stored. -/
theorem ck_piece0 (inb : ∀ a, (![0, 0, 0] : Fin 3 → Nat) a + (![15, 59, 16] : Fin 3 → Nat) a ≤ S59x59x16.size a) (y : S15x59x16.Idx) :
    k1_pay246 (kernelRun1_A.sl.r_153 (F := Ideal) c arg9 harg9 x8) (kernelRun1_A.sl.v2847 (F := Ideal) c arg1 harg1 arg2 harg2 arg3 harg3 arg4 harg4 arg5 harg5 arg6 harg6 arg7 harg7 arg8 harg8 arg13 arg14 arg16 arg17 x0 x1 x2 x3 x4 x5 x6 x7) y = o2G x0 x1 x2 x3 x4 x5 x6 x7 x8 ((Rect.unit (s := S59x59x16) ![0, 0, 0] ![15, 59, 16] inb).emb y) :=
  (congrFun (ck_read0 x0 x1 x2 x3 x4 x5 x6 x7 c arg1 harg1 arg2 harg2 arg3 harg3 arg4 harg4 arg5 harg5 arg6 harg6 arg7 harg7 arg8 harg8 arg13 arg14 arg16 arg17 (kernelRun1_A.sl.r_153 (F := Ideal) c arg9 harg9 x8)) y).trans
    (ck x0 x1 x2 x3 x4 x5 x6 x7 x8 0 (by decide) (kernelRun1_A.sl.r_153 (F := Ideal) c arg9 harg9 x8) (kernelRun1_A.sl.r_154 (F := Ideal) c arg8 harg8 x7) (kernelRun1_A.sl.v2841 (F := Ideal) c arg1 harg1 arg2 harg2 arg3 harg3 arg4 harg4 arg5 harg5 arg6 harg6 arg7 harg7 arg13 arg14 arg16 x0 x1 x2 x3 x4 x5 x6) (r_153_at x8 c arg9 harg9) (r_154_at x7 c arg8 harg8)
      (v2841_at x0 x1 x2 x3 x4 x5 x6 c arg1 harg1 arg2 harg2 arg3 harg3 arg4 harg4 arg5 harg5 arg6 harg6 arg7 harg7 arg13 arg14 arg16) inb y)

omit x0 x1 x2 x3 x4 x5 x6 x7 x8 c in
/-- A chunk's arithmetic, however it is divided. -/
theorem ck_form1 (b : Vec Ideal S1x1x16 .f32) (w : Vec Ideal S256x128 .f32) (p : Vec Ideal S22x59x256 .f32) : k1_pay257 b (k1_pay256 w p) = k1_pay246 b (k1_pay245 (k1_pay244 w p)) := rfl

/-- A chunk's arithmetic takes the products just stored. -/
theorem ck_read1 (b : Vec Ideal S1x1x16 .f32) : k1_pay257 b (kernelRun1_A.sl.v2912 (F := Ideal) c arg1 harg1 arg2 harg2 arg3 harg3 arg4 harg4 arg5 harg5 arg6 harg6 arg7 harg7 arg8 harg8 arg13 arg14 arg16 arg17 x0 x1 x2 x3 x4 x5 x6 x7) = k1_pay246 b (k1_pay245 (k1_pay244 (kernelRun1_A.sl.r_157 (F := Ideal) c arg8 harg8 x7) (kernelRun1_A.sl.v2906 (F := Ideal) c arg1 harg1 arg2 harg2 arg3 harg3 arg4 harg4 arg5 harg5 arg6 harg6 arg7 harg7 arg13 arg14 arg16 x0 x1 x2 x3 x4 x5 x6))) := by
  rw [v2912_eq]
  exact ck_form1 _ _ _

/-- A chunk that is stored. -/
theorem ck_piece1 (inb : ∀ a, (![15, 0, 0] : Fin 3 → Nat) a + (![15, 59, 16] : Fin 3 → Nat) a ≤ S59x59x16.size a) (y : S15x59x16.Idx) :
    k1_pay257 (kernelRun1_A.sl.r_153 (F := Ideal) c arg9 harg9 x8) (kernelRun1_A.sl.v2912 (F := Ideal) c arg1 harg1 arg2 harg2 arg3 harg3 arg4 harg4 arg5 harg5 arg6 harg6 arg7 harg7 arg8 harg8 arg13 arg14 arg16 arg17 x0 x1 x2 x3 x4 x5 x6 x7) y = o2G x0 x1 x2 x3 x4 x5 x6 x7 x8 ((Rect.unit (s := S59x59x16) ![15, 0, 0] ![15, 59, 16] inb).emb y) :=
  (congrFun (ck_read1 x0 x1 x2 x3 x4 x5 x6 x7 c arg1 harg1 arg2 harg2 arg3 harg3 arg4 harg4 arg5 harg5 arg6 harg6 arg7 harg7 arg8 harg8 arg13 arg14 arg16 arg17 (kernelRun1_A.sl.r_153 (F := Ideal) c arg9 harg9 x8)) y).trans
    (ck x0 x1 x2 x3 x4 x5 x6 x7 x8 15 (by decide) (kernelRun1_A.sl.r_153 (F := Ideal) c arg9 harg9 x8) (kernelRun1_A.sl.r_157 (F := Ideal) c arg8 harg8 x7) (kernelRun1_A.sl.v2906 (F := Ideal) c arg1 harg1 arg2 harg2 arg3 harg3 arg4 harg4 arg5 harg5 arg6 harg6 arg7 harg7 arg13 arg14 arg16 x0 x1 x2 x3 x4 x5 x6) (r_153_at x8 c arg9 harg9) (r_157_at x7 c arg8 harg8)
      (v2906_at x0 x1 x2 x3 x4 x5 x6 c arg1 harg1 arg2 harg2 arg3 harg3 arg4 harg4 arg5 harg5 arg6 harg6 arg7 harg7 arg13 arg14 arg16) inb y)

omit x0 x1 x2 x3 x4 x5 x6 x7 x8 c in
/-- A chunk's arithmetic, however it is divided. -/
theorem ck_form2 (b : Vec Ideal S1x1x16 .f32) (w : Vec Ideal S256x128 .f32) (p : Vec Ideal S22x59x256 .f32) : k1_pay269 b (k1_pay268 w p) = k1_pay246 b (k1_pay245 (k1_pay244 w p)) := rfl

/-- A chunk's arithmetic takes the products just stored. -/
theorem ck_read2 (b : Vec Ideal S1x1x16 .f32) : k1_pay269 b (kernelRun1_A.sl.v (F := Ideal) c arg1 harg1 arg2 harg2 arg3 harg3 arg4 harg4 arg5 harg5 arg6 harg6 arg7 harg7 arg8 harg8 arg13 arg14 arg16 arg17 x0 x1 x2 x3 x4 x5 x6 x7) = k1_pay246 b (k1_pay245 (k1_pay244 (kernelRun1_A.sl.r_159 (F := Ideal) c arg8 harg8 x7) (kernelRun1_A.sl.v2971 (F := Ideal) c arg1 harg1 arg2 harg2 arg3 harg3 arg4 harg4 arg5 harg5 arg6 harg6 arg7 harg7 arg13 arg14 arg16 x0 x1 x2 x3 x4 x5 x6))) := by
  rw [v_eq]
  exact ck_form2 _ _ _

/-- A chunk that is stored. -/
theorem ck_piece2 (inb : ∀ a, (![30, 0, 0] : Fin 3 → Nat) a + (![15, 59, 16] : Fin 3 → Nat) a ≤ S59x59x16.size a) (y : S15x59x16.Idx) :
    k1_pay269 (kernelRun1_A.sl.r_153 (F := Ideal) c arg9 harg9 x8) (kernelRun1_A.sl.v (F := Ideal) c arg1 harg1 arg2 harg2 arg3 harg3 arg4 harg4 arg5 harg5 arg6 harg6 arg7 harg7 arg8 harg8 arg13 arg14 arg16 arg17 x0 x1 x2 x3 x4 x5 x6 x7) y = o2G x0 x1 x2 x3 x4 x5 x6 x7 x8 ((Rect.unit (s := S59x59x16) ![30, 0, 0] ![15, 59, 16] inb).emb y) :=
  (congrFun (ck_read2 x0 x1 x2 x3 x4 x5 x6 x7 c arg1 harg1 arg2 harg2 arg3 harg3 arg4 harg4 arg5 harg5 arg6 harg6 arg7 harg7 arg8 harg8 arg13 arg14 arg16 arg17 (kernelRun1_A.sl.r_153 (F := Ideal) c arg9 harg9 x8)) y).trans
    (ck x0 x1 x2 x3 x4 x5 x6 x7 x8 30 (by decide) (kernelRun1_A.sl.r_153 (F := Ideal) c arg9 harg9 x8) (kernelRun1_A.sl.r_159 (F := Ideal) c arg8 harg8 x7) (kernelRun1_A.sl.v2971 (F := Ideal) c arg1 harg1 arg2 harg2 arg3 harg3 arg4 harg4 arg5 harg5 arg6 harg6 arg7 harg7 arg13 arg14 arg16 x0 x1 x2 x3 x4 x5 x6) (r_153_at x8 c arg9 harg9) (r_159_at x7 c arg8 harg8)
      (v2971_at x0 x1 x2 x3 x4 x5 x6 c arg1 harg1 arg2 harg2 arg3 harg3 arg4 harg4 arg5 harg5 arg6 harg6 arg7 harg7 arg13 arg14 arg16) inb y)

/-- A chunk's arithmetic takes the products just stored. -/
theorem ck_read3 (b : Vec Ideal S1x1x16 .f32) : k1_pay282 b (kernelRun1_A.sl.r_162 (F := Ideal) c arg1 harg1 arg2 harg2 arg3 harg3 arg4 harg4 arg5 harg5 arg6 harg6 arg7 harg7 arg8 harg8 arg13 arg14 arg16 arg17 x0 x1 x2 x3 x4 x5 x6 x7) (kernelRun1_A.sl.r_163 (F := Ideal) c arg1 harg1 arg2 harg2 arg3 harg3 arg4 harg4 arg5 harg5 arg6 harg6 arg7 harg7 arg8 harg8 arg13 arg14 arg16 arg17 x0 x1 x2 x3 x4 x5 x6 x7) = k1_pay282 b (k1_pay280 (k1_pay279 (kernelRun1_A.sl.r_161 (F := Ideal) c arg8 harg8 x7) (kernelRun1_A.sl.v3036 (F := Ideal) c arg1 harg1 arg2 harg2 arg3 harg3 arg4 harg4 arg5 harg5 arg6 harg6 arg7 harg7 arg13 arg14 arg16 x0 x1 x2 x3 x4 x5 x6))) (k1_pay281 (k1_pay279 (kernelRun1_A.sl.r_161 (F := Ideal) c arg8 harg8 x7) (kernelRun1_A.sl.v3036 (F := Ideal) c arg1 harg1 arg2 harg2 arg3 harg3 arg4 harg4 arg5 harg5 arg6 harg6 arg7 harg7 arg13 arg14 arg16 x0 x1 x2 x3 x4 x5 x6))) := by
  unfold kernelRun1_A.sl.r_162 kernelRun1_A.sl.r_163
  rw [v3042_eq]

/-- A chunk that is stored. -/
theorem ck_piece3 (inb : ∀ a, (![45, 0, 0] : Fin 3 → Nat) a + (![14, 59, 16] : Fin 3 → Nat) a ≤ S59x59x16.size a) (y : S14x59x16.Idx) :
    k1_pay282 (kernelRun1_A.sl.r_153 (F := Ideal) c arg9 harg9 x8) (kernelRun1_A.sl.r_162 (F := Ideal) c arg1 harg1 arg2 harg2 arg3 harg3 arg4 harg4 arg5 harg5 arg6 harg6 arg7 harg7 arg8 harg8 arg13 arg14 arg16 arg17 x0 x1 x2 x3 x4 x5 x6 x7) (kernelRun1_A.sl.r_163 (F := Ideal) c arg1 harg1 arg2 harg2 arg3 harg3 arg4 harg4 arg5 harg5 arg6 harg6 arg7 harg7 arg8 harg8 arg13 arg14 arg16 arg17 x0 x1 x2 x3 x4 x5 x6 x7) y = o2G x0 x1 x2 x3 x4 x5 x6 x7 x8 ((Rect.unit (s := S59x59x16) ![45, 0, 0] ![14, 59, 16] inb).emb y) :=
  (congrFun (ck_read3 x0 x1 x2 x3 x4 x5 x6 x7 c arg1 harg1 arg2 harg2 arg3 harg3 arg4 harg4 arg5 harg5 arg6 harg6 arg7 harg7 arg8 harg8 arg13 arg14 arg16 arg17 (kernelRun1_A.sl.r_153 (F := Ideal) c arg9 harg9 x8)) y).trans
    (ckL x0 x1 x2 x3 x4 x5 x6 x7 x8 45 (by decide) (kernelRun1_A.sl.r_153 (F := Ideal) c arg9 harg9 x8) (kernelRun1_A.sl.r_161 (F := Ideal) c arg8 harg8 x7) (kernelRun1_A.sl.v3036 (F := Ideal) c arg1 harg1 arg2 harg2 arg3 harg3 arg4 harg4 arg5 harg5 arg6 harg6 arg7 harg7 arg13 arg14 arg16 x0 x1 x2 x3 x4 x5 x6) (r_153_at x8 c arg9 harg9) (r_161_at x7 c arg8 harg8)
      (v3036_at x0 x1 x2 x3 x4 x5 x6 c arg1 harg1 arg2 harg2 arg3 harg3 arg4 harg4 arg5 harg5 arg6 harg6 arg7 harg7 arg13 arg14 arg16) inb y)

/-- The second convolution's rows: its chunks. -/
theorem o2_pieces : View.PiecesOf (o2G x0 x1 x2 x3 x4 x5 x6 x7 x8) (kernelRun1_A.sl.HS2_4 (F := Ideal) c arg1 harg1 arg2 harg2 arg3 harg3 arg4 harg4 arg5 harg5 arg6 harg6 arg7 harg7 arg8 harg8 arg9 harg9 arg13 arg14 arg16 arg17 x0 x1 x2 x3 x4 x5 x6 x7 x8) ∧ ∀ y : S59x59x16.Idx, ∃ p ∈ kernelRun1_A.sl.HS2_4 (F := Ideal) c arg1 harg1 arg2 harg2 arg3 harg3 arg4 harg4 arg5 harg5 arg6 harg6 arg7 harg7 arg8 harg8 arg9 harg9 arg13 arg14 arg16 arg17 x0 x1 x2 x3 x4 x5 x6 x7 x8, y ∈ p.1.set := by
  unfold kernelRun1_A.sl.HS2_4
  refine ⟨⟨?_, ?_, ?_, ?_, trivial⟩, fun y => cov_chunks y⟩
  · exact fun y => ck_piece3 x0 x1 x2 x3 x4 x5 x6 x7 x8 c arg1 harg1 arg2 harg2 arg3 harg3 arg4 harg4 arg5 harg5 arg6 harg6 arg7 harg7 arg8 harg8 arg9 harg9 arg13 arg14 arg16 arg17 (by decide) y
  · exact fun y => ck_piece2 x0 x1 x2 x3 x4 x5 x6 x7 x8 c arg1 harg1 arg2 harg2 arg3 harg3 arg4 harg4 arg5 harg5 arg6 harg6 arg7 harg7 arg8 harg8 arg9 harg9 arg13 arg14 arg16 arg17 (by decide) y
  · exact fun y => ck_piece1 x0 x1 x2 x3 x4 x5 x6 x7 x8 c arg1 harg1 arg2 harg2 arg3 harg3 arg4 harg4 arg5 harg5 arg6 harg6 arg7 harg7 arg8 harg8 arg9 harg9 arg13 arg14 arg16 arg17 (by decide) y
  · exact fun y => ck_piece0 x0 x1 x2 x3 x4 x5 x6 x7 x8 c arg1 harg1 arg2 harg2 arg3 harg3 arg4 harg4 arg5 harg5 arg6 harg6 arg7 harg7 arg8 harg8 arg9 harg9 arg13 arg14 arg16 arg17 (by decide) y

end Cert.KernelIdeal.Band

end

end
-- ==== Proof.Mid3.lean ====
module

public import Idealize.ShloMosaic.Lib.Pipeline.ValueKit
public import Idealize.ShloMosaic.Lib.Pipeline.ReadBack
public import proofs.«01_k».proof.Proof.Gen.KernelIdeal.Frame
public import proofs.«01_k».proof.Proof.Mid2

@[expose] public section

set_option maxRecDepth 16384

noncomputable section

namespace Cert.KernelIdeal.Band

open Cert.KernelIdeal.Gen Cert.KernelIdeal.Pay Cert.KernelIdeal.Tiles
open Idealize.ShloMosaic Idealize.ShloMosaic.TcCoe Idealize.SL.Sem
open Idealize.ShloMosaic.Pipeline (Dat)

variable (x0 : Vec Ideal S1x132x132x32 .f32) (x1 x2 : Vec Ideal S8x8x32 .f32) (x3 : Vec Ideal S8x8x96x96 .f32) (x4 : Vec Ideal S8x8x32 .f32)
  (x5 x6 : Vec Ideal S1x1x32 .f32) (x7 : Vec Ideal S256x128 .f32) (x8 : Vec Ideal S1x1x16 .f32)
  (x9 : Vec Ideal S128x128 .f32) (x10 : Vec Ideal S1x1x16 .f32)

/-- The patches of the third layer. -/
def p3G : Vec Ideal S59x52x128 .f32 := fun y => conv2V x0 x1 x2 x3 x4 x5 x6 x7 x8 ⟨(y 2).val % 16, by omega⟩ (y 0)
    ⟨(y 1).val + (y 2).val / 16, by have h1 : (y 1).val < 52 := (y 1).isLt; have h2 : (y 2).val < 128 := (y 2).isLt; omega⟩

/-- A stored slice is its part of the patches. -/
theorem sl3 (t : Nat) (ht : t < 8) (P : FVec Ideal S59x59x16 .f32 → FVec Ideal S59x52x16 .f32)
    (hP : ∀ b (a : Fin 59) (v : Fin 52) (k : Fin 16), P b (ix3 a v k) = b (ix3 a (⟨t + v, by omega⟩ : Fin 59) k)) (b : FVec Ideal S59x59x16 .f32)
    (hb : ∀ (p q : Fin 59) (o : Fin 16), b (ix3 p q o) = conv2V x0 x1 x2 x3 x4 x5 x6 x7 x8 o p q)
    (inb : ∀ a, (![0, 0, 16 * t] : Fin 3 → Nat) a + (![59, 52, 16] : Fin 3 → Nat) a ≤ S59x52x128.size a) (a : Fin 59) (v : Fin 52) (k : Fin 16) :
    P b (ix3 a v k) = p3G x0 x1 x2 x3 x4 x5 x6 x7 x8 ((Rect.unit (s := S59x52x128) ![0, 0, 16 * t] ![59, 52, 16] inb).emb (ix3 a v k)) := by
  rw [hP, hb]
  refine congr (congr (congrArg (conv2V x0 x1 x2 x3 x4 x5 x6 x7 x8) ?_) ?_) ?_
  · exact Fin.ext (show (k : Nat) = (16 * t + 1 * (k : Nat)) % 16 by omega)
  · exact Fin.ext (show (a : Nat) = 0 + 1 * (a : Nat) by omega)
  · exact Fin.ext (show t + (v : Nat) = 0 + 1 * (v : Nat) + (16 * t + 1 * (k : Nat)) / 16 by omega)

/-- Eight slices reach each element. -/
theorem cov_lanes3 {b7 b6 b5 b4 b3 b2 b1 b0} {w7 w6 w5 w4 w3 w2 w1 w0} (y : S59x52x128.Idx) :
    ∃ p ∈ ([⟨Rect.unit (s := S59x52x128) ![0, 0, 112] ![59, 52, 16] b7, w7⟩, ⟨Rect.unit (s := S59x52x128) ![0, 0, 96] ![59, 52, 16] b6, w6⟩, ⟨Rect.unit (s := S59x52x128) ![0, 0, 80] ![59, 52, 16] b5, w5⟩, ⟨Rect.unit (s := S59x52x128) ![0, 0, 64] ![59, 52, 16] b4, w4⟩, ⟨Rect.unit (s := S59x52x128) ![0, 0, 48] ![59, 52, 16] b3, w3⟩, ⟨Rect.unit (s := S59x52x128) ![0, 0, 32] ![59, 52, 16] b2, w2⟩, ⟨Rect.unit (s := S59x52x128) ![0, 0, 16] ![59, 52, 16] b1, w1⟩, ⟨Rect.unit (s := S59x52x128) ![0, 0, 0] ![59, 52, 16] b0, w0⟩] : List (View.Piece (Elt Ideal) S59x52x128 .f32)), y ∈ p.1.set := by
  have h0 : (y 0).val < 59 := (y 0).isLt
  have h1 : (y 1).val < 52 := (y 1).isLt
  have h2 : (y 2).val < 128 := (y 2).isLt
  refine step (112 ≤ (y 2).val) (fun h => mem3 (inb := b7) (show (0 ≤ (y 0).val ∧ (y 0).val < 0 + 59) ∧ (0 ≤ (y 1).val ∧ (y 1).val < 0 + 52) ∧ (112 ≤ (y 2).val ∧ (y 2).val < 112 + 16) by omega)) fun _ => ?_
  refine step (96 ≤ (y 2).val) (fun h => mem3 (inb := b6) (show (0 ≤ (y 0).val ∧ (y 0).val < 0 + 59) ∧ (0 ≤ (y 1).val ∧ (y 1).val < 0 + 52) ∧ (96 ≤ (y 2).val ∧ (y 2).val < 96 + 16) by omega)) fun _ => ?_
  refine step (80 ≤ (y 2).val) (fun h => mem3 (inb := b5) (show (0 ≤ (y 0).val ∧ (y 0).val < 0 + 59) ∧ (0 ≤ (y 1).val ∧ (y 1).val < 0 + 52) ∧ (80 ≤ (y 2).val ∧ (y 2).val < 80 + 16) by omega)) fun _ => ?_
  refine step (64 ≤ (y 2).val) (fun h => mem3 (inb := b4) (show (0 ≤ (y 0).val ∧ (y 0).val < 0 + 59) ∧ (0 ≤ (y 1).val ∧ (y 1).val < 0 + 52) ∧ (64 ≤ (y 2).val ∧ (y 2).val < 64 + 16) by omega)) fun _ => ?_
  refine step (48 ≤ (y 2).val) (fun h => mem3 (inb := b3) (show (0 ≤ (y 0).val ∧ (y 0).val < 0 + 59) ∧ (0 ≤ (y 1).val ∧ (y 1).val < 0 + 52) ∧ (48 ≤ (y 2).val ∧ (y 2).val < 48 + 16) by omega)) fun _ => ?_
  refine step (32 ≤ (y 2).val) (fun h => mem3 (inb := b2) (show (0 ≤ (y 0).val ∧ (y 0).val < 0 + 59) ∧ (0 ≤ (y 1).val ∧ (y 1).val < 0 + 52) ∧ (32 ≤ (y 2).val ∧ (y 2).val < 32 + 16) by omega)) fun _ => ?_
  refine step (16 ≤ (y 2).val) (fun h => mem3 (inb := b1) (show (0 ≤ (y 0).val ∧ (y 0).val < 0 + 59) ∧ (0 ≤ (y 1).val ∧ (y 1).val < 0 + 52) ∧ (16 ≤ (y 2).val ∧ (y 2).val < 16 + 16) by omega)) fun _ => ?_
  refine step (0 ≤ (y 2).val) (fun h => mem3 (inb := b0) (show (0 ≤ (y 0).val ∧ (y 0).val < 0 + 59) ∧ (0 ≤ (y 1).val ∧ (y 1).val < 0 + 52) ∧ (0 ≤ (y 2).val ∧ (y 2).val < 0 + 16) by omega)) fun _ => ?_
  omega

/-- The third convolution with its bias, the negative part cut off. -/
def conv3V : Spec.Img 16 52 52 := fun o h v =>
  max ((∑ u : Fin 8, ∑ k : Fin 128, conv2V x0 x1 x2 x3 x4 x5 x6 x7 x8 ⟨k % 16, by omega⟩ ⟨h + u, by omega⟩ ⟨v + k / 16, by omega⟩ * x9 (ix2 k (⟨u * 16 + o, by omega⟩ : Fin 128)))
    + x10 (ix3 0 0 o)) 0

/-- The arithmetic of the third layer on its patches. -/
theorem ck3 (b : Vec Ideal S1x1x16 .f32) (w : Vec Ideal S128x128 .f32) (p : Vec Ideal S59x52x128 .f32)
    (hb : ∀ o : Fin 16, b (ix3 0 0 o) = x10 (ix3 0 0 o)) (hw : ∀ (k : Fin 128) (l : Fin 128), w (ix2 k l) = x9 (ix2 k l))
    (hp : ∀ (a : Fin 59) (v : Fin 52) (k : Fin 128), p (ix3 a v k) = conv2V x0 x1 x2 x3 x4 x5 x6 x7 x8 ⟨k % 16, by omega⟩ a ⟨v + k / 16, by omega⟩) (h v : Fin 52) (o : Fin 16) :
    k1_pay1 (k1_pay294 (k1_pay293 w p)) (k1_pay295 (k1_pay293 w p)) b (ix4 0 h v o) = conv3V x0 x1 x2 x3 x4 x5 x6 x7 x8 x9 x10 o h v := by
  refine (conv3_at ..).trans ?_
  unfold conv3V
  refine congrArg (max · 0) (congrArg₂ (· + ·) ?_ (hb _))
  exact Finset.sum_congr rfl fun u _ => Finset.sum_congr rfl fun k _ => congrArg₂ (· * ·) (hp _ _ _) (hw _ _)

variable (c : Dev nD) (arg1 : Memref sig .tc .vmem S1x132x132x32 .f32) (harg1 : arg1.IsWhole) (arg2 : Memref sig .tc .vmem S8x8x32 .f32) (harg2 : arg2.IsWhole)
  (arg3 : Memref sig .tc .vmem S8x8x32 .f32) (harg3 : arg3.IsWhole) (arg4 : Memref sig .tc .vmem S8x8x96x96 .f32) (harg4 : arg4.IsWhole)
  (arg5 : Memref sig .tc .vmem S8x8x32 .f32) (harg5 : arg5.IsWhole) (arg6 : Memref sig .tc .vmem S1x1x32 .f32) (harg6 : arg6.IsWhole)
  (arg7 : Memref sig .tc .vmem S1x1x32 .f32) (harg7 : arg7.IsWhole) (arg8 : Memref sig .tc .vmem S256x128 .f32) (harg8 : arg8.IsWhole)
  (arg9 : Memref sig .tc .vmem S1x1x16 .f32) (harg9 : arg9.IsWhole) (arg10 : Memref sig .tc .vmem S128x128 .f32) (harg10 : arg10.IsWhole)
  (arg11 : Memref sig .tc .vmem S1x1x16 .f32) (harg11 : arg11.IsWhole) (arg12 : Memref sig .tc .vmem S1x52x52x16 .f32) (harg12 : arg12.IsWhole) (arg13 : Memref sig .tc .vmem S18x132x32 .f32) (arg14 : Memref sig .tc .vmem S66x66x32 .f32)
  (arg15 : Memref sig .tc .vmem S59x59x16 .f32) (arg16 : Memref sig .tc .vmem S22x59x256 .f32) (arg17 : Memref sig .tc .vmem S1298x128 .f32) (arg18 : Memref sig .tc .vmem S59x52x128 .f32) (arg19 : Memref sig .tc .vmem S3068x128 .f32)

/-- The second convolution as it is read back. -/
theorem v3066_at (p q : Fin 59) (o : Fin 16) : kernelRun1_A.sl.v3066 (F := Ideal) c arg1 harg1 arg2 harg2 arg3 harg3 arg4 harg4 arg5 harg5 arg6 harg6 arg7 harg7 arg8 harg8 arg9 harg9 arg13 arg14 arg15 arg16 arg17 x0 x1 x2 x3 x4 x5 x6 x7 x8 (ix3 p q o) = conv2V x0 x1 x2 x3 x4 x5 x6 x7 x8 o p q := by
  obtain ⟨hp, hc⟩ := o2_pieces x0 x1 x2 x3 x4 x5 x6 x7 x8 c arg1 harg1 arg2 harg2 arg3 harg3 arg4 harg4 arg5 harg5 arg6 harg6 arg7 harg7 arg8 harg8 arg9 harg9 arg13 arg14 arg16 arg17
  unfold kernelRun1_A.sl.v3066
  rw [← List.append_nil (kernelRun1_A.sl.HS2_4 (F := Ideal) c arg1 harg1 arg2 harg2 arg3 harg3 arg4 harg4 arg5 harg5 arg6 harg6 arg7 harg7 arg8 harg8 arg9 harg9 arg13 arg14 arg16 arg17 x0 x1 x2 x3 x4 x5 x6 x7 x8)]
  refine (load_of _ arg15.view [] _ hp (Rect.unit (s := S59x59x16) ![0, 0, 0] ![59, 59, 16] inb_S59x59x16_S59x59x16_0_0_0) (ix3 p q o) (hc _)).trans ?_
  refine congr (congr (congrArg (conv2V x0 x1 x2 x3 x4 x5 x6 x7 x8) ?_) ?_) ?_
  · exact Fin.ext (show 0 + 1 * (o : Nat) = o by omega)
  · exact Fin.ext (show 0 + 1 * (p : Nat) = p by omega)
  · exact Fin.ext (show 0 + 1 * (q : Nat) = q by omega)

/-- The third layer's patches: their slices. -/
theorem p3_pieces : View.PiecesOf (p3G x0 x1 x2 x3 x4 x5 x6 x7 x8) (kernelRun1_A.sl.HS5_8 (F := Ideal) c arg1 harg1 arg2 harg2 arg3 harg3 arg4 harg4 arg5 harg5 arg6 harg6 arg7 harg7 arg8 harg8 arg9 harg9 arg13 arg14 arg15 arg16 arg17 x0 x1 x2 x3 x4 x5 x6 x7 x8) ∧ ∀ y : S59x52x128.Idx, ∃ p ∈ kernelRun1_A.sl.HS5_8 (F := Ideal) c arg1 harg1 arg2 harg2 arg3 harg3 arg4 harg4 arg5 harg5 arg6 harg6 arg7 harg7 arg8 harg8 arg9 harg9 arg13 arg14 arg15 arg16 arg17 x0 x1 x2 x3 x4 x5 x6 x7 x8, y ∈ p.1.set := by
  unfold kernelRun1_A.sl.HS5_8
  refine ⟨⟨?_, ?_, ?_, ?_, ?_, ?_, ?_, ?_, trivial⟩, fun y => cov_lanes3 y⟩
  · intro y
    idx_vars y
    have e := sl3 x0 x1 x2 x3 x4 x5 x6 x7 x8 7 (by decide) (fun b => k1_pay292 b) (fun b a v k => by pointwise [k1_pay292] <;> blk_ext []) _
      (v3066_at x0 x1 x2 x3 x4 x5 x6 x7 x8 c arg1 harg1 arg2 harg2 arg3 harg3 arg4 harg4 arg5 harg5 arg6 harg6 arg7 harg7 arg8 harg8 arg9 harg9 arg13 arg14 arg15 arg16 arg17) (by decide) y0 y1 y2
    exact e
  · intro y
    idx_vars y
    have e := sl3 x0 x1 x2 x3 x4 x5 x6 x7 x8 6 (by decide) (fun b => k1_pay291 b) (fun b a v k => by pointwise [k1_pay291] <;> blk_ext []) _
      (v3066_at x0 x1 x2 x3 x4 x5 x6 x7 x8 c arg1 harg1 arg2 harg2 arg3 harg3 arg4 harg4 arg5 harg5 arg6 harg6 arg7 harg7 arg8 harg8 arg9 harg9 arg13 arg14 arg15 arg16 arg17) (by decide) y0 y1 y2
    exact e
  · intro y
    idx_vars y
    have e := sl3 x0 x1 x2 x3 x4 x5 x6 x7 x8 5 (by decide) (fun b => k1_pay290 b) (fun b a v k => by pointwise [k1_pay290] <;> blk_ext []) _
      (v3066_at x0 x1 x2 x3 x4 x5 x6 x7 x8 c arg1 harg1 arg2 harg2 arg3 harg3 arg4 harg4 arg5 harg5 arg6 harg6 arg7 harg7 arg8 harg8 arg9 harg9 arg13 arg14 arg15 arg16 arg17) (by decide) y0 y1 y2
    exact e
  · intro y
    idx_vars y
    have e := sl3 x0 x1 x2 x3 x4 x5 x6 x7 x8 4 (by decide) (fun b => k1_pay289 b) (fun b a v k => by pointwise [k1_pay289] <;> blk_ext []) _
      (v3066_at x0 x1 x2 x3 x4 x5 x6 x7 x8 c arg1 harg1 arg2 harg2 arg3 harg3 arg4 harg4 arg5 harg5 arg6 harg6 arg7 harg7 arg8 harg8 arg9 harg9 arg13 arg14 arg15 arg16 arg17) (by decide) y0 y1 y2
    exact e
  · intro y
    idx_vars y
    have e := sl3 x0 x1 x2 x3 x4 x5 x6 x7 x8 3 (by decide) (fun b => k1_pay288 (k1_pay287 b)) (fun b a v k => by pointwise [k1_pay288, k1_pay287] <;> blk_ext []) _
      (v3066_at x0 x1 x2 x3 x4 x5 x6 x7 x8 c arg1 harg1 arg2 harg2 arg3 harg3 arg4 harg4 arg5 harg5 arg6 harg6 arg7 harg7 arg8 harg8 arg9 harg9 arg13 arg14 arg15 arg16 arg17) (by decide) y0 y1 y2
    exact e
  · intro y
    idx_vars y
    have e := sl3 x0 x1 x2 x3 x4 x5 x6 x7 x8 2 (by decide) (fun b => k1_pay286 b) (fun b a v k => by pointwise [k1_pay286] <;> blk_ext []) _
      (v3066_at x0 x1 x2 x3 x4 x5 x6 x7 x8 c arg1 harg1 arg2 harg2 arg3 harg3 arg4 harg4 arg5 harg5 arg6 harg6 arg7 harg7 arg8 harg8 arg9 harg9 arg13 arg14 arg15 arg16 arg17) (by decide) y0 y1 y2
    exact e
  · intro y
    idx_vars y
    have e := sl3 x0 x1 x2 x3 x4 x5 x6 x7 x8 1 (by decide) (fun b => k1_pay285 b) (fun b a v k => by pointwise [k1_pay285] <;> blk_ext []) _
      (v3066_at x0 x1 x2 x3 x4 x5 x6 x7 x8 c arg1 harg1 arg2 harg2 arg3 harg3 arg4 harg4 arg5 harg5 arg6 harg6 arg7 harg7 arg8 harg8 arg9 harg9 arg13 arg14 arg15 arg16 arg17) (by decide) y0 y1 y2
    exact e
  · intro y
    idx_vars y
    have e := sl3 x0 x1 x2 x3 x4 x5 x6 x7 x8 0 (by decide) (fun b => k1_pay284 b) (fun b a v k => by pointwise [k1_pay284] <;> blk_ext []) _
      (v3066_at x0 x1 x2 x3 x4 x5 x6 x7 x8 c arg1 harg1 arg2 harg2 arg3 harg3 arg4 harg4 arg5 harg5 arg6 harg6 arg7 harg7 arg8 harg8 arg9 harg9 arg13 arg14 arg15 arg16 arg17) (by decide) y0 y1 y2
    exact e

/-- The third layer's patches as they are read back. -/
theorem v3101_at (a : Fin 59) (v : Fin 52) (k : Fin 128) :
    kernelRun1_A.sl.v3101 (F := Ideal) c arg1 harg1 arg2 harg2 arg3 harg3 arg4 harg4 arg5 harg5 arg6 harg6 arg7 harg7 arg8 harg8 arg9 harg9 arg13 arg14 arg15 arg16 arg17 arg18 x0 x1 x2 x3 x4 x5 x6 x7 x8 (ix3 a v k) = conv2V x0 x1 x2 x3 x4 x5 x6 x7 x8 ⟨k % 16, by omega⟩ a ⟨v + k / 16, by omega⟩ := by
  obtain ⟨hp, hc⟩ := p3_pieces x0 x1 x2 x3 x4 x5 x6 x7 x8 c arg1 harg1 arg2 harg2 arg3 harg3 arg4 harg4 arg5 harg5 arg6 harg6 arg7 harg7 arg8 harg8 arg9 harg9 arg13 arg14 arg15 arg16 arg17
  unfold kernelRun1_A.sl.v3101
  rw [← List.append_nil (kernelRun1_A.sl.HS5_8 (F := Ideal) c arg1 harg1 arg2 harg2 arg3 harg3 arg4 harg4 arg5 harg5 arg6 harg6 arg7 harg7 arg8 harg8 arg9 harg9 arg13 arg14 arg15 arg16 arg17 x0 x1 x2 x3 x4 x5 x6 x7 x8)]
  refine (load_of _ arg18.view [] _ hp (Rect.unit (s := S59x52x128) ![0, 0, 0] ![59, 52, 128] inb_S59x52x128_S59x52x128_0_0_0) (ix3 a v k) (hc _)).trans ?_
  refine congr (congr (congrArg (conv2V x0 x1 x2 x3 x4 x5 x6 x7 x8) ?_) ?_) ?_
  · exact Fin.ext (show (0 + 1 * (k : Nat)) % 16 = k % 16 by omega)
  · exact Fin.ext (show 0 + 1 * (a : Nat) = a by omega)
  · exact Fin.ext (show 0 + 1 * (v : Nat) + (0 + 1 * (k : Nat)) / 16 = v + k / 16 by omega)

/-- The third layer's weights as they are read. -/
theorem r_164_at (k : Fin 128) (l : Fin 128) : kernelRun1_A.sl.r_164 (F := Ideal) c arg10 harg10 x9 (ix2 k l) = x9 (ix2 k l) := by
  have e : ∀ z : Vec Ideal S128x128 .f32, k1_pay283 z (ix2 k l) = z (ix2 k l) := fun z => by pointwise [k1_pay283]
  refine (e _).trans ((rd_at arg10 harg10 x9 _ _).trans (congrArg x9 (funext fun a => Fin.ext ?_)))
  fin_cases a
  · show 0 + 1 * (k : Nat) = k
    omega
  · show 0 + 1 * (l : Nat) = l
    omega

/-- The third layer's products as they are read back. -/
theorem v3107_eq : kernelRun1_A.sl.v3107 (F := Ideal) c arg1 harg1 arg2 harg2 arg3 harg3 arg4 harg4 arg5 harg5 arg6 harg6 arg7 harg7 arg8 harg8 arg9 harg9 arg10 harg10 arg13 arg14 arg15 arg16 arg17 arg18 arg19 x0 x1 x2 x3 x4 x5 x6 x7 x8 x9 = k1_pay293 (kernelRun1_A.sl.r_164 (F := Ideal) c arg10 harg10 x9) (kernelRun1_A.sl.v3101 (F := Ideal) c arg1 harg1 arg2 harg2 arg3 harg3 arg4 harg4 arg5 harg5 arg6 harg6 arg7 harg7 arg8 harg8 arg9 harg9 arg13 arg14 arg15 arg16 arg17 arg18 x0 x1 x2 x3 x4 x5 x6 x7 x8) := by
  unfold kernelRun1_A.sl.v3107 kernelRun1_A.sl.HS6_1
  rw [View.readCov_eq_canon']
  funext j
  exact View.canon_cons_emb _ _ _ j

/-- The third layer takes the products just stored. -/
theorem out_read (b : Vec Ideal S1x1x16 .f32) : k1_pay1 (kernelRun1_A.sl.r_166 (F := Ideal) c arg1 harg1 arg2 harg2 arg3 harg3 arg4 harg4 arg5 harg5 arg6 harg6 arg7 harg7 arg8 harg8 arg9 harg9 arg10 harg10 arg13 arg14 arg15 arg16 arg17 arg18 arg19 x0 x1 x2 x3 x4 x5 x6 x7 x8 x9) (kernelRun1_A.sl.r_167 (F := Ideal) c arg1 harg1 arg2 harg2 arg3 harg3 arg4 harg4 arg5 harg5 arg6 harg6 arg7 harg7 arg8 harg8 arg9 harg9 arg10 harg10 arg13 arg14 arg15 arg16 arg17 arg18 arg19 x0 x1 x2 x3 x4 x5 x6 x7 x8 x9) b
    = k1_pay1 (k1_pay294 (k1_pay293 (kernelRun1_A.sl.r_164 (F := Ideal) c arg10 harg10 x9) (kernelRun1_A.sl.v3101 (F := Ideal) c arg1 harg1 arg2 harg2 arg3 harg3 arg4 harg4 arg5 harg5 arg6 harg6 arg7 harg7 arg8 harg8 arg9 harg9 arg13 arg14 arg15 arg16 arg17 arg18 x0 x1 x2 x3 x4 x5 x6 x7 x8))) (k1_pay295 (k1_pay293 (kernelRun1_A.sl.r_164 (F := Ideal) c arg10 harg10 x9) (kernelRun1_A.sl.v3101 (F := Ideal) c arg1 harg1 arg2 harg2 arg3 harg3 arg4 harg4 arg5 harg5 arg6 harg6 arg7 harg7 arg8 harg8 arg9 harg9 arg13 arg14 arg15 arg16 arg17 arg18 x0 x1 x2 x3 x4 x5 x6 x7 x8))) b := by
  unfold kernelRun1_A.sl.r_166 kernelRun1_A.sl.r_167
  rw [v3107_eq]

variable (harg13 : arg13.IsWhole) (harg14 : arg14.IsWhole) (harg15 : arg15.IsWhole) (harg16 : arg16.IsWhole) (harg17 : arg17.IsWhole) (harg18 : arg18.IsWhole) (harg19 : arg19.IsWhole)

/-- What one point of the region leaves in its output block. -/
theorem out1_at (i : grid1.Coords) (h v : Fin 52) (o : Fin 16) :
    out1_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 (ix4 0 h v o) = conv3V x0 x1 x2 x3 x4 x5 x6 x7 x8 x9 x10 o h v := by
  unfold out1_A_11
  rw [View.read_writes_junk_eq_canon]
  unfold kernelRun1_A
  have hi : (ix4 0 h v o : S1x52x52x16.Idx) = (Rect.unit (s := S1x52x52x16) ![0, 0, 0, 0] S1x52x52x16.size inb_S1x52x52x16_S1x52x52x16_0_0_0_0).emb (ix4 0 h v o) := by
    refine funext fun a => Fin.ext ?_
    fin_cases a
    · rfl
    · show (h : Nat) = 0 + 1 * (h : Nat)
      omega
    · show (v : Nat) = 0 + 1 * (v : Nat)
      omega
    · show (o : Nat) = 0 + 1 * (o : Nat)
      omega
  rw [hi]
  refine (View.canon_cons_emb _ _ _ _).trans ?_
  refine (congrFun (out_read x0 x1 x2 x3 x4 x5 x6 x7 x8 x9 c arg1 harg1 arg2 harg2 arg3 harg3 arg4 harg4 arg5 harg5 arg6 harg6 arg7 harg7 arg8 harg8 arg9 harg9 arg10 harg10 arg13 arg14 arg15 arg16 arg17 arg18 arg19 _) _).trans ?_
  refine ck3 x0 x1 x2 x3 x4 x5 x6 x7 x8 x9 x10 _ _ _ (fun o => ?_) (r_164_at x9 c arg10 harg10) (v3101_at x0 x1 x2 x3 x4 x5 x6 x7 x8 c arg1 harg1 arg2 harg2 arg3 harg3 arg4 harg4 arg5 harg5 arg6 harg6 arg7 harg7 arg8 harg8 arg9 harg9 arg13 arg14 arg15 arg16 arg17 arg18) h v o
  refine (rd_at arg11 harg11 x10 _ _).trans (congrArg x10 (funext fun a => Fin.ext ?_))
  fin_cases a
  · rfl
  · rfl
  · show 0 + 1 * (o : Nat) = o
    omega

end Cert.KernelIdeal.Band

end

end
-- ==== Proof.Mid4.lean ====
module

public import Idealize.ShloMosaic.Lib.Pipeline.ValueKit
public import proofs.«01_k».proof.Proof.Mid3

@[expose] public section

set_option maxRecDepth 16384

noncomputable section

namespace Cert.KernelIdeal.Mid

open Cert.KernelIdeal.Gen Cert.KernelIdeal.Band
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The region's output, image by image. -/
def stage (x : Vec Ideal S64x132x132x32 .f32) (x1 x2 : Vec Ideal S8x8x32 .f32) (x3 : Vec Ideal S8x8x96x96 .f32) (x4 : Vec Ideal S8x8x32 .f32)
    (x5 x6 : Vec Ideal S1x1x32 .f32) (x7 : Vec Ideal S256x128 .f32) (x8 : Vec Ideal S1x1x16 .f32) (x9 : Vec Ideal S128x128 .f32) (x10 : Vec Ideal S1x1x16 .f32) :
    Vec Ideal S64x52x52x16 .f32 := fun j =>
  conv3V (fun y => x (ix4 (j 0) (y 1) (y 2) (y 3))) x1 x2 x3 x4 x5 x6 x7 x8 x9 x10 (j 3) (j 1) (j 2)

/-- Which block each window of the region stages at a point. -/
theorem idx1 : ∀ t : Fin cfg1.N, win1_0.index t = ![t.val, 0, 0, 0] ∧ win1_1.index t = ![0, 0, 0] ∧ win1_2.index t = ![0, 0, 0] ∧
    win1_3.index t = ![0, 0, 0, 0] ∧ win1_4.index t = ![0, 0, 0] ∧ win1_5.index t = ![0, 0, 0] ∧ win1_6.index t = ![0, 0, 0] ∧
    win1_7.index t = ![0, 0] ∧ win1_8.index t = ![0, 0, 0] ∧ win1_9.index t = ![0, 0] ∧ win1_10.index t = ![0, 0, 0] ∧ win1_11.index t = ![t.val, 0, 0, 0] :=
  (by decide +kernel : ∀ t : Fin grid1.N, _)

/-- The block of input 1 is the whole array. -/
theorem whole1 (c : Dev nD) (t : Fin cfg1.N) : (iblk1 V c 1 t : Vec Ideal S8x8x32 .f32) = V c main_call0_v68 := by
  funext y
  blk_point [iblk1, idx1 t]

/-- The block of input 2 is the whole array. -/
theorem whole2 (c : Dev nD) (t : Fin cfg1.N) : (iblk1 V c 2 t : Vec Ideal S8x8x32 .f32) = V c main_call0_v70 := by
  funext y
  blk_point [iblk1, idx1 t]

/-- The block of input 3 is the whole array. -/
theorem whole3 (c : Dev nD) (t : Fin cfg1.N) : (iblk1 V c 3 t : Vec Ideal S8x8x96x96 .f32) = V c main_call0_v72 := by
  funext y
  blk_point [iblk1, idx1 t]

/-- The block of input 4 is the whole array. -/
theorem whole4 (c : Dev nD) (t : Fin cfg1.N) : (iblk1 V c 4 t : Vec Ideal S8x8x32 .f32) = V c main_arg8 := by
  funext y
  blk_point [iblk1, idx1 t]

/-- The block of input 5 is the whole array. -/
theorem whole5 (c : Dev nD) (t : Fin cfg1.N) : (iblk1 V c 5 t : Vec Ideal S1x1x32 .f32) = V c main_call0_v77 := by
  funext y
  blk_point [iblk1, idx1 t]

/-- The block of input 6 is the whole array. -/
theorem whole6 (c : Dev nD) (t : Fin cfg1.N) : (iblk1 V c 6 t : Vec Ideal S1x1x32 .f32) = V c main_call0_v84 := by
  funext y
  blk_point [iblk1, idx1 t]

/-- The block of input 7 is the whole array. -/
theorem whole7 (c : Dev nD) (t : Fin cfg1.N) : (iblk1 V c 7 t : Vec Ideal S256x128 .f32) = V c main_call0_v86 := by
  funext y
  blk_point [iblk1, idx1 t]

/-- The block of input 8 is the whole array. -/
theorem whole8 (c : Dev nD) (t : Fin cfg1.N) : (iblk1 V c 8 t : Vec Ideal S1x1x16 .f32) = V c main_call0_v87 := by
  funext y
  blk_point [iblk1, idx1 t]

/-- The block of input 9 is the whole array. -/
theorem whole9 (c : Dev nD) (t : Fin cfg1.N) : (iblk1 V c 9 t : Vec Ideal S128x128 .f32) = V c main_call0_v89 := by
  funext y
  blk_point [iblk1, idx1 t]

/-- The block of input 10 is the whole array. -/
theorem whole10 (c : Dev nD) (t : Fin cfg1.N) : (iblk1 V c 10 t : Vec Ideal S1x1x16 .f32) = V c main_call0_v90 := by
  funext y
  blk_point [iblk1, idx1 t]

/-- The block of input 0 is one image. -/
theorem img0 (c : Dev nD) (t : Fin cfg1.N) (y : S1x132x132x32.Idx) : (iblk1 V c 0 t : Vec Ideal S1x132x132x32 .f32) y = V c main_call0_v108 (ix4 (⟨t.val, by have := t.isLt; exact this⟩ : Fin 64) (y 1) (y 2) (y 3)) := by
  blk_point [iblk1, idx1 t]

/-- Where a point's output block sits. -/
theorem place11 (t : Fin cfg1.N) (g : Vec Ideal S64x52x52x16 .f32) (y : S1x52x52x16.Idx) :
    g (ix4 (⟨t.val, t.isLt⟩ : Fin 64) (y 1) (y 2) (y 3)) = g (((cfg1.win 11).blk t).view.emb y) := by
  blk_point [idx1 t]

/-- What a point leaves is the region's output at the place its block sits at. -/
theorem point1 (c : Dev nD) (t : Fin cfg1.N) (y : S1x52x52x16.Idx) : outsAt1 V c t y = stage (V c main_call0_v108) (V c main_call0_v68) (V c main_call0_v70) (V c main_call0_v72) (V c main_arg8) (V c main_call0_v77) (V c main_call0_v84) (V c main_call0_v86) (V c main_call0_v87) (V c main_call0_v89) (V c main_call0_v90) (((cfg1.win 11).blk t).view.emb y) := by
  have e : ∀ j : S64x52x52x16.Idx, (j 0).val = t.val → (j 1).val = (y 1).val → (j 2).val = (y 2).val → (j 3).val = (y 3).val → outsAt1 V c t y = stage (V c main_call0_v108) (V c main_call0_v68) (V c main_call0_v70) (V c main_call0_v72) (V c main_arg8) (V c main_call0_v77) (V c main_call0_v84) (V c main_call0_v86) (V c main_call0_v87) (V c main_call0_v89) (V c main_call0_v90) j := by
    intro j h0 h1 h2 h3
    idx_vars y
    unfold outsAt1 stage
    have hy : (ix4 y0 y1 y2 y3 : S1x52x52x16.Idx) = ix4 0 y1 y2 y3 := by
      have : y0 = 0 := Fin.ext (by omega)
      rw [this]
    rw [hy]
    refine (out1_at _ _ _ _ _ _ _ _ _ _ _ _ _ _ _ _ _ _ _ _ _ _ _ _ _ _ _ _ _ _ _ _ _ _ _ _ _ _ _ _ _ _ _ _ _ _ _ _ _ _ _ _ _ _).trans ?_
    rw [whole1, whole2, whole3, whole4, whole5, whole6, whole7, whole8, whole9, whole10]
    have hx : (iblk1 V c 0 t : Vec Ideal S1x132x132x32 .f32) = fun y => V c main_call0_v108 (ix4 (j 0) (y 1) (y 2) (y 3)) := by
      funext y
      rw [img0]
      refine congrArg (fun z => V c main_call0_v108 (ix4 z (y 1) (y 2) (y 3))) (Fin.ext h0.symm)
    rw [hx]
    exact congr (congr (congrArg _ (Fin.ext h3.symm)) (Fin.ext h1.symm)) (Fin.ext h2.symm)
  exact (e (ix4 (⟨t.val, t.isLt⟩ : Fin 64) (y 1) (y 2) (y 3)) rfl rfl rfl rfl).trans (place11 t _ y)

/-- The region's output array, as a function of the arrays it was entered with. -/
theorem stage_arr (c : Dev nD) : (dat1 V c).arrAt 11 cfg1.N = stage (V c main_call0_v108) (V c main_call0_v68) (V c main_call0_v70) (V c main_call0_v72) (V c main_arg8) (V c main_call0_v77) (V c main_call0_v84) (V c main_call0_v86) (V c main_call0_v87) (V c main_call0_v89) (V c main_call0_v90) := by
  refine (dat1 V c).arrAt_eq_of_covers 11 _ (by decide +kernel) fun t hf y => ?_
  blk_simp
  rw [after1_11]
  exact point1 V c t y

end Cert.KernelIdeal.Mid

end

end
-- ==== Proof.Norm.lean ====
module

public import Idealize.ShloMosaic.Lib.Pipeline.ValueKit
public import Idealize.ShloMosaic.Lib.ReduceAll
public import proofs.«01_k».proof.Pre_finite_norms
public import proofs.«01_k».proof.Proof.Spec

/-! What the precondition says of the batch norms' arrays, and what it is needed for: a batch norm folded into
    one scale and one shift. -/

@[expose] public section

set_option maxRecDepth 16384

noncomputable section

namespace Cert.Norm

open Idealize.ShloMosaic

/-- The facts the precondition's operations take. -/
instance facts : Cert.Pre_finite_norms.Facts where
  bcast_S_S8x8x32 := by decide
  reducesTo_S8x8x32_S_d0_1_2 := by decide
  h_S_ := by decide
  bcast_S_S32 := by decide
  reducesTo_S32_S_d0 := by decide

/-- The small constant of a batch norm is a positive number. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The scale of a batch norm is a number. -/
theorem scale_real (g v : EReal) (hg : g < ⊤) (hg' : ⊥ < g) (hv : 0 ≤ v) : ∃ s : ℝ, Spec.scale g v = (s : EReal) := by
  obtain ⟨e, he, hE⟩ := eps_pos
  unfold Spec.scale
  rw [hE]
  lift g to ℝ using ⟨hg.ne, hg'.ne'⟩
  induction v with
  | bot => exact absurd hv (by simp)
  | top => exact ⟨0, by rw [EReal.top_add_coe, Ideal.rsqrt_top]; simp⟩
  | coe v =>
    have hv' : 0 ≤ v := by exact_mod_cast hv
    refine ⟨g * (Real.sqrt (v + e))⁻¹, ?_⟩
    rw [← EReal.coe_add, Ideal.rsqrt_coe, if_neg (by linarith), if_neg (by linarith), EReal.coe_mul]

/-- Beside an infinity a number makes no difference. -/
theorem top_add_sub (bt : EReal) (c : ℝ) : ⊤ + (bt - (c : EReal)) = ⊤ + bt := by
  induction bt with
  | bot => rw [EReal.bot_sub]
  | coe a => rw [← EReal.coe_sub, EReal.top_add_coe, EReal.top_add_coe]
  | top => rw [EReal.top_sub_coe]

/-- A batch norm as a scale and a shift. -/
theorem fold (x g bt m v : EReal) (hg : g < ⊤) (hg' : ⊥ < g) (hm : m < ⊤) (hm' : ⊥ < m) (hv : 0 ≤ v) :
    x * Spec.scale g v + (bt - m * Spec.scale g v) = (x - m) * Spec.scale g v + bt := by
  obtain ⟨s, hs⟩ := scale_real g v hg hg' hv
  rw [hs]
  lift m to ℝ using ⟨hm.ne, hm'.ne'⟩
  induction x with
  | coe x =>
    rw [← EReal.coe_sub, ← EReal.coe_mul, ← EReal.coe_mul, ← EReal.coe_mul, sub_eq_add_neg, ← EReal.coe_neg, add_comm bt, ← add_assoc, ← EReal.coe_add]
    congr 2
    ring
  | top =>
    rcases lt_trichotomy s 0 with h | h | h
    · rw [EReal.top_sub_coe, EReal.top_mul_coe_of_neg h, EReal.bot_add, EReal.bot_add]
    · subst h
      simp
    · rw [EReal.top_sub_coe, EReal.top_mul_coe_of_pos h, ← EReal.coe_mul, top_add_sub]
  | bot =>
    rcases lt_trichotomy s 0 with h | h | h
    · rw [EReal.bot_sub, EReal.bot_mul_coe_of_neg h, ← EReal.coe_mul, top_add_sub]
    · subst h
      simp
    · rw [EReal.bot_sub, EReal.bot_mul_coe_of_pos h, EReal.bot_add, EReal.bot_add]

/-- A set bit of a comparison. -/
theorem of_bit {p : Bool} (h : BitVec.ofBool p = 1#1) : p = true := by
  cases p
  · exact absurd h (by decide)
  · rfl

/-- The upper bound of the numbers. -/
theorem top_bits : Ideal.ofBits .f32 0x7F800000#32 = (⊤ : EReal) := by simp [Ideal.ofBits, Ideal.ieee]

/-- The lower bound of the numbers. -/
theorem bot_bits : Ideal.ofBits .f32 0xFF800000#32 = (⊥ : EReal) := by simp [Ideal.ofBits, Ideal.ieee]

/-- Zero. -/
theorem zero_bits : Ideal.ofBits .f32 0x00000000#32 = (0 : EReal) := by simp [Ideal.ofBits, Ideal.ieee]

/-- An element that passes both comparisons is a number. -/
theorem finite {s u : Shape} {d : Fin u.rank → Fin s.rank} (a : FVec Ideal s .f32) (h h' : u.BroadcastsInDim s d) (i : s.Idx)
    (e : andi (cmpf .olt a (broadcastInDim s d h (constant u .f32 0x7F800000#32))) (cmpf .ogt a (broadcastInDim s d h' (constant u .f32 0xFF800000#32))) i = 1#1) :
    (a i : EReal) < ⊤ ∧ ⊥ < (a i : EReal) := by
  obtain ⟨e1, e2⟩ := IntOp.andi_eq_one.1 e
  have k1 : decide ((a i : EReal) < Ideal.ofBits .f32 0x7F800000#32) = true := of_bit e1
  have k2 : decide (Ideal.ofBits .f32 0xFF800000#32 < (a i : EReal)) = true := of_bit e2
  rw [top_bits] at k1
  rw [bot_bits] at k2
  exact ⟨of_decide_eq_true k1, of_decide_eq_true k2⟩

/-- An element that passes the comparison with zero. -/
theorem nonneg {s u : Shape} {d : Fin u.rank → Fin s.rank} (a : FVec Ideal s .f32) (h : u.BroadcastsInDim s d) (i : s.Idx)
    (e : cmpf .oge a (broadcastInDim s d h (constant u .f32 0x00000000#32)) i = 1#1) : (0 : EReal) ≤ a i := by
  have k : decide (Ideal.ofBits .f32 0x00000000#32 ≤ (a i : EReal)) = true := of_bit e
  rw [zero_bits] at k
  exact of_decide_eq_true k

/-- What is asked of a batch norm's scale, mean and variance. -/
structure Good {s : Shape} (g m v : FVec Ideal s .f32) : Prop where
  g_lt : ∀ i, (g i : EReal) < ⊤
  lt_g : ∀ i, ⊥ < (g i : EReal)
  m_lt : ∀ i, (m i : EReal) < ⊤
  lt_m : ∀ i, ⊥ < (m i : EReal)
  v_nonneg : ∀ i, (0 : EReal) ≤ v i

/-- The precondition of the arguments says it of both batch norms. -/
theorem good (a0 : FVec Ideal _ .f32) (a1 : FVec Ideal _ .f32) (a2 : FVec Ideal _ .f32) (a3 a4 a5 a6 : FVec Ideal _ .f32) (a7 : FVec Ideal _ .f32) (a8 : FVec Ideal _ .f32)
    (a9 a10 a11 a12 : FVec Ideal _ .f32) (a13 a14 a15 a16 a17 a18 a19 a20 a21 a22 a23 a24 a25 a26 : _)
    (h : Cert.Pre_finite_norms.fn (F := Ideal) a0 a1 a2 a3 a4 a5 a6 a7 a8 a9 a10 a11 a12 a13 a14 a15 a16 a17 a18 a19 a20 a21 a22 a23 a24 a25 a26 = fun _ => 1#1) :
    Good a3 a5 a6 ∧ Good a9 a11 a12 := by
  have hi := congrFun h (fun a => a.elim0)
  unfold Cert.Pre_finite_norms.fn Cert.Pre_finite_norms.fn_part1 Cert.Pre_finite_norms.fn_part2 at hi
  obtain ⟨h5, h6⟩ := IntOp.andi_eq_one.1 hi
  obtain ⟨h5, h4'⟩ := IntOp.andi_eq_one.1 h5
  obtain ⟨h5, h3'⟩ := IntOp.andi_eq_one.1 h5
  obtain ⟨h5, h2'⟩ := IntOp.andi_eq_one.1 h5
  obtain ⟨h0', h1'⟩ := IntOp.andi_eq_one.1 h5
  have k0 := fun i => finite a3 _ _ i (Host.reduce_andi_all _ _ _ _ _ h0' i)
  have k1 := fun i => finite a5 _ _ i (Host.reduce_andi_all _ _ _ _ _ h1' i)
  have k2 := fun i => nonneg a6 _ i (Host.reduce_andi_all _ _ _ _ _ h2' i)
  have k3 := fun i => finite a9 _ _ i (Host.reduce_andi_all _ _ _ _ _ h3' i)
  have k4 := fun i => finite a11 _ _ i (Host.reduce_andi_all _ _ _ _ _ h4' i)
  have k5 := fun i => nonneg a12 _ i (Host.reduce_andi_all _ _ _ _ _ h6 i)
  exact ⟨⟨fun i => (k0 i).1, fun i => (k0 i).2, fun i => (k1 i).1, fun i => (k1 i).2, k2⟩,
    ⟨fun i => (k3 i).1, fun i => (k3 i).2, fun i => (k4 i).1, fun i => (k4 i).2, k5⟩⟩

end Cert.Norm

end

end
-- ==== Proof.MatchMid.lean ====
module

public import proofs.«01_k».proof.Proof.Mid4
public import proofs.«01_k».proof.Proof.Match
public import proofs.«01_k».proof.Proof.Norm

/-! The second region computes the region layer, the pooling and the second and third convolutions. -/

@[expose] public section

set_option maxRecDepth 16384

noncomputable section

namespace Cert.MatchMid

open Idealize.ShloMosaic Cert.KernelIdeal Cert.KernelIdeal.Gen

open Cert.KernelIdeal.Band

/-- The activations of the region layer. -/
theorem act (x : Vec Ideal S1x132x132x32 .f32) (x1 x2 : Vec Ideal S8x8x32 .f32) (g bt m v : FVec Ideal S8x8x32 .f32) (hN : Norm.Good g m v)
    (h1 : ∀ (i j : Fin 8) (k : Fin 32), x1 (ix3 i j k) = Spec.scale (g (ix3 i j k)) (v (ix3 i j k)))
    (h2 : ∀ (i j : Fin 8) (k : Fin 32), x2 (ix3 i j k) = (show EReal from bt (ix3 i j k)) - (show EReal from m (ix3 i j k)) * Spec.scale (g (ix3 i j k)) (v (ix3 i j k))) :
    actV x x1 x2 = Spec.act (fun o h w => x (ix4 0 h w o)) g bt m v := by
  funext o h w
  unfold actV Spec.act
  rw [h1, h2]
  exact congrArg (fun z => max z 0) (Norm.fold _ _ _ _ _ (hN.g_lt _) (hN.lt_g _) (hN.m_lt _) (hN.lt_m _) (hN.v_nonneg _))

/-- The region layer. -/
theorem region (x : Vec Ideal S1x132x132x32 .f32) (x1 x2 : Vec Ideal S8x8x32 .f32) (x3 : Vec Ideal S8x8x96x96 .f32) (x4 : Vec Ideal S8x8x32 .f32)
    (g bt m v : FVec Ideal S8x8x32 .f32) (RW : FVec Ideal S8x8x32x32x3x3 .f32) (hN : Norm.Good g m v)
    (h1 : ∀ (i j : Fin 8) (k : Fin 32), x1 (ix3 i j k) = Spec.scale (g (ix3 i j k)) (v (ix3 i j k)))
    (h2 : ∀ (i j : Fin 8) (k : Fin 32), x2 (ix3 i j k) = (show EReal from bt (ix3 i j k)) - (show EReal from m (ix3 i j k)) * Spec.scale (g (ix3 i j k)) (v (ix3 i j k)))
    (h3 : ∀ (i j : Fin 8) (k l : Fin 96), x3 (ix4 i j k l) = RW (ix6 i j (⟨l % 32, by omega⟩ : Fin 32) (⟨k % 32, by omega⟩ : Fin 32) (⟨l / 32, by omega⟩ : Fin 3) (⟨k / 32, by omega⟩ : Fin 3))) :
    (fun o h w => max (regV x x1 x2 x3 x4 o h w) 0) = Spec.region (Spec.act (fun o h w => x (ix4 0 h w o)) g bt m v) (fun o h w => x (ix4 0 h w o)) RW x4 := by
  funext o h w
  have ho := o.isLt
  unfold regV Spec.region Spec.regionConv
  rw [act x x1 x2 g bt m v hN h1 h2]
  refine congrArg (fun z => max (z + _ + _) 0) ?_
  refine Match.taps 96 rfl (fun (c : Fin 32) (t u : Fin 3) => _) _ fun u i c t hi => ?_
  have hc := c.isLt
  rw [mul_comm]
  refine congrArg₂ (· * ·) ((h3 _ _ _ _).trans (by blk_ext [])) ?_
  rw [show (⟨(i : Nat) % 32, by omega⟩ : Fin 32) = c from Fin.ext (by dsimp only; omega), show (i : Nat) / 32 = t by omega]

/-- The pooling and the second batch norm. -/
theorem pooled (x : Vec Ideal S1x132x132x32 .f32) (x1 x2 : Vec Ideal S8x8x32 .f32) (x3 : Vec Ideal S8x8x96x96 .f32) (x4 : Vec Ideal S8x8x32 .f32)
    (x5 x6 : Vec Ideal S1x1x32 .f32) (y : Spec.Img 32 132 132) (hy : (fun o h w => max (regV x x1 x2 x3 x4 o h w) 0) = y)
    (g bt m v : FVec Ideal S32 .f32) (hN : Norm.Good g m v)
    (h5 : ∀ k : Fin 32, x5 (ix3 0 0 k) = Spec.scale (g (ix1 k)) (v (ix1 k)))
    (h6 : ∀ k : Fin 32, x6 (ix3 0 0 k) = (show EReal from bt (ix1 k)) - (show EReal from m (ix1 k)) * Spec.scale (g (ix1 k)) (v (ix1 k))) :
    h2V x x1 x2 x3 x4 x5 x6 = Spec.bn2 (Spec.pool2 y) g bt m v := by
  funext o h w
  unfold h2V Spec.bn2
  rw [h5, h6, hy]
  exact Norm.fold _ _ _ _ _ (hN.g_lt _) (hN.lt_g _) (hN.m_lt _) (hN.lt_m _) (hN.v_nonneg _)

/-- The second convolution. -/
theorem second (x0 : Vec Ideal S1x132x132x32 .f32) (x1 x2 : Vec Ideal S8x8x32 .f32) (x3 : Vec Ideal S8x8x96x96 .f32) (x4 : Vec Ideal S8x8x32 .f32)
    (x5 x6 : Vec Ideal S1x1x32 .f32) (x7 : Vec Ideal S256x128 .f32) (x8 : Vec Ideal S1x1x16 .f32)
    (W : FVec Ideal S16x32x8x8 .f32) (B : FVec Ideal S16 .f32)
    (h7 : ∀ (k : Fin 256) (l : Fin 128), x7 (ix2 k l) = W (ix4 (⟨l % 16, by omega⟩ : Fin 16) (⟨k % 32, by omega⟩ : Fin 32) (⟨l / 16, by omega⟩ : Fin 8) (⟨k / 32, by omega⟩ : Fin 8)))
    (h8 : ∀ o : Fin 16, x8 (ix3 0 0 o) = B (ix1 o)) :
    conv2V x0 x1 x2 x3 x4 x5 x6 x7 x8 = Spec.convR (h2V x0 x1 x2 x3 x4 x5 x6) W B (Spec.sh (n := 59) (H := 66) (by decide)) (Spec.sh (H := 66) (by decide)) := by
  funext o h w
  have ho := o.isLt
  unfold conv2V Spec.convR Spec.convB Spec.conv
  rw [h8]
  refine congrArg (fun z => max (z + _) 0) ?_
  refine Match.taps 256 rfl (fun (c : Fin 32) (t u : Fin 8) => _) _ fun u i c t hi => ?_
  have hc := c.isLt
  rw [mul_comm]
  refine congrArg₂ (· * ·) ((h7 _ _).trans (by blk_ext [])) ?_
  refine congr (congr (congrArg (h2V x0 x1 x2 x3 x4 x5 x6) (Fin.ext ?_)) (Fin.ext rfl)) (Fin.ext ?_)
  · show (i : Nat) % 32 = c
    omega
  · show (w : Nat) + i / 32 = w + t
    omega

/-- The third convolution. -/
theorem third (x0 : Vec Ideal S1x132x132x32 .f32) (x1 x2 : Vec Ideal S8x8x32 .f32) (x3 : Vec Ideal S8x8x96x96 .f32) (x4 : Vec Ideal S8x8x32 .f32)
    (x5 x6 : Vec Ideal S1x1x32 .f32) (x7 : Vec Ideal S256x128 .f32) (x8 : Vec Ideal S1x1x16 .f32) (x9 : Vec Ideal S128x128 .f32) (x10 : Vec Ideal S1x1x16 .f32)
    (W : FVec Ideal S16x16x8x8 .f32) (B : FVec Ideal S16 .f32)
    (h9 : ∀ k l : Fin 128, x9 (ix2 k l) = W (ix4 (⟨l % 16, by omega⟩ : Fin 16) (⟨k % 16, by omega⟩ : Fin 16) (⟨l / 16, by omega⟩ : Fin 8) (⟨k / 16, by omega⟩ : Fin 8)))
    (h10 : ∀ o : Fin 16, x10 (ix3 0 0 o) = B (ix1 o)) :
    conv3V x0 x1 x2 x3 x4 x5 x6 x7 x8 x9 x10 = Spec.convR (conv2V x0 x1 x2 x3 x4 x5 x6 x7 x8) W B (Spec.sh (n := 52) (H := 59) (by decide)) (Spec.sh (H := 59) (by decide)) := by
  funext o h w
  have ho := o.isLt
  unfold conv3V Spec.convR Spec.convB Spec.conv
  rw [h10]
  refine congrArg (fun z => max (z + _) 0) ?_
  refine Match.taps 128 rfl (fun (c : Fin 16) (t u : Fin 8) => _) _ fun u i c t hi => ?_
  have hc := c.isLt
  rw [mul_comm]
  refine congrArg₂ (· * ·) ((h9 _ _).trans (by blk_ext [])) ?_
  refine congr (congr (congrArg (conv2V x0 x1 x2 x3 x4 x5 x6 x7 x8) (Fin.ext ?_)) (Fin.ext rfl)) (Fin.ext ?_)
  · show (i : Nat) % 16 = c
    omega
  · show (w : Nat) + i / 16 = w + t
    omega

/-- The second region computes its layers. -/
theorem mid (x : Vec Ideal S64x132x132x32 .f32) (x1 x2 : Vec Ideal S8x8x32 .f32) (x3 : Vec Ideal S8x8x96x96 .f32) (x4 : Vec Ideal S8x8x32 .f32)
    (x5 x6 : Vec Ideal S1x1x32 .f32) (x7 : Vec Ideal S256x128 .f32) (x8 : Vec Ideal S1x1x16 .f32) (x9 : Vec Ideal S128x128 .f32) (x10 : Vec Ideal S1x1x16 .f32)
    (CB : FVec Ideal S8x8x32 .f32) (h4 : x4 = CB) (n : Fin 64) (L : Spec.Img 32 132 132) (hL : ∀ (o : Fin 32) (h w : Fin 132), x (ix4 n h w o) = L o h w)
    (g bt m v : FVec Ideal S8x8x32 .f32) (RW : FVec Ideal S8x8x32x32x3x3 .f32) (hN : Norm.Good g m v)
    (g2 bt2 m2 v2 : FVec Ideal S32 .f32) (hN2 : Norm.Good g2 m2 v2) (W2 : FVec Ideal S16x32x8x8 .f32) (B2 : FVec Ideal S16 .f32) (W3 : FVec Ideal S16x16x8x8 .f32) (B3 : FVec Ideal S16 .f32)
    (h1 : ∀ (i j : Fin 8) (k : Fin 32), x1 (ix3 i j k) = Spec.scale (g (ix3 i j k)) (v (ix3 i j k)))
    (h2 : ∀ (i j : Fin 8) (k : Fin 32), x2 (ix3 i j k) = (show EReal from bt (ix3 i j k)) - (show EReal from m (ix3 i j k)) * Spec.scale (g (ix3 i j k)) (v (ix3 i j k)))
    (h3 : ∀ (i j : Fin 8) (k l : Fin 96), x3 (ix4 i j k l) = RW (ix6 i j (⟨l % 32, by omega⟩ : Fin 32) (⟨k % 32, by omega⟩ : Fin 32) (⟨l / 32, by omega⟩ : Fin 3) (⟨k / 32, by omega⟩ : Fin 3)))
    (h5 : ∀ k : Fin 32, x5 (ix3 0 0 k) = Spec.scale (g2 (ix1 k)) (v2 (ix1 k)))
    (h6 : ∀ k : Fin 32, x6 (ix3 0 0 k) = (show EReal from bt2 (ix1 k)) - (show EReal from m2 (ix1 k)) * Spec.scale (g2 (ix1 k)) (v2 (ix1 k)))
    (h7 : ∀ (k : Fin 256) (l : Fin 128), x7 (ix2 k l) = W2 (ix4 (⟨l % 16, by omega⟩ : Fin 16) (⟨k % 32, by omega⟩ : Fin 32) (⟨l / 16, by omega⟩ : Fin 8) (⟨k / 32, by omega⟩ : Fin 8)))
    (h8 : ∀ o : Fin 16, x8 (ix3 0 0 o) = B2 (ix1 o))
    (h9 : ∀ k l : Fin 128, x9 (ix2 k l) = W3 (ix4 (⟨l % 16, by omega⟩ : Fin 16) (⟨k % 16, by omega⟩ : Fin 16) (⟨l / 16, by omega⟩ : Fin 8) (⟨k / 16, by omega⟩ : Fin 8)))
    (h10 : ∀ o : Fin 16, x10 (ix3 0 0 o) = B3 (ix1 o)) (o : Fin 16) (h w : Fin 52) :
    Mid.stage x x1 x2 x3 x4 x5 x6 x7 x8 x9 x10 (ix4 n h w o) = Spec.layer23 (Spec.mid L g bt m v RW CB g2 bt2 m2 v2) W2 B2 W3 B3 o h w := by
  subst h4
  have eL : (fun (o : Fin 32) (h w : Fin 132) => (fun y : S1x132x132x32.Idx => x (ix4 n (y 1) (y 2) (y 3))) (ix4 0 h w o)) = L := by
    funext o h w
    exact hL o h w
  have e := (third (fun y => x (ix4 n (y 1) (y 2) (y 3))) x1 x2 x3 x4 x5 x6 x7 x8 x9 x10 W3 B3 h9 h10)
  rw [second _ x1 x2 x3 x4 x5 x6 x7 x8 W2 B2 h7 h8, pooled _ x1 x2 x3 x4 x5 x6 _ (region _ x1 x2 x3 x4 g bt m v RW hN h1 h2 h3) g2 bt2 m2 v2 hN2 h5 h6, eL] at e
  exact congrFun (congrFun (congrFun e o) h) w

end Cert.MatchMid

end

end
-- ==== Proof.Late.lean ====
module

public import Idealize.ShloMosaic.Lib.Pipeline.ValueKit
public import proofs.«01_k».proof.Proof.Gen.KernelIdeal.Frame

@[expose] public section

set_option maxRecDepth 16384

noncomputable section

namespace Cert.KernelIdeal.Late

open Cert.KernelIdeal.Gen
open Idealize.ShloMosaic Idealize.ShloMosaic.TcCoe Idealize.SL.Sem
open Idealize.ShloMosaic.Pipeline (Dat)

/-- A value by cases is the value that every case has. -/
theorem dif_of {α : Type*} {p : Prop} [Decidable p] {A : p → α} {B : ¬p → α} {R : α} (hA : ∀ h, A h = R) (hB : ∀ h, B h = R) :
    dite p A B = R := by
  by_cases h : p
  · exact (dif_pos h).trans (hA h)
  · exact (dif_neg h).trans (hB h)

/-- One phase of the fourth convolution at an element: three row taps, each a sum over column taps and channels. -/
theorem phase_at (x : Vec Ideal S1x1x26x26x16 .f32) (w : Vec Ideal S1x48x48 .f32) (h v : Fin 24) (o : Fin 16) :
    k2_pay9 x w (ix3 h v o)
      = ∑ u : Fin 3, ∑ k : Fin 48,
          x (ix5 0 0 (⟨h + u, by omega⟩ : Fin 26) (⟨v + k / 16, by omega⟩ : Fin 26) (⟨k % 16, by omega⟩ : Fin 16))
            * w (ix3 0 k (⟨u * 16 + o, by omega⟩ : Fin 48)) := by
  pointwise [k2_pay9]
  refine Eq.trans ?_ (Fin.sum_univ_three _).symm
  simp only [Fin.val_zero, Fin.val_one, Fin.val_two]
  refine congrArg₂ (· + ·) (congrArg₂ (· + ·) ?_ ?_) ?_ <;>
  · refine Finset.sum_congr rfl fun k _ => congrArg₂ (· * ·) ?_ ?_
    · iterate 2 refine dif_of (fun _ => by blk_ext []) fun _ => ?_
      blk_ext []
    · blk_ext []

/-- The first image's value, whose steps are grouped otherwise, is the grouping the other images have. -/
theorem img_eq0 (x0 x1 x2 x3 : Vec Ideal S1x1x26x26x16 .f32) (w0 w1 w2 w3 : Vec Ideal S1x48x48 .f32)
    (b4 : Vec Ideal S1x1x16 .f32) (w5 : Vec Ideal S80x80 .f32) (b5 : Vec Ideal S1x1x16 .f32) :
   k2_pay1 (k2_pay21 (k2_pay20 (k2_pay18 w0) (k2_pay19 x0) x1 w1 x2 w2) x3 w3 b4 w5) b5 =
   k2_pay17 (k2_pay16 (k2_pay15 x0 w0 x1 w1) x2 w2 x3 w3 b4) (Scalar.ofBits (F := Ideal) .f32 0x00000000#32) w5 b5 := rfl

/-- The fourth convolution before its positive part: the four phases' sums and the bias. -/
theorem sum4_at (x0 x1 x2 x3 : Vec Ideal S1x1x26x26x16 .f32) (w0 w1 w2 w3 : Vec Ideal S1x48x48 .f32)
    (b4 : Vec Ideal S1x1x16 .f32) (h v : Fin 24) (o : Fin 16) :
    k2_pay16 (k2_pay15 x0 w0 x1 w1) x2 w2 x3 w3 b4 (ix3 h v o) =
    k2_pay9 x0 w0 (ix3 h v o) + k2_pay9 x1 w1 (ix3 h v o) + k2_pay9 x2 w2 (ix3 h v o) + k2_pay9 x3 w3 (ix3 h v o) + b4 (ix3 0 0 o) := by
  pointwise [k2_pay16, k2_pay15, k2_pay9]

/-- The fifth convolution at an element, on the fourth's positive part. -/
theorem tail_at (x : Vec Ideal S24x24x16 .f32) (w : Vec Ideal S80x80 .f32) (b : Vec Ideal S1x1x16 .f32) (z : Ideal .f32)
    (p : Fin 400) (o : Fin 16) :
    k2_pay17 x z w b (ix3 0 p o)
      = max ((∑ u : Fin 5, ∑ k : Fin 80,
          max (x (ix3 (⟨p / 20 + u, by omega⟩ : Fin 24) (⟨p % 20 + k / 16, by omega⟩ : Fin 24) (⟨k % 16, by omega⟩ : Fin 16))) z
            * w (ix2 k (⟨u * 16 + o, by omega⟩ : Fin 80))) + b (ix3 0 0 o)) 0 := by
  pointwise [k2_pay17]
  refine Eq.trans ?_ (congrArg (max · 0) (congrArg (· + _) (Fin.sum_univ_five _).symm))
  simp only [Fin.val_zero, Fin.val_one, Fin.val_two, show ((3 : Fin 5) : Nat) = 3 from rfl, show ((4 : Fin 5) : Nat) = 4 from rfl]
  refine congrArg (max · 0) (congrArg (· + _) (congrArg₂ (· + ·) (congrArg₂ (· + ·) (congrArg₂ (· + ·) (congrArg₂ (· + ·) ?_ ?_) ?_) ?_) ?_)) <;>
  · refine Finset.sum_congr rfl fun k _ => congrArg₂ (· * ·) ?_ ?_
    · iterate 4 refine dif_of (fun _ => congrArg (max · z) (by blk_ext [])) fun _ => ?_
      exact congrArg (max · z) (by blk_ext [])
    · blk_ext []

end Cert.KernelIdeal.Late

end

end
-- ==== Proof.Late3.lean ====
module

public import Idealize.ShloMosaic.Lib.Pipeline.ValueKit
public import proofs.«01_k».proof.Proof.Spec
public import proofs.«01_k».proof.Proof.Late

@[expose] public section

set_option maxRecDepth 16384

noncomputable section

namespace Cert.KernelIdeal.Late

open Cert.KernelIdeal.Gen
open Idealize.ShloMosaic Idealize.ShloMosaic.TcCoe Idealize.SL.Sem
open Idealize.ShloMosaic.Pipeline (Dat)

/-- The arithmetic of one image, however it is divided. -/
theorem img_form0 (x0 x1 x2 x3 : Vec Ideal S1x1x26x26x16 .f32) (w0 w1 w2 w3 : Vec Ideal S1x48x48 .f32)
    (b4 : Vec Ideal S1x1x16 .f32) (w5 : Vec Ideal S80x80 .f32) (b5 : Vec Ideal S1x1x16 .f32) :
    k2_pay8 (k2_pay4 (k2_pay2 x0 w0 x1 w1) (k2_pay3 x2) w2 x3 w3 b4) (k2_pay5 w5) (k2_pay6 (k2_pay2 x0 w0 x1 w1) (k2_pay3 x2) w2 x3 w3 b4) (k2_pay7 (k2_pay2 x0 w0 x1 w1) (k2_pay3 x2) w2 x3 w3 b4) b5
      = k2_pay17 (k2_pay16 (k2_pay15 x0 w0 x1 w1) x2 w2 x3 w3 b4) (Scalar.ofBits (F := Ideal) .f32 0x00000000#32) w5 b5 := rfl

/-- The same for the second image. -/
theorem img_form1 (x0 x1 x2 x3 : Vec Ideal S1x1x26x26x16 .f32) (w0 w1 w2 w3 : Vec Ideal S1x48x48 .f32)
    (b4 : Vec Ideal S1x1x16 .f32) (w5 : Vec Ideal S80x80 .f32) (b5 : Vec Ideal S1x1x16 .f32) :
    k2_pay14 (k2_pay12 (k2_pay10 (k2_pay9 x0 w0) x1 w1 x2 w2) (k2_pay11 x3) w3 b4 w5 b5) k2_pay13
      = k2_pay17 (k2_pay16 (k2_pay15 x0 w0 x1 w1) x2 w2 x3 w3 b4) (Scalar.ofBits (F := Ideal) .f32 0x00000000#32) w5 b5 := rfl

/-- One phase of the fourth convolution. -/
def ph {N : Nat} (x : Vec Ideal ⟨5, ![N, 4, 26, 26, 16]⟩ .f32) (w : Vec Ideal S4x48x48 .f32) (n : Fin N) (q : Fin 4) (o : Fin 16) (h v : Fin 24) : Ideal .f32 :=
  ∑ u : Fin 3, ∑ k : Fin 48, x (ix5 n q (⟨h + u, by omega⟩ : Fin 26) (⟨v + k / 16, by omega⟩ : Fin 26) (⟨k % 16, by omega⟩ : Fin 16))
    * w (ix3 q k (⟨u * 16 + o, by omega⟩ : Fin 48))

/-- The fourth convolution with its bias, the negative part cut off. -/
def lat4 {N : Nat} (x : Vec Ideal ⟨5, ![N, 4, 26, 26, 16]⟩ .f32) (w : Vec Ideal S4x48x48 .f32) (b4 : Vec Ideal S1x1x16 .f32) (n : Fin N) : Spec.Img 16 24 24 := fun o h v =>
  max (ph x w n 0 o h v + ph x w n 1 o h v + ph x w n 2 o h v + ph x w n 3 o h v + b4 (ix3 0 0 o)) 0

/-- The fifth convolution with its bias, the negative part cut off, its rows and columns in one number. -/
def tailV (x : Spec.Img 16 24 24) (w5 : Vec Ideal S80x80 .f32) (b5 : Vec Ideal S1x1x16 .f32) (p : Fin 400) (o : Fin 16) : Ideal .f32 :=
  max ((∑ u : Fin 5, ∑ k : Fin 80, x ⟨k % 16, by omega⟩ ⟨p / 20 + u, by omega⟩ ⟨p % 20 + k / 16, by omega⟩ * w5 (ix2 k (⟨u * 16 + o, by omega⟩ : Fin 80)))
    + b5 (ix3 0 0 o)) 0

/-- What is stored for one image of a block. -/
theorem img_at (x : Vec Ideal S4x4x26x26x16 .f32) (w : Vec Ideal S4x48x48 .f32) (b : Fin 4) (x0 x1 x2 x3 : Vec Ideal S1x1x26x26x16 .f32) (w0 w1 w2 w3 : Vec Ideal S1x48x48 .f32)
    (b4 B4 : Vec Ideal S1x1x16 .f32) (w5 W5 : Vec Ideal S80x80 .f32) (b5 B5 : Vec Ideal S1x1x16 .f32)
    (h0 : ∀ (p q : Fin 26) (k : Fin 16), x0 (ix5 0 0 p q k) = x (ix5 b 0 p q k)) (h1 : ∀ (p q : Fin 26) (k : Fin 16), x1 (ix5 0 0 p q k) = x (ix5 b 1 p q k))
    (h2 : ∀ (p q : Fin 26) (k : Fin 16), x2 (ix5 0 0 p q k) = x (ix5 b 2 p q k)) (h3 : ∀ (p q : Fin 26) (k : Fin 16), x3 (ix5 0 0 p q k) = x (ix5 b 3 p q k))
    (g0 : ∀ k l : Fin 48, w0 (ix3 0 k l) = w (ix3 0 k l)) (g1 : ∀ k l : Fin 48, w1 (ix3 0 k l) = w (ix3 1 k l))
    (g2 : ∀ k l : Fin 48, w2 (ix3 0 k l) = w (ix3 2 k l)) (g3 : ∀ k l : Fin 48, w3 (ix3 0 k l) = w (ix3 3 k l))
    (e4 : ∀ o : Fin 16, B4 (ix3 0 0 o) = b4 (ix3 0 0 o)) (e5 : ∀ k l : Fin 80, W5 (ix2 k l) = w5 (ix2 k l)) (e6 : ∀ o : Fin 16, B5 (ix3 0 0 o) = b5 (ix3 0 0 o))
    (p : Fin 400) (o : Fin 16) :
    k2_pay17 (k2_pay16 (k2_pay15 x0 w0 x1 w1) x2 w2 x3 w3 B4) (Scalar.ofBits (F := Ideal) .f32 0x00000000#32) W5 B5 (ix3 0 p o) = tailV (lat4 x w b4 b) w5 b5 p o := by
  have z : (Scalar.ofBits (F := Ideal) .f32 0x00000000#32 : Ideal .f32) = 0 := Ideal.ofBits_zero_f32
  have f : ∀ (X : Vec Ideal S1x1x26x26x16 .f32) (W : Vec Ideal S1x48x48 .f32) (q : Fin 4) (_ : ∀ (p r : Fin 26) (k : Fin 16), X (ix5 0 0 p r k) = x (ix5 b q p r k))
      (_ : ∀ k l : Fin 48, W (ix3 0 k l) = w (ix3 q k l)) (h v : Fin 24) (o : Fin 16), k2_pay9 X W (ix3 h v o) = ph x w b q o h v := by
    intro X W q hX hW h v o
    refine (phase_at X W h v o).trans ?_
    exact Finset.sum_congr rfl fun u _ => Finset.sum_congr rfl fun k _ => congrArg₂ (· * ·) (hX _ _ _) (hW _ _)
  refine (tail_at ..).trans ?_
  rw [z]
  unfold tailV lat4
  refine congrArg (max · 0) (congrArg₂ (· + ·) (Finset.sum_congr rfl fun u _ => Finset.sum_congr rfl fun k _ => congrArg₂ (· * ·) (congrArg (max · 0) ?_) (e5 _ _)) (e6 _))
  refine (sum4_at ..).trans ?_
  rw [f x0 w0 0 h0 g0, f x1 w1 1 h1 g1, f x2 w2 2 h2 g2, f x3 w3 3 h3 g3, e4]

variable (x0 : Vec Ideal S4x4x26x26x16 .f32) (x1 : Vec Ideal S4x48x48 .f32) (x2 : Vec Ideal S1x1x16 .f32) (x3 : Vec Ideal S80x80 .f32) (x4 : Vec Ideal S1x1x16 .f32)

/-- A block of the region's output. -/
def blkOut : Vec Ideal S4x400x16 .f32 := fun j => tailV (lat4 x0 x1 x2 (j 0)) x3 x4 (j 1) (j 2)

/-- A load of the weights of phase 0. -/
theorem ldw0 (k l : Fin 48) : View.ld x1 r2_1 (ix3 0 k l) = x1 (ix3 0 k l) := by
  refine congrArg x1 (funext fun a => Fin.ext ?_)
  fin_cases a
  · rfl
  · show 0 + 1 * (k : Nat) = k
    omega
  · show 0 + 1 * (l : Nat) = l
    omega

/-- A load of the weights of phase 1. -/
theorem ldw1 (k l : Fin 48) : View.ld x1 r2_3 (ix3 0 k l) = x1 (ix3 1 k l) := by
  refine congrArg x1 (funext fun a => Fin.ext ?_)
  fin_cases a
  · rfl
  · show 0 + 1 * (k : Nat) = k
    omega
  · show 0 + 1 * (l : Nat) = l
    omega

/-- A load of the weights of phase 2. -/
theorem ldw2 (k l : Fin 48) : View.ld x1 r2_5 (ix3 0 k l) = x1 (ix3 2 k l) := by
  refine congrArg x1 (funext fun a => Fin.ext ?_)
  fin_cases a
  · rfl
  · show 0 + 1 * (k : Nat) = k
    omega
  · show 0 + 1 * (l : Nat) = l
    omega

/-- A load of the weights of phase 3. -/
theorem ldw3 (k l : Fin 48) : View.ld x1 r2_7 (ix3 0 k l) = x1 (ix3 3 k l) := by
  refine congrArg x1 (funext fun a => Fin.ext ?_)
  fin_cases a
  · rfl
  · show 0 + 1 * (k : Nat) = k
    omega
  · show 0 + 1 * (l : Nat) = l
    omega

/-- A load of a phase of an image. -/
theorem ldx (b q : Nat) (hb : b < 4) (hq : q < 4) (inb : ∀ a, (![b, q, 0, 0, 0] : Fin 5 → Nat) a + (![1, 1, 26, 26, 16] : Fin 5 → Nat) a ≤ S4x4x26x26x16.size a) (h v : Fin 26) (k : Fin 16) :
    View.ld x0 (Rect.unit (s := S4x4x26x26x16) ![b, q, 0, 0, 0] ![1, 1, 26, 26, 16] inb) (ix5 0 0 h v k) = x0 (ix5 ⟨b, hb⟩ ⟨q, hq⟩ h v k) := by
  refine congrArg x0 (funext fun a => Fin.ext ?_)
  fin_cases a
  · rfl
  · rfl
  · show 0 + 1 * (h : Nat) = h
    omega
  · show 0 + 1 * (v : Nat) = v
    omega
  · show 0 + 1 * (k : Nat) = k
    omega

/-- A load of the biases. -/
theorem ldb (x : Vec Ideal S1x1x16 .f32) (o : Fin 16) : View.ld x r2_8 (ix3 0 0 o) = x (ix3 0 0 o) := by
  refine congrArg x (funext fun a => Fin.ext ?_)
  fin_cases a
  · rfl
  · rfl
  · show 0 + 1 * (o : Nat) = o
    omega

/-- A load of the fifth layer's weights. -/
theorem ldw5 (k l : Fin 80) : View.ld x3 r2_9 (ix2 k l) = x3 (ix2 k l) := by
  refine congrArg x3 (funext fun a => Fin.ext ?_)
  fin_cases a
  · show 0 + 1 * (k : Nat) = k
    omega
  · show 0 + 1 * (l : Nat) = l
    omega

end Cert.KernelIdeal.Late

end

end
-- ==== Proof.Late4.lean ====
module

public import Idealize.ShloMosaic.Lib.Pipeline.ValueKit
public import proofs.«01_k».proof.Proof.Bands
public import proofs.«01_k».proof.Proof.Late3

@[expose] public section

set_option maxRecDepth 16384

noncomputable section

namespace Cert.KernelIdeal.Late

open Cert.KernelIdeal.Gen Cert.KernelIdeal.Band
open Idealize.ShloMosaic Idealize.ShloMosaic.TcCoe Idealize.SL.Sem
open Idealize.ShloMosaic.Pipeline (Dat)

variable (x0 : Vec Ideal S4x4x26x26x16 .f32) (x1 : Vec Ideal S4x48x48 .f32) (x2 : Vec Ideal S1x1x16 .f32) (x3 : Vec Ideal S80x80 .f32) (x4 : Vec Ideal S1x1x16 .f32)

/-- Four images reach each element. -/
theorem cov_imgs {b3 b2 b1 b0} {w3 w2 w1 w0} (y : S4x400x16.Idx) :
    ∃ p ∈ ([⟨Rect.unit (s := S4x400x16) ![3, 0, 0] ![1, 400, 16] b3, w3⟩, ⟨Rect.unit (s := S4x400x16) ![2, 0, 0] ![1, 400, 16] b2, w2⟩, ⟨Rect.unit (s := S4x400x16) ![1, 0, 0] ![1, 400, 16] b1, w1⟩, ⟨Rect.unit (s := S4x400x16) ![0, 0, 0] ![1, 400, 16] b0, w0⟩] : List (View.Piece (Elt Ideal) S4x400x16 .f32)), y ∈ p.1.set := by
  have h0 : (y 0).val < 4 := (y 0).isLt
  have h1 : (y 1).val < 400 := (y 1).isLt
  have h2 : (y 2).val < 16 := (y 2).isLt
  refine step (3 ≤ (y 0).val) (fun h => mem3 (inb := b3) (show (3 ≤ (y 0).val ∧ (y 0).val < 3 + 1) ∧ (0 ≤ (y 1).val ∧ (y 1).val < 0 + 400) ∧ (0 ≤ (y 2).val ∧ (y 2).val < 0 + 16) by omega)) fun _ => ?_
  refine step (2 ≤ (y 0).val) (fun h => mem3 (inb := b2) (show (2 ≤ (y 0).val ∧ (y 0).val < 2 + 1) ∧ (0 ≤ (y 1).val ∧ (y 1).val < 0 + 400) ∧ (0 ≤ (y 2).val ∧ (y 2).val < 0 + 16) by omega)) fun _ => ?_
  refine step (1 ≤ (y 0).val) (fun h => mem3 (inb := b1) (show (1 ≤ (y 0).val ∧ (y 0).val < 1 + 1) ∧ (0 ≤ (y 1).val ∧ (y 1).val < 0 + 400) ∧ (0 ≤ (y 2).val ∧ (y 2).val < 0 + 16) by omega)) fun _ => ?_
  refine step (0 ≤ (y 0).val) (fun h => mem3 (inb := b0) (show (0 ≤ (y 0).val ∧ (y 0).val < 0 + 1) ∧ (0 ≤ (y 1).val ∧ (y 1).val < 0 + 400) ∧ (0 ≤ (y 2).val ∧ (y 2).val < 0 + 16) by omega)) fun _ => ?_
  omega

/-- Where an image sits in a block. -/
theorem place_img (b : Nat) (hb : b < 4) (inb : ∀ a, (![b, 0, 0] : Fin 3 → Nat) a + (![1, 400, 16] : Fin 3 → Nat) a ≤ S4x400x16.size a) (A : FVec Ideal S1x400x16 .f32)
    (hA : ∀ (p : Fin 400) (o : Fin 16), A (ix3 0 p o) = tailV (lat4 x0 x1 x2 (⟨b, hb⟩ : Fin 4)) x3 x4 p o) (y : S1x400x16.Idx) :
    A y = blkOut x0 x1 x2 x3 x4 ((Rect.unit (s := S4x400x16) ![b, 0, 0] ![1, 400, 16] inb).emb y) := by
  idx_vars y
  have h0 : y0 = 0 := Fin.ext (by omega)
  subst h0
  rw [hA]
  unfold blkOut
  refine congr (congr (congrArg (fun n => tailV (lat4 x0 x1 x2 n) x3 x4) ?_) ?_) ?_
  · exact Fin.ext (show b = b + 1 * 0 by omega)
  · exact Fin.ext (show (y1 : Nat) = 0 + 1 * (y1 : Nat) by omega)
  · exact Fin.ext (show (y2 : Nat) = 0 + 1 * (y2 : Nat) by omega)

/-- Image 0 of a block. -/
theorem img0_at (p : Fin 400) (o : Fin 16) : k2_pay8 (k2_pay4 (k2_pay2 (View.ld x0 r2_0) (View.ld x1 r2_1) (View.ld x0 r2_2) (View.ld x1 r2_3)) (k2_pay3 (View.ld x0 r2_4)) (View.ld x1 r2_5) (View.ld x0 r2_6) (View.ld x1 r2_7) (View.ld x2 r2_8)) (k2_pay5 (View.ld x3 r2_9)) (k2_pay6 (k2_pay2 (View.ld x0 r2_0) (View.ld x1 r2_1) (View.ld x0 r2_2) (View.ld x1 r2_3)) (k2_pay3 (View.ld x0 r2_4)) (View.ld x1 r2_5) (View.ld x0 r2_6) (View.ld x1 r2_7) (View.ld x2 r2_8)) (k2_pay7 (k2_pay2 (View.ld x0 r2_0) (View.ld x1 r2_1) (View.ld x0 r2_2) (View.ld x1 r2_3)) (k2_pay3 (View.ld x0 r2_4)) (View.ld x1 r2_5) (View.ld x0 r2_6) (View.ld x1 r2_7) (View.ld x2 r2_8)) (View.ld x4 r2_8) (ix3 0 p o) = tailV (lat4 x0 x1 x2 (⟨0, by decide⟩ : Fin 4)) x3 x4 p o :=
  (congrFun (img_form0 ..) _).trans (img_at x0 x1 ⟨0, by decide⟩ (View.ld x0 r2_0) (View.ld x0 r2_2) (View.ld x0 r2_4) (View.ld x0 r2_6) (View.ld x1 r2_1) (View.ld x1 r2_3) (View.ld x1 r2_5) (View.ld x1 r2_7) x2 (View.ld x2 r2_8) x3 (View.ld x3 r2_9) x4 (View.ld x4 r2_8) (ldx x0 0 0 (by decide) (by decide) inb_S4x4x26x26x16_S1x1x26x26x16_0_0_0_0_0) (ldx x0 0 1 (by decide) (by decide) inb_S4x4x26x26x16_S1x1x26x26x16_0_1_0_0_0) (ldx x0 0 2 (by decide) (by decide) inb_S4x4x26x26x16_S1x1x26x26x16_0_2_0_0_0) (ldx x0 0 3 (by decide) (by decide) inb_S4x4x26x26x16_S1x1x26x26x16_0_3_0_0_0) (ldw0 x1) (ldw1 x1) (ldw2 x1) (ldw3 x1) (ldb x2) (ldw5 x3) (ldb x4) p o)

/-- Image 1 of a block. -/
theorem img1_at (p : Fin 400) (o : Fin 16) : k2_pay14 (k2_pay12 (k2_pay10 (k2_pay9 (View.ld x0 r2_11) (View.ld x1 r2_1)) (View.ld x0 r2_12) (View.ld x1 r2_3) (View.ld x0 r2_13) (View.ld x1 r2_5)) (k2_pay11 (View.ld x0 r2_14)) (View.ld x1 r2_7) (View.ld x2 r2_8) (View.ld x3 r2_9) (View.ld x4 r2_8)) k2_pay13 (ix3 0 p o) = tailV (lat4 x0 x1 x2 (⟨1, by decide⟩ : Fin 4)) x3 x4 p o :=
  (congrFun (img_form1 ..) _).trans (img_at x0 x1 ⟨1, by decide⟩ (View.ld x0 r2_11) (View.ld x0 r2_12) (View.ld x0 r2_13) (View.ld x0 r2_14) (View.ld x1 r2_1) (View.ld x1 r2_3) (View.ld x1 r2_5) (View.ld x1 r2_7) x2 (View.ld x2 r2_8) x3 (View.ld x3 r2_9) x4 (View.ld x4 r2_8) (ldx x0 1 0 (by decide) (by decide) inb_S4x4x26x26x16_S1x1x26x26x16_1_0_0_0_0) (ldx x0 1 1 (by decide) (by decide) inb_S4x4x26x26x16_S1x1x26x26x16_1_1_0_0_0) (ldx x0 1 2 (by decide) (by decide) inb_S4x4x26x26x16_S1x1x26x26x16_1_2_0_0_0) (ldx x0 1 3 (by decide) (by decide) inb_S4x4x26x26x16_S1x1x26x26x16_1_3_0_0_0) (ldw0 x1) (ldw1 x1) (ldw2 x1) (ldw3 x1) (ldb x2) (ldw5 x3) (ldb x4) p o)

/-- Image 2 of a block. -/
theorem img2_at (p : Fin 400) (o : Fin 16) : k2_pay17 (k2_pay16 (k2_pay15 (View.ld x0 r2_16) (View.ld x1 r2_1) (View.ld x0 r2_17) (View.ld x1 r2_3)) (View.ld x0 r2_18) (View.ld x1 r2_5) (View.ld x0 r2_19) (View.ld x1 r2_7) (View.ld x2 r2_8)) (Scalar.ofBits (F := Ideal) .f32 0x00000000#32) (View.ld x3 r2_9) (View.ld x4 r2_8) (ix3 0 p o) = tailV (lat4 x0 x1 x2 (⟨2, by decide⟩ : Fin 4)) x3 x4 p o :=
  (img_at x0 x1 ⟨2, by decide⟩ (View.ld x0 r2_16) (View.ld x0 r2_17) (View.ld x0 r2_18) (View.ld x0 r2_19) (View.ld x1 r2_1) (View.ld x1 r2_3) (View.ld x1 r2_5) (View.ld x1 r2_7) x2 (View.ld x2 r2_8) x3 (View.ld x3 r2_9) x4 (View.ld x4 r2_8) (ldx x0 2 0 (by decide) (by decide) inb_S4x4x26x26x16_S1x1x26x26x16_2_0_0_0_0) (ldx x0 2 1 (by decide) (by decide) inb_S4x4x26x26x16_S1x1x26x26x16_2_1_0_0_0) (ldx x0 2 2 (by decide) (by decide) inb_S4x4x26x26x16_S1x1x26x26x16_2_2_0_0_0) (ldx x0 2 3 (by decide) (by decide) inb_S4x4x26x26x16_S1x1x26x26x16_2_3_0_0_0) (ldw0 x1) (ldw1 x1) (ldw2 x1) (ldw3 x1) (ldb x2) (ldw5 x3) (ldb x4) p o)

/-- Image 3 of a block. -/
theorem img3_at (p : Fin 400) (o : Fin 16) : k2_pay1 (k2_pay21 (k2_pay20 (k2_pay18 (View.ld x1 r2_1)) (k2_pay19 (View.ld x0 r2_21)) (View.ld x0 r2_22) (View.ld x1 r2_3) (View.ld x0 r2_23) (View.ld x1 r2_5)) (View.ld x0 r2_24) (View.ld x1 r2_7) (View.ld x2 r2_8) (View.ld x3 r2_9)) (View.ld x4 r2_8) (ix3 0 p o) = tailV (lat4 x0 x1 x2 (⟨3, by decide⟩ : Fin 4)) x3 x4 p o :=
  (congrFun (img_eq0 ..) _).trans (img_at x0 x1 ⟨3, by decide⟩ (View.ld x0 r2_21) (View.ld x0 r2_22) (View.ld x0 r2_23) (View.ld x0 r2_24) (View.ld x1 r2_1) (View.ld x1 r2_3) (View.ld x1 r2_5) (View.ld x1 r2_7) x2 (View.ld x2 r2_8) x3 (View.ld x3 r2_9) x4 (View.ld x4 r2_8) (ldx x0 3 0 (by decide) (by decide) inb_S4x4x26x26x16_S1x1x26x26x16_3_0_0_0_0) (ldx x0 3 1 (by decide) (by decide) inb_S4x4x26x26x16_S1x1x26x26x16_3_1_0_0_0) (ldx x0 3 2 (by decide) (by decide) inb_S4x4x26x26x16_S1x1x26x26x16_3_2_0_0_0) (ldx x0 3 3 (by decide) (by decide) inb_S4x4x26x26x16_S1x1x26x26x16_3_3_0_0_0) (ldw0 x1) (ldw1 x1) (ldw2 x1) (ldw3 x1) (ldb x2) (ldw5 x3) (ldb x4) p o)

/-- What a point stores. -/
theorem out2_eq (y : S4x400x16.Idx) : out2_5 x0 x1 x2 x3 x4 y = blkOut x0 x1 x2 x3 x4 y := by
  unfold out2_5
  refine (congrFun (congrArg View.canon (List.append_nil _).symm) y).trans (View.canon_append_of_piecesOf (blkOut x0 x1 x2 x3 x4) [] _ ?_ y (cov_imgs y))
  refine ⟨?_, ?_, ?_, ?_, trivial⟩
  · intro y
    have e := place_img x0 x1 x2 x3 x4 3 (by decide) (by decide) _ (img3_at x0 x1 x2 x3 x4) y
    exact e
  · intro y
    have e := place_img x0 x1 x2 x3 x4 2 (by decide) (by decide) _ (img2_at x0 x1 x2 x3 x4) y
    exact e
  · intro y
    have e := place_img x0 x1 x2 x3 x4 1 (by decide) (by decide) _ (img1_at x0 x1 x2 x3 x4) y
    exact e
  · intro y
    have e := place_img x0 x1 x2 x3 x4 0 (by decide) (by decide) _ (img0_at x0 x1 x2 x3 x4) y
    exact e

variable (V : (c : Dev nD) → (b : Ref sig .tc) → Buf (Elt Ideal) ((c : Thread nD τ).loc b))

/-- The region's output, image by image. -/
def stage (x : Vec Ideal S64x4x26x26x16 .f32) (w : Vec Ideal S4x48x48 .f32) (b4 : Vec Ideal S1x1x16 .f32) (w5 : Vec Ideal S80x80 .f32) (b5 : Vec Ideal S1x1x16 .f32) :
    Vec Ideal S64x400x16 .f32 := fun j => tailV (lat4 x w b4 (j 0)) w5 b5 (j 1) (j 2)

/-- Which block each window of the region stages at a point. -/
theorem idx2 : ∀ t : Fin cfg2.N, win2_0.index t = ![t.val, 0, 0, 0, 0] ∧ win2_1.index t = ![0, 0, 0] ∧ win2_2.index t = ![0, 0, 0] ∧
    win2_3.index t = ![0, 0] ∧ win2_4.index t = ![0, 0, 0] ∧ win2_5.index t = ![t.val, 0, 0] :=
  (by decide +kernel : ∀ t : Fin grid2.N, _)

/-- The block of input 1 is the whole array. -/
theorem whole1 (c : Dev nD) (t : Fin cfg2.N) : (iblk2 V c 1 t : Vec Ideal S4x48x48 .f32) = V c main_call0_v93 := by
  funext y
  blk_point [iblk2, idx2 t]

/-- The block of input 2 is the whole array. -/
theorem whole2 (c : Dev nD) (t : Fin cfg2.N) : (iblk2 V c 2 t : Vec Ideal S1x1x16 .f32) = V c main_call0_v94 := by
  funext y
  blk_point [iblk2, idx2 t]

/-- The block of input 3 is the whole array. -/
theorem whole3 (c : Dev nD) (t : Fin cfg2.N) : (iblk2 V c 3 t : Vec Ideal S80x80 .f32) = V c main_call0_v96 := by
  funext y
  blk_point [iblk2, idx2 t]

/-- The block of input 4 is the whole array. -/
theorem whole4 (c : Dev nD) (t : Fin cfg2.N) : (iblk2 V c 4 t : Vec Ideal S1x1x16 .f32) = V c main_call0_v97 := by
  funext y
  blk_point [iblk2, idx2 t]

/-- The block of input 0 is four images. -/
theorem img0 (c : Dev nD) (t : Fin cfg2.N) (y : S4x4x26x26x16.Idx) : (iblk2 V c 0 t : Vec Ideal S4x4x26x26x16 .f32) y
    = V c main_call0_v118 (ix5 (⟨4 * t.val + (y 0).val, by have h : t.val < 16 := t.isLt; have h0 : (y 0).val < 4 := (y 0).isLt; omega⟩ : Fin 64) (y 1) (y 2) (y 3) (y 4)) := by
  blk_point [iblk2, idx2 t]

/-- Where a point's output block sits. -/
theorem place5 (t : Fin cfg2.N) (g : Vec Ideal S64x400x16 .f32) (y : S4x400x16.Idx) :
    g (ix3 (⟨4 * t.val + (y 0).val, by have h : t.val < 16 := t.isLt; have h0 : (y 0).val < 4 := (y 0).isLt; omega⟩ : Fin 64) (y 1) (y 2)) = g (((cfg2.win 5).blk t).view.emb y) := by
  blk_point [idx2 t]

/-- What a point leaves is the region's output at the place its block sits at. -/
theorem point2 (c : Dev nD) (t : Fin cfg2.N) (y : S4x400x16.Idx) :
    out2_5 (iblk2 V c 0 t) (iblk2 V c 1 t) (iblk2 V c 2 t) (iblk2 V c 3 t) (iblk2 V c 4 t) y = stage (V c main_call0_v118) (V c main_call0_v93) (V c main_call0_v94) (V c main_call0_v96) (V c main_call0_v97) (((cfg2.win 5).blk t).view.emb y) := by
  refine Eq.trans ?_ (place5 t _ y)
  refine (out2_eq ..).trans ?_
  rw [whole1, whole2, whole3, whole4]
  unfold blkOut stage
  refine congrArg (fun z => tailV z _ _ _ _) ?_
  unfold lat4 ph
  simp only [img0]
  rfl

/-- The region's output array, as a function of the arrays it was entered with. -/
theorem stage_arr (c : Dev nD) : (dat2 V c).arrAt 5 cfg2.N = stage (V c main_call0_v118) (V c main_call0_v93) (V c main_call0_v94) (V c main_call0_v96) (V c main_call0_v97) := by
  refine (dat2 V c).arrAt_eq_of_covers 5 _ (by decide +kernel) fun t hf y => ?_
  blk_simp
  rw [after2_5]
  exact point2 V c t y

end Cert.KernelIdeal.Late

end

end
-- ==== Proof.Dense.lean ====
module

public import Idealize.ShloMosaic.Lib.Pipeline.ValueKit
public import proofs.«01_k».proof.Proof.Gen.KernelIdeal.Frame

@[expose] public section

set_option maxRecDepth 16384

noncomputable section

namespace Cert.KernelIdeal.Dense

open Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The rows of the fully connected layer 1: the positive part of a row times a column plus the bias. -/
def fc1 (x : Vec Ideal S64x6400 .f32) (w : Vec Ideal S6400x4096 .f32) (b : Vec Ideal S1x4096 .f32) :
    Vec Ideal S64x4096 .f32 :=
  fun j => max ((∑ k : Fin 6400, x (ix2 (j 0) k) * w (ix2 k (j 1))) + b (ix2 0 (j 1))) 0

/-- Which block each window of layer 1 stages at a point. -/
theorem idx3 : ∀ t : Fin cfg3.N, win3_0.index t = ![0, 0] ∧ win3_1.index t = ![0, t.val] ∧
    win3_2.index t = ![0, t.val] ∧ win3_3.index t = ![0, t.val] :=
  (by decide +kernel : ∀ t : Fin grid3.N, _)

/-- What one point of layer 1 stores is the layer at the place the block sits at. -/
theorem point3 (c : Dev nD) (t : Fin cfg3.N) (y) : k3_pay1 (iblk3 V c 0 t) (iblk3 V c 1 t) (iblk3 V c 2 t) y
    = fc1 (V c main_call0_v120) (V c main_call0_v101) (V c main_call0_v102) (((cfg3.win 3).blk t).view.emb y) := by
  pointwise [k3_pay1, fc1]
  blk_point [iblk3, idx3 t]

/-- Layer 1's output array, as a function of the arrays the region was entered with. -/
theorem fc1_arr (c : Dev nD) :
    (dat3 V c).arrAt 3 cfg3.N = fc1 (V c main_call0_v120) (V c main_call0_v101) (V c main_call0_v102) := by
  refine (dat3 V c).arrAt_eq_of_covers 3 _ (by decide +kernel) fun t hf y => ?_
  blk_simp
  rw [after3_3]
  frame_out
  exact point3 V c t y

/-- The last two layers, as a function of the layer 1 output, weights and biases. -/
def fc23 (x : Vec Ideal S64x4096 .f32) (w : Vec Ideal S4096x2048 .f32) (b : Vec Ideal S1x2048 .f32)
    (w3 : Vec Ideal S2048x12 .f32) (b3 : Vec Ideal S1x12 .f32) : Vec Ideal S64x12 .f32 :=
  fun j => (∑ l : Fin 2048, max ((∑ k : Fin 4096, x (ix2 (j 0) k) * w (ix2 k l)) + b (ix2 0 l)) 0 * w3 (ix2 l (j 1)))
    + b3 (ix2 0 (j 1))

/-- Which block each window of the last region stages: the whole array. -/
theorem idx4 : ∀ t : Fin cfg4.N, win4_0.index t = ![0, 0] ∧ win4_1.index t = ![0, 0] ∧
    win4_2.index t = ![0, 0] ∧ win4_3.index t = ![0, 0] ∧ win4_4.index t = ![0, 0] ∧ win4_5.index t = ![0, 0] :=
  (by decide +kernel : ∀ t : Fin grid4.N, _)

/-- What the single point of the last region stores. -/
theorem point4 (c : Dev nD) (t : Fin cfg4.N) (y) :
    k4_pay1 (iblk4 V c 0 t) (iblk4 V c 1 t) (iblk4 V c 2 t) (iblk4 V c 3 t) (iblk4 V c 4 t) y
    = fc23 (V c main_call0_v121) (V c main_call0_v103) (V c main_call0_v104) (V c main_call0_v105)
        (V c main_call0_v106) (((cfg4.win 5).blk t).view.emb y) := by
  pointwise [k4_pay1, fc23]
  blk_point [iblk4, idx4 t]

/-- The result array, as a function of the arrays the last region was entered with. -/
theorem fc23_arr (c : Dev nD) :
    (dat4 V c).arrAt 5 cfg4.N = fc23 (V c main_call0_v121) (V c main_call0_v103) (V c main_call0_v104)
      (V c main_call0_v105) (V c main_call0_v106) := by
  refine (dat4 V c).arrAt_eq_of_covers 5 _ (by decide +kernel) fun t hf y => ?_
  blk_simp
  rw [after4_5]
  frame_out
  exact point4 V c t y

end Cert.KernelIdeal.Dense

end

end
-- ==== Proof.MatchLate.lean ====
module

public import proofs.«01_k».proof.Proof.Late4
public import proofs.«01_k».proof.Proof.Match
public import proofs.«01_k».proof.Proof.Dense

/-! The third region computes the fourth and fifth convolutions, the last two the dense layers. -/

@[expose] public section

set_option maxRecDepth 16384

noncomputable section

namespace Cert.MatchLate

open Idealize.ShloMosaic Cert.KernelIdeal Cert.KernelIdeal.Gen

/-- The fourth convolution: four phases of 3 x 3 taps are 6 x 6 taps. -/
theorem fourth (x : Vec Ideal S64x4x26x26x16 .f32) (w : Vec Ideal S4x48x48 .f32) (b4 : Vec Ideal S1x1x16 .f32) (n : Fin 64)
    (y : FVec Ideal S64x52x52x16 .f32) (W : FVec Ideal S16x16x6x6 .f32) (B : FVec Ideal S16 .f32)
    (hx : ∀ (b : Fin 64) (q : Fin 4) (h v : Fin 26) (o : Fin 16), x (ix5 b q h v o) = y (ix4 b (⟨2 * h + q / 2, by omega⟩ : Fin 52) (⟨2 * v + q % 2, by omega⟩ : Fin 52) o))
    (hw : ∀ (q : Fin 4) (k l : Fin 48), w (ix3 q k l) = W (ix4 (⟨l % 16, by omega⟩ : Fin 16) (⟨k % 16, by omega⟩ : Fin 16) (⟨2 * (l / 16) + q / 2, by omega⟩ : Fin 6) (⟨2 * (k / 16) + q % 2, by omega⟩ : Fin 6)))
    (hb : ∀ o : Fin 16, b4 (ix3 0 0 o) = B (ix1 o)) :
    Late.lat4 x w b4 n = Spec.convR (fun o h v => y (ix4 n h v o)) W B (Spec.sh2 (n := 24) (H := 52) (by decide)) (Spec.sh2 (H := 52) (by decide)) := by
  funext o h v
  have ho := o.isLt
  have hh := h.isLt
  have hv := v.isLt
  unfold Late.lat4 Spec.convR Spec.convB Spec.conv
  rw [hb]
  refine congrArg (fun z => max (z + _) 0) ?_
  have hF : ∀ (q : Fin 4), Late.ph x w n q o h v = ∑ c : Fin 16, ∑ t : Fin 3, ∑ u : Fin 3,
      (fun (c : Fin 16) (t u : Nat) => (show EReal from W (ix4 o c (⟨u % 6, by omega⟩ : Fin 6) (⟨t % 6, by omega⟩ : Fin 6)))
        * y (ix4 n (⟨(2 * h + u) % 52, by omega⟩ : Fin 52) (⟨(2 * v + t) % 52, by omega⟩ : Fin 52) c)) c (2 * t + q % 2) (2 * u + q / 2) := fun q => by
    have hq := q.isLt
    unfold Late.ph
    refine Match.taps 48 rfl (fun (c : Fin 16) (t u : Fin 3) => _) _ fun u i c t hi => ?_
    have hc := c.isLt
    have ht := t.isLt
    have hu := u.isLt
    rw [mul_comm]
    refine congrArg₂ (· * ·) ((hw _ _ _).trans ?_) ((hx _ _ _ _ _).trans ?_)
    · blk_ext []
    · blk_ext []
  rw [hF 0, hF 1, hF 2, hF 3, ← Finset.sum_add_distrib, ← Finset.sum_add_distrib, ← Finset.sum_add_distrib]
  refine Finset.sum_congr rfl fun c _ => ?_
  refine (Match.phases fun t u => (show EReal from W (ix4 o c (⟨u % 6, by omega⟩ : Fin 6) (⟨t % 6, by omega⟩ : Fin 6)))
        * y (ix4 n (⟨(2 * h + u) % 52, by omega⟩ : Fin 52) (⟨(2 * v + t) % 52, by omega⟩ : Fin 52) c)).symm.trans ?_
  refine Finset.sum_congr rfl fun t _ => Finset.sum_congr rfl fun u _ => ?_
  have ht := t.isLt
  have hu := u.isLt
  unfold Spec.sh2
  refine congrArg₂ (· * ·) ?_ ?_
  · blk_ext []
  · blk_ext []

/-- The fifth convolution. -/
theorem fifth (x : Spec.Img 16 24 24) (w : Vec Ideal S80x80 .f32) (b5 : Vec Ideal S1x1x16 .f32) (W : FVec Ideal S16x16x5x5 .f32) (B : FVec Ideal S16 .f32)
    (hw : ∀ (k l : Fin 80), w (ix2 k l) = W (ix4 (⟨l % 16, by omega⟩ : Fin 16) (⟨k % 16, by omega⟩ : Fin 16) (⟨l / 16, by omega⟩ : Fin 5) (⟨k / 16, by omega⟩ : Fin 5)))
    (hb : ∀ o : Fin 16, b5 (ix3 0 0 o) = B (ix1 o)) (p : Fin 400) (o : Fin 16) :
    Late.tailV x w b5 p o = Spec.convR x W B (Spec.sh (n := 20) (H := 24) (by decide)) (Spec.sh (H := 24) (by decide)) o ⟨p / 20, by omega⟩ ⟨p % 20, by omega⟩ := by
  have ho := o.isLt
  unfold Late.tailV Spec.convR Spec.convB Spec.conv
  rw [hb]
  refine congrArg (fun z => max (z + _) 0) ?_
  refine Match.taps 80 rfl (fun (c : Fin 16) (t u : Fin 5) => _) _ fun u i c t hi => ?_
  have hc := c.isLt
  rw [mul_comm]
  refine congrArg₂ (· * ·) ((hw _ _).trans (by blk_ext [])) ?_
  refine congr (congr (congrArg x (Fin.ext ?_)) (Fin.ext rfl)) (Fin.ext ?_)
  · show (i : Nat) % 16 = c
    omega
  · show (p : Nat) % 20 + i / 16 = p % 20 + t
    omega

/-- The third region computes its layers. -/
theorem late (x : Vec Ideal S64x4x26x26x16 .f32) (w : Vec Ideal S4x48x48 .f32) (b4 : Vec Ideal S1x1x16 .f32) (w5 : Vec Ideal S80x80 .f32) (b5 : Vec Ideal S1x1x16 .f32) (n : Fin 64)
    (y : FVec Ideal S64x52x52x16 .f32) (L : Spec.Img 16 52 52) (hL : ∀ (o : Fin 16) (h v : Fin 52), y (ix4 n h v o) = L o h v)
    (W4 : FVec Ideal S16x16x6x6 .f32) (B4 : FVec Ideal S16 .f32) (W5 : FVec Ideal S16x16x5x5 .f32) (B5 : FVec Ideal S16 .f32)
    (hx : ∀ (b : Fin 64) (q : Fin 4) (h v : Fin 26) (o : Fin 16), x (ix5 b q h v o) = y (ix4 b (⟨2 * h + q / 2, by omega⟩ : Fin 52) (⟨2 * v + q % 2, by omega⟩ : Fin 52) o))
    (hw : ∀ (q : Fin 4) (k l : Fin 48), w (ix3 q k l) = W4 (ix4 (⟨l % 16, by omega⟩ : Fin 16) (⟨k % 16, by omega⟩ : Fin 16) (⟨2 * (l / 16) + q / 2, by omega⟩ : Fin 6) (⟨2 * (k / 16) + q % 2, by omega⟩ : Fin 6)))
    (hb : ∀ o : Fin 16, b4 (ix3 0 0 o) = B4 (ix1 o))
    (hw5 : ∀ (k l : Fin 80), w5 (ix2 k l) = W5 (ix4 (⟨l % 16, by omega⟩ : Fin 16) (⟨k % 16, by omega⟩ : Fin 16) (⟨l / 16, by omega⟩ : Fin 5) (⟨k / 16, by omega⟩ : Fin 5)))
    (hb5 : ∀ o : Fin 16, b5 (ix3 0 0 o) = B5 (ix1 o)) (p : Fin 400) (o : Fin 16) :
    Late.stage x w b4 w5 b5 (ix3 n p o) = Spec.layer45 L W4 B4 W5 B5 o ⟨p / 20, by omega⟩ ⟨p % 20, by omega⟩ := by
  have eL : (fun (o : Fin 16) (h v : Fin 52) => y (ix4 n h v o)) = L := by
    funext o h v
    exact hL o h v
  have e := fifth (Late.lat4 x w b4 n) w5 b5 W5 B5 hw5 hb5 p o
  rw [fourth x w b4 n y W4 B4 hx hw hb, eL] at e
  exact (congrArg (fun z => Late.tailV z w5 b5 p o) ((fourth x w b4 n y W4 B4 hx hw hb).trans (by rw [eL]))).trans e

/-- The three dense layers. -/
theorem head (x : Vec Ideal S64x6400 .f32) (w1 : Vec Ideal S6400x4096 .f32) (b1 : Vec Ideal S1x4096 .f32) (w2 : Vec Ideal S4096x2048 .f32) (b2 : Vec Ideal S1x2048 .f32)
    (w3 : Vec Ideal S2048x12 .f32) (b3 : Vec Ideal S1x12 .f32) (y : Spec.Img 16 20 20) (n : Fin 64)
    (W1 : FVec Ideal S4096x6400 .f32) (B1 : FVec Ideal S4096 .f32) (W2 : FVec Ideal S2048x4096 .f32) (B2 : FVec Ideal S2048 .f32) (W3 : FVec Ideal S12x2048 .f32) (B3 : FVec Ideal S12 .f32)
    (hx : ∀ k : Fin 6400, x (ix2 n k) = y ⟨k % 16, by omega⟩ ⟨k / 16 / 20, by omega⟩ ⟨k / 16 % 20, by omega⟩)
    (h1 : ∀ (k : Fin 6400) (l : Fin 4096), w1 (ix2 k l) = W1 (ix2 l (⟨400 * (k % 16) + k / 16, by omega⟩ : Fin 6400)))
    (h1' : ∀ l : Fin 4096, b1 (ix2 0 l) = B1 (ix1 l)) (h2 : ∀ (k : Fin 4096) (l : Fin 2048), w2 (ix2 k l) = W2 (ix2 l k)) (h2' : ∀ l : Fin 2048, b2 (ix2 0 l) = B2 (ix1 l))
    (h3 : ∀ (k : Fin 2048) (l : Fin 12), w3 (ix2 k l) = W3 (ix2 l k)) (h3' : ∀ l : Fin 12, b3 (ix2 0 l) = B3 (ix1 l)) (o : Fin 12) :
    Dense.fc23 (Dense.fc1 x w1 b1) w2 b2 w3 b3 (ix2 n o) = Spec.head (Spec.flat y) W1 B1 W2 B2 W3 B3 o := by
  have e1 : ∀ l : Fin 4096, Dense.fc1 x w1 b1 (ix2 n l) = max (Spec.dense (Spec.flat y) W1 B1 l) 0 := fun l => by
    show max ((∑ k : Fin 6400, x (ix2 n k) * w1 (ix2 k l)) + b1 (ix2 0 l)) 0 = _
    unfold Spec.dense
    rw [h1']
    refine congrArg (fun z => max (z + _) 0) ?_
    refine Eq.trans ?_ ((Match.pixels fun c p => y ⟨c % 16, by omega⟩ ⟨p / 20 % 20, by omega⟩ ⟨p % 20, by omega⟩
      * W1 (ix2 l (⟨(400 * c + p) % 6400, by omega⟩ : Fin 6400))).trans ?_)
    · refine Finset.sum_congr rfl fun k _ => ?_
      have hk := k.isLt
      refine congrArg₂ (· * ·) ((hx k).trans ?_) ((h1 k l).trans (by blk_ext []))
      refine congr (congr (congrArg y (Fin.ext ?_)) (Fin.ext ?_)) (Fin.ext ?_) <;> dsimp only <;> omega
    · refine Finset.sum_congr rfl fun k _ => ?_
      have hk := k.isLt
      unfold Spec.flat
      refine congrArg₂ (· * ·) ?_ (by blk_ext [])
      refine congr (congr (congrArg y (Fin.ext ?_)) (Fin.ext ?_)) (Fin.ext ?_) <;> dsimp only <;> omega
  show (∑ l : Fin 2048, max ((∑ k : Fin 4096, Dense.fc1 x w1 b1 (ix2 n k) * w2 (ix2 k l)) + b2 (ix2 0 l)) 0 * w3 (ix2 l o)) + b3 (ix2 0 o) = _
  unfold Spec.head Spec.dense
  refine congrArg₂ (· + ·) (Finset.sum_congr rfl fun l _ => congrArg₂ (· * ·) ?_ (h3 l o)) (h3' o)
  refine congrArg (fun z => max z 0) (congrArg₂ (· + ·) (Finset.sum_congr rfl fun k _ => congrArg₂ (· * ·) ?_ (h2 k l)) (h2' l))
  exact (e1 k).trans (by unfold Spec.dense; rfl)

end Cert.MatchLate

end

end
-- ==== Proof.HostA.lean ====
module

public import Idealize.ShloMosaic.Lib.Pipeline.ValueKit
public import Idealize.ShloMosaic.Lib.StableHlo.ReadAt
public import proofs.«01_k».proof.Proof.Gen.KernelIdeal.Frame
public import proofs.«01_k».proof.Proof.Spec

/-! What the host's operations before the first region leave, element by element: the image, the scales and shifts of
the two normalizations, and the weights and biases of the region layer and of convolutions 1 to 3. -/

@[expose] public section

set_option maxRecDepth 16384

noncomputable section

namespace Cert.KernelIdeal.HostSide

open Cert.KernelIdeal.Gen
open Idealize.ShloMosaic Idealize.ShloMosaic.TcCoe Idealize.SL.Sem

variable (V0 : Valuation τ sig (Elt Ideal))

/-- What a buffer holds after the host operations before the first region. -/
abbrev at0 (r : Ref sig .tc) := StableHlo.after hostOps0 V0 (Proc.devRef .tc r)

/-- The image with its columns and channels in one number. -/
theorem v1_at (b : Fin 64) (p : Fin 142) (r : Fin 426) : at0 V0 main_call0_v1 (ix3 b p r) = V0 (Proc.devRef .tc main_arg0) (ix4 b (⟨r % 3, by omega⟩ : Fin 3) p (⟨r / 3, by omega⟩ : Fin 142)) := by
  unfold at0
  after_reads_at
  all_goals blk_ext []

/-- The first bias, tiled. -/
theorem v64_at (l : Fin 1056) : at0 V0 main_call0_v64 (ix2 0 l) = V0 (Proc.devRef .tc main_arg2) (ix1 (⟨l % 32, by omega⟩ : Fin 32)) := by
  unfold at0
  after_reads_at
  all_goals blk_ext []

/-- The scale of the first normalization. -/
theorem v68_at (i j : Fin 8) (k : Fin 32) : at0 V0 main_call0_v68 (ix3 i j k) = Spec.scale (V0 (Proc.devRef .tc main_arg3) (ix3 i j k)) (V0 (Proc.devRef .tc main_arg6) (ix3 i j k)) := by
  unfold at0 Spec.scale
  after_reads_at
  all_goals blk_ext []

/-- The shift of the first normalization. -/
theorem v70_at (i j : Fin 8) (k : Fin 32) : at0 V0 main_call0_v70 (ix3 i j k) = (show EReal from V0 (Proc.devRef .tc main_arg4) (ix3 i j k)) - (show EReal from V0 (Proc.devRef .tc main_arg5) (ix3 i j k)) * Spec.scale (V0 (Proc.devRef .tc main_arg3) (ix3 i j k)) (V0 (Proc.devRef .tc main_arg6) (ix3 i j k)) := by
  unfold at0 Spec.scale
  after_reads_at
  all_goals blk_ext []

/-- The weights of the region layer. -/
theorem v72_at (i j : Fin 8) (k l : Fin 96) : at0 V0 main_call0_v72 (ix4 i j k l) = V0 (Proc.devRef .tc main_arg7) (ix6 i j (⟨l % 32, by omega⟩ : Fin 32) (⟨k % 32, by omega⟩ : Fin 32) (⟨l / 32, by omega⟩ : Fin 3) (⟨k / 32, by omega⟩ : Fin 3)) := by
  unfold at0
  after_reads_at
  all_goals blk_ext []

/-- The scale of the second normalization. -/
theorem v77_at (k : Fin 32) : at0 V0 main_call0_v77 (ix3 0 0 k) = Spec.scale (V0 (Proc.devRef .tc main_arg9) (ix1 k)) (V0 (Proc.devRef .tc main_arg12) (ix1 k)) := by
  unfold at0 Spec.scale
  after_reads_at
  all_goals blk_ext []

/-- The shift of the second normalization. -/
theorem v84_at (k : Fin 32) : at0 V0 main_call0_v84 (ix3 0 0 k) = (show EReal from V0 (Proc.devRef .tc main_arg10) (ix1 k)) - (show EReal from V0 (Proc.devRef .tc main_arg11) (ix1 k)) * Spec.scale (V0 (Proc.devRef .tc main_arg9) (ix1 k)) (V0 (Proc.devRef .tc main_arg12) (ix1 k)) := by
  unfold at0 Spec.scale
  after_reads_at
  all_goals blk_ext []

/-- The weights of convolution 2. -/
theorem v86_at (k : Fin 256) (l : Fin 128) : at0 V0 main_call0_v86 (ix2 k l) = V0 (Proc.devRef .tc main_arg13) (ix4 (⟨l % 16, by omega⟩ : Fin 16) (⟨k % 32, by omega⟩ : Fin 32) (⟨l / 16, by omega⟩ : Fin 8) (⟨k / 32, by omega⟩ : Fin 8)) := by
  unfold at0
  after_reads_at
  all_goals blk_ext []

/-- The bias of convolution 2. -/
theorem v87_at (o : Fin 16) : at0 V0 main_call0_v87 (ix3 0 0 o) = V0 (Proc.devRef .tc main_arg14) (ix1 o) := by
  unfold at0
  after_reads_at
  all_goals blk_ext []

/-- The weights of convolution 3. -/
theorem v89_at (k : Fin 128) (l : Fin 128) : at0 V0 main_call0_v89 (ix2 k l) = V0 (Proc.devRef .tc main_arg15) (ix4 (⟨l % 16, by omega⟩ : Fin 16) (⟨k % 16, by omega⟩ : Fin 16) (⟨l / 16, by omega⟩ : Fin 8) (⟨k / 16, by omega⟩ : Fin 8)) := by
  unfold at0
  after_reads_at
  all_goals blk_ext []

/-- The bias of convolution 3. -/
theorem v90_at (o : Fin 16) : at0 V0 main_call0_v90 (ix3 0 0 o) = V0 (Proc.devRef .tc main_arg16) (ix1 o) := by
  unfold at0
  after_reads_at
  all_goals blk_ext []

end Cert.KernelIdeal.HostSide

end

end
-- ==== Proof.HostB.lean ====
module

public import Idealize.ShloMosaic.Lib.Pipeline.ValueKit
public import Idealize.ShloMosaic.Lib.StableHlo.ReadAt
public import proofs.«01_k».proof.Proof.Gen.KernelIdeal.Frame
public import proofs.«01_k».proof.Proof.HostA

/-! What the host's operations before the first region leave, element by element: the weights and biases of
convolutions 4 and 5 and of the dense layers. -/

@[expose] public section

set_option maxRecDepth 16384

noncomputable section

namespace Cert.KernelIdeal.HostSide

open Cert.KernelIdeal.Gen
open Idealize.ShloMosaic Idealize.ShloMosaic.TcCoe Idealize.SL.Sem

variable (V0 : Valuation τ sig (Elt Ideal))

/-- The weights of convolution 4 by phases. -/
theorem v93_at (q : Fin 4) (k l : Fin 48) : at0 V0 main_call0_v93 (ix3 q k l) = V0 (Proc.devRef .tc main_arg17) (ix4 (⟨l % 16, by omega⟩ : Fin 16) (⟨k % 16, by omega⟩ : Fin 16) (⟨2 * (l / 16) + q / 2, by omega⟩ : Fin 6) (⟨2 * (k / 16) + q % 2, by omega⟩ : Fin 6)) := by
  unfold at0
  after_reads_at
  all_goals blk_ext []

/-- The bias of convolution 4. -/
theorem v94_at (o : Fin 16) : at0 V0 main_call0_v94 (ix3 0 0 o) = V0 (Proc.devRef .tc main_arg18) (ix1 o) := by
  unfold at0
  after_reads_at
  all_goals blk_ext []

/-- The weights of convolution 5. -/
theorem v96_at (k l : Fin 80) : at0 V0 main_call0_v96 (ix2 k l) = V0 (Proc.devRef .tc main_arg19) (ix4 (⟨l % 16, by omega⟩ : Fin 16) (⟨k % 16, by omega⟩ : Fin 16) (⟨l / 16, by omega⟩ : Fin 5) (⟨k / 16, by omega⟩ : Fin 5)) := by
  unfold at0
  after_reads_at
  all_goals blk_ext []

/-- The bias of convolution 5. -/
theorem v97_at (o : Fin 16) : at0 V0 main_call0_v97 (ix3 0 0 o) = V0 (Proc.devRef .tc main_arg20) (ix1 o) := by
  unfold at0
  after_reads_at
  all_goals blk_ext []

/-- The weights of the first dense layer, its input in the order of the kernel. -/
theorem v101_at (k : Fin 6400) (l : Fin 4096) : at0 V0 main_call0_v101 (ix2 k l) = V0 (Proc.devRef .tc main_arg21) (ix2 l (⟨400 * (k % 16) + k / 16, by omega⟩ : Fin 6400)) := by
  unfold at0
  after_reads_at
  all_goals blk_ext []

/-- The bias of the first dense layer. -/
theorem v102_at (l : Fin 4096) : at0 V0 main_call0_v102 (ix2 0 l) = V0 (Proc.devRef .tc main_arg22) (ix1 l) := by
  unfold at0
  after_reads_at
  all_goals blk_ext []

/-- The weights of the second dense layer. -/
theorem v103_at (k : Fin 4096) (l : Fin 2048) : at0 V0 main_call0_v103 (ix2 k l) = V0 (Proc.devRef .tc main_arg23) (ix2 l k) := by
  unfold at0
  after_reads_at
  all_goals blk_ext []

/-- The bias of the second dense layer. -/
theorem v104_at (l : Fin 2048) : at0 V0 main_call0_v104 (ix2 0 l) = V0 (Proc.devRef .tc main_arg24) (ix1 l) := by
  unfold at0
  after_reads_at
  all_goals blk_ext []

/-- The weights of the last layer. -/
theorem v105_at (k : Fin 2048) (l : Fin 12) : at0 V0 main_call0_v105 (ix2 k l) = V0 (Proc.devRef .tc main_arg25) (ix2 l k) := by
  unfold at0
  after_reads_at
  all_goals blk_ext []

/-- The bias of the last layer. -/
theorem v106_at (l : Fin 12) : at0 V0 main_call0_v106 (ix2 0 l) = V0 (Proc.devRef .tc main_arg26) (ix1 l) := by
  unfold at0
  after_reads_at
  all_goals blk_ext []

end Cert.KernelIdeal.HostSide

end

end
-- ==== Proof.HostC.lean ====
module

public import Idealize.ShloMosaic.Lib.Pipeline.ValueKit
public import Idealize.ShloMosaic.Lib.StableHlo.ReadAt
public import proofs.«01_k».proof.Proof.Gen.KernelIdeal.Frame
public import proofs.«01_k».proof.Proof.HostA

/-! The band matrix of convolution 1, which the host builds from the weights and an identity matrix, element by element. -/

@[expose] public section

set_option maxRecDepth 16384

noncomputable section

namespace Cert.KernelIdeal.HostSide

open Cert.KernelIdeal.Gen
open Idealize.ShloMosaic Idealize.ShloMosaic.TcCoe Idealize.SL.Sem

variable (V0 : Valuation τ sig (Elt Ideal))

/-- A value by cases is the value that every case has. -/
theorem dif_of {α : Type*} {p : Prop} [Decidable p] {A : p → α} {B : ¬p → α} {R : α} (hA : ∀ h, A h = R) (hB : ∀ h, B h = R) :
    dite p A B = R := by
  by_cases h : p
  · exact (dif_pos h).trans (hA h)
  · exact (dif_neg h).trans (hB h)

/-- An element of the identity matrix times a value. -/
theorem eye_term (a b : Nat) (ha : a < 64) (hb : b < 64) (w w' : EReal) (C : Prop) [Decidable C] (hC : a = b ↔ C) (hw : w = w') :
    (FloatOps.uitofp FTy.f32 (IntOp.cmpi CmpIPredicate.eq (IntOp.addi (BitVec.ofNat 32 a) 0#32) (BitVec.ofNat 32 b)) : Ideal .f32) * w = if C then w' else 0 := by
  subst hw
  have e : IntOp.cmpi CmpIPredicate.eq (IntOp.addi (BitVec.ofNat 32 a) 0#32) (BitVec.ofNat 32 b) = if a = b then 1#1 else 0#1 := by
    have h : (BitVec.ofNat 32 a = BitVec.ofNat 32 b) ↔ a = b := by
      constructor
      · intro h
        have := congrArg BitVec.toNat h
        simp only [BitVec.toNat_ofNat] at this
        omega
      · exact fun h => h ▸ rfl
    by_cases hab : a = b
    · subst hab
      simp [IntOp.cmpi, IntOp.addi]
    · have h' : ¬ BitVec.ofNat 32 a = BitVec.ofNat 32 b := fun k => hab (h.mp k)
      have hb' : (BitVec.ofNat 32 a == BitVec.ofNat 32 b) = false := by simpa using h'
      simp [IntOp.cmpi, IntOp.addi, hab, hb']
  rw [e]
  by_cases hab : a = b
  · rw [if_pos hab, if_pos (hC.mp hab)]
    have h1 : (FloatOps.uitofp FTy.f32 (1#1) : Ideal .f32) = (1 : EReal) := by
      simp [FloatOps.uitofp]
    rw [h1]
    exact one_mul w
  · rw [if_neg hab, if_neg (fun h => hab (hC.mpr h))]
    have h0 : (FloatOps.uitofp FTy.f32 (0#1) : Ideal .f32) = (0 : EReal) := by
      simp [FloatOps.uitofp]
    rw [h0]
    exact zero_mul w

/-- The padding value. -/
theorem pad_zero : (FloatOps.sitofp FTy.f32 (0#32) : Ideal .f32) = (0 : EReal) := by
  simp [FloatOps.sitofp]

/-- A sum over eleven column taps. -/
theorem sum_eleven (f : Fin 11 → EReal) :
    ∑ t : Fin 11, f t = f 0 + f 1 + f 2 + f 3 + f 4 + f 5 + f 6 + f 7 + f 8 + f 9 + f 10 := by
  rw [Fin.sum_univ_castSucc, Fin.sum_univ_castSucc, Fin.sum_univ_castSucc, Fin.sum_univ_eight]
  rfl

/-- The banded weights of convolution 1: a row's column is a tap away from the output's column, or there is nothing. -/
theorem v60_at (k : Fin 1419) (l : Fin 1056) : at0 V0 main_call0_v60 (ix2 k l)
    = ∑ t : Fin 11, if (k : Nat) % 129 / 3 = l / 32 + t then (show EReal from V0 (Proc.devRef .tc main_arg1) (ix4 (⟨l % 32, by omega⟩ : Fin 32) (⟨k % 129 % 3, by omega⟩ : Fin 3) (⟨k / 129, by omega⟩ : Fin 11) t)) else (0 : EReal) := by
  have hk := k.isLt
  have hl := l.isLt
  unfold at0
  after_reads_at
  refine Eq.trans ?_ (sum_eleven _).symm
  simp only [Fin.val_zero, Fin.val_one, Fin.val_two, show ((3 : Fin 11) : Nat) = 3 from rfl, show ((4 : Fin 11) : Nat) = 4 from rfl, show ((5 : Fin 11) : Nat) = 5 from rfl, show ((6 : Fin 11) : Nat) = 6 from rfl, show ((7 : Fin 11) : Nat) = 7 from rfl, show ((8 : Fin 11) : Nat) = 8 from rfl, show ((9 : Fin 11) : Nat) = 9 from rfl, show ((10 : Fin 11) : Nat) = 10 from rfl]
  refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (?_) ?_) ?_) ?_) ?_) ?_) ?_) ?_) ?_) ?_) ?_ <;>
  · refine dif_of (fun h => eye_term _ _ (by omega) (by omega) _ _ _ (by omega) (by blk_ext [])) fun h => ?_
    rw [if_neg (by omega)]
    exact pad_zero

end Cert.KernelIdeal.HostSide

end

end
-- ==== Proof.HostD.lean ====
module

public import Idealize.ShloMosaic.Lib.Pipeline.ValueKit
public import Idealize.ShloMosaic.Lib.StableHlo.ReadAt
public import proofs.«01_k».proof.Proof.Gen.KernelIdeal.Frame
public import proofs.«01_k».proof.Proof.HostC

/-! What the host's operations between the regions leave, element by element: pixels, phases and the flat array. -/

@[expose] public section

set_option maxRecDepth 16384

noncomputable section

namespace Cert.KernelIdeal.HostSide

open Cert.KernelIdeal.Gen
open Idealize.ShloMosaic Idealize.ShloMosaic.TcCoe Idealize.SL.Sem

variable (V0 : Valuation τ sig (Elt Ideal))

/-- The rows of the first region's result cut into pixels. -/
theorem v108_at (b : Fin 64) (h v : Fin 132) (o : Fin 32) : StableHlo.after hostOps1 V0 (Proc.devRef .tc main_call0_v108) (ix4 b h v o)
    = V0 (Proc.devRef .tc main_call0_v107) (ix3 b h (⟨v * 32 + o, by omega⟩ : Fin 4224)) := by
  after_reads_at
  all_goals blk_ext []

/-- A phase of an array of pixels: every other row and column from a start. -/
theorem phase_at (x : FVec Ideal S64x52x52x16 .f32) (p r : Nat) (hp : p < 2) (hr : r < 2) (hs : S64x52x52x16.SlicesBy ![0, p, r, 0] ![1, 2, 2, 1] S64x26x26x16)
    (hb : S64x26x26x16.BroadcastsInDim S64x1x26x26x16 ![0, 2, 3, 4]) (b : Fin 64) (z : Fin 1) (h v : Fin 26) (o : Fin 16) :
    broadcastInDim S64x1x26x26x16 ![0, 2, 3, 4] hb (Host.slice S64x26x26x16 ![0, p, r, 0] ![1, 2, 2, 1] x hs) (ix5 b z h v o)
      = x (ix4 b (⟨p + 2 * h, by omega⟩ : Fin 52) (⟨r + 2 * v, by omega⟩ : Fin 52) o) :=
  congrArg x (funext fun a => Fin.ext (match a with
    | 0 => show 0 + 1 * (b : Nat) = b by omega
    | 1 => rfl
    | 2 => rfl
    | 3 => show 0 + 1 * (o : Nat) = o by omega))

/-- The four phases of the second region's result. -/
theorem v118_at (b : Fin 64) (q : Fin 4) (h v : Fin 26) (o : Fin 16) : StableHlo.after hostOps2 V0 (Proc.devRef .tc main_call0_v118) (ix5 b q h v o)
    = V0 (Proc.devRef .tc main_call0_v109) (ix4 b (⟨2 * h + q / 2, by omega⟩ : Fin 52) (⟨2 * v + q % 2, by omega⟩ : Fin 52) o) := by
  after_reads_at
  refine dif_of (fun h1 => ?_) fun h1 => dif_of (fun h2 => ?_) fun h2 => dif_of (fun h3 => ?_) fun h3 => ?_
  all_goals after_reads_at
  all_goals refine (phase_at _ _ _ (by decide) (by decide) _ (by decide) _ _ _ _ _).trans ?_
  all_goals blk_ext []

/-- The third region's result flattened. -/
theorem v120_at (b : Fin 64) (k : Fin 6400) : StableHlo.after hostOps3 V0 (Proc.devRef .tc main_call0_v120) (ix2 b k)
    = V0 (Proc.devRef .tc main_call0_v119) (ix3 b (⟨k / 16, by omega⟩ : Fin 400) (⟨k % 16, by omega⟩ : Fin 16)) := by
  after_reads_at
  all_goals blk_ext []

end Cert.KernelIdeal.HostSide

end

end
-- ==== Proof.Value.lean ====
module

public import proofs.«01_k».proof.Proof.MatchFirst
public import proofs.«01_k».proof.Proof.MatchMid
public import proofs.«01_k».proof.Proof.MatchLate
public import proofs.«01_k».proof.Proof.HostA
public import proofs.«01_k».proof.Proof.HostB
public import proofs.«01_k».proof.Proof.HostC
public import proofs.«01_k».proof.Proof.HostD

/-! What the kernel leaves in its result array: the network of its arguments. -/

@[expose] public section

set_option maxRecDepth 16384

noncomputable section

namespace Cert.Spec

open Idealize.ShloMosaic Cert.KernelIdeal

/-- The whole network at one image and class. -/
def net (a0 : FVec Ideal S64x3x142x142 .f32) (a1 : FVec Ideal S32x3x11x11 .f32) (a2 : FVec Ideal S32 .f32) (a3 : FVec Ideal S8x8x32 .f32) (a4 : FVec Ideal S8x8x32 .f32) (a5 : FVec Ideal S8x8x32 .f32) (a6 : FVec Ideal S8x8x32 .f32) (a7 : FVec Ideal S8x8x32x32x3x3 .f32) (a8 : FVec Ideal S8x8x32 .f32) (a9 : FVec Ideal S32 .f32) (a10 : FVec Ideal S32 .f32) (a11 : FVec Ideal S32 .f32) (a12 : FVec Ideal S32 .f32) (a13 : FVec Ideal S16x32x8x8 .f32) (a14 : FVec Ideal S16 .f32) (a15 : FVec Ideal S16x16x8x8 .f32) (a16 : FVec Ideal S16 .f32) (a17 : FVec Ideal S16x16x6x6 .f32) (a18 : FVec Ideal S16 .f32) (a19 : FVec Ideal S16x16x5x5 .f32) (a20 : FVec Ideal S16 .f32) (a21 : FVec Ideal S4096x6400 .f32) (a22 : FVec Ideal S4096 .f32) (a23 : FVec Ideal S2048x4096 .f32) (a24 : FVec Ideal S2048 .f32) (a25 : FVec Ideal S12x2048 .f32) (a26 : FVec Ideal S12 .f32) (b : Fin 64) (n : Fin 12) : EReal :=
  Spec.head (Spec.flat (Spec.layer45 (Spec.layer23 (Spec.mid (Spec.layer1 (fun k h v => a0 (ix4 b k h v)) a1 a2) a3 a4 a5 a6 a7 a8 a9 a10 a11 a12) a13 a14 a15 a16) a17 a18 a19 a20)) a21 a22 a23 a24 a25 a26 n

end Cert.Spec

namespace Cert.KernelIdeal.Value

open Cert.KernelIdeal.Gen
open Idealize.ShloMosaic Idealize.ShloMosaic.TcCoe Idealize.SL.Sem
open Cert.KernelIdeal.HostSide

variable (m : (ℓ : Loc nD τ sig) → Buf (Elt Ideal) ℓ) (ρ : Dev nD → PrngReg) (c : Dev nD)

/-- A buffer that is no result of the first region is carried to the second. -/
theorem keep3 (r : Ref sig .tc) (h : (∀ w : Fin cfg0.W, Pipeline.arrRef spec0 w = r → (cfg0.win w).isOut = false) ∧ r ∉ hostOps1_W) :
    W3 m ρ c (Proc.devRef .tc r) = W1 m ρ c (Proc.devRef .tc r) := (W3_of m ρ c r h.2).trans (W2_of m ρ c r h.1)

/-- A buffer that is no result of the second region is carried to the third. -/
theorem keep5 (r : Ref sig .tc) (h : (∀ w : Fin cfg0.W, Pipeline.arrRef spec0 w = r → (cfg0.win w).isOut = false) ∧ r ∉ hostOps1_W)
    (h' : (∀ w : Fin cfg1.W, Pipeline.arrRef spec1 w = r → (cfg1.win w).isOut = false) ∧ r ∉ hostOps2_W) :
    W5 m ρ c (Proc.devRef .tc r) = W1 m ρ c (Proc.devRef .tc r) := ((W5_of m ρ c r h'.2).trans (W4_of m ρ c r h'.1)).trans (keep3 m ρ c r h)

/-- A buffer that is no result of the third region is carried to the fourth. -/
theorem keep7 (r : Ref sig .tc) (h : (∀ w : Fin cfg0.W, Pipeline.arrRef spec0 w = r → (cfg0.win w).isOut = false) ∧ r ∉ hostOps1_W)
    (h' : (∀ w : Fin cfg1.W, Pipeline.arrRef spec1 w = r → (cfg1.win w).isOut = false) ∧ r ∉ hostOps2_W)
    (h'' : (∀ w : Fin cfg2.W, Pipeline.arrRef spec2 w = r → (cfg2.win w).isOut = false) ∧ r ∉ hostOps3_W) :
    W7 m ρ c (Proc.devRef .tc r) = W1 m ρ c (Proc.devRef .tc r) := ((W7_of m ρ c r h''.2).trans (W6_of m ρ c r h''.1)).trans (keep5 m ρ c r h h')

/-- A buffer that is no result of the fourth region is carried to the last. -/
theorem keep8 (r : Ref sig .tc) (h : (∀ w : Fin cfg0.W, Pipeline.arrRef spec0 w = r → (cfg0.win w).isOut = false) ∧ r ∉ hostOps1_W)
    (h' : (∀ w : Fin cfg1.W, Pipeline.arrRef spec1 w = r → (cfg1.win w).isOut = false) ∧ r ∉ hostOps2_W)
    (h'' : (∀ w : Fin cfg2.W, Pipeline.arrRef spec2 w = r → (cfg2.win w).isOut = false) ∧ r ∉ hostOps3_W)
    (h3 : ∀ w : Fin cfg3.W, Pipeline.arrRef spec3 w = r → (cfg3.win w).isOut = false) :
    W8 m ρ c (Proc.devRef .tc r) = W1 m ρ c (Proc.devRef .tc r) := (W8_of m ρ c r h3).trans (keep7 m ρ c r h h' h'')

/-- The first convolution's pixels. -/
theorem pixels1 (b : Fin 64) (o : Fin 32) (h v : Fin 132) : W3 m ρ c (Proc.devRef .tc main_call0_v108) (ix4 b h v o)
    = (Spec.layer1 (fun k h v => (W0 m ρ c (Proc.devRef .tc main_arg0)) (ix4 b k h v)) (W0 m ρ c (Proc.devRef .tc main_arg1)) (W0 m ρ c (Proc.devRef .tc main_arg2))) o h v := by
  refine (v108_at (W2 m ρ c) b h v o).trans ?_
  refine (congrFun ((W2_arr m ρ c 3).trans (First.stage_arr (V1 m ρ) c)) _).trans ?_
  exact MatchFirst.first _ _ _ (W0 m ρ c (Proc.devRef .tc main_arg0)) (W0 m ρ c (Proc.devRef .tc main_arg1)) (W0 m ρ c (Proc.devRef .tc main_arg2)) (v1_at (W0 m ρ c)) (v60_at (W0 m ρ c)) (v64_at (W0 m ρ c)) b o h v

/-- The region layer's bias is the argument's. -/
theorem bias : W3 m ρ c (Proc.devRef .tc main_arg8) = W0 m ρ c (Proc.devRef .tc main_arg8) :=
  (W3_args m ρ c main_arg8 (by decide +kernel)).trans (W0_args m ρ c main_arg8 (by decide +kernel)).symm

/-- The pixels after the third convolution. -/
theorem pixels3 (hN : Norm.Good (W0 m ρ c (Proc.devRef .tc main_arg3)) (W0 m ρ c (Proc.devRef .tc main_arg5)) (W0 m ρ c (Proc.devRef .tc main_arg6))) (hN2 : Norm.Good (W0 m ρ c (Proc.devRef .tc main_arg9)) (W0 m ρ c (Proc.devRef .tc main_arg11)) (W0 m ρ c (Proc.devRef .tc main_arg12)))
    (b : Fin 64) (o : Fin 16) (h v : Fin 52) : W4 m ρ c (Proc.devRef .tc main_call0_v109) (ix4 b h v o)
    = Spec.layer23 (Spec.mid (Spec.layer1 (fun k h v => (W0 m ρ c (Proc.devRef .tc main_arg0)) (ix4 b k h v)) (W0 m ρ c (Proc.devRef .tc main_arg1)) (W0 m ρ c (Proc.devRef .tc main_arg2))) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12))) (W0 m ρ c (Proc.devRef .tc main_arg13)) (W0 m ρ c (Proc.devRef .tc main_arg14)) (W0 m ρ c (Proc.devRef .tc main_arg15)) (W0 m ρ c (Proc.devRef .tc main_arg16)) o h v := by
  have k := fun (r : Ref sig .tc) h => congrFun (keep3 m ρ c r h)
  have e8 := bias m ρ c
  refine (congrFun ((W4_arr m ρ c 11).trans (Mid.stage_arr (V3 m ρ) c)) _).trans ?_
  exact MatchMid.mid _ _ _ _ _ _ _ _ _ _ _ _ e8 b _ (pixels1 m ρ c b) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) hN (W0 m ρ c (Proc.devRef .tc main_arg9)) (W0 m ρ c (Proc.devRef .tc main_arg10)) (W0 m ρ c (Proc.devRef .tc main_arg11)) (W0 m ρ c (Proc.devRef .tc main_arg12)) hN2 (W0 m ρ c (Proc.devRef .tc main_arg13)) (W0 m ρ c (Proc.devRef .tc main_arg14)) (W0 m ρ c (Proc.devRef .tc main_arg15)) (W0 m ρ c (Proc.devRef .tc main_arg16))
    (fun i j l => (k main_call0_v68 (by decide +kernel) _).trans (v68_at (W0 m ρ c) i j l))
    (fun i j l => (k main_call0_v70 (by decide +kernel) _).trans (v70_at (W0 m ρ c) i j l))
    (fun i j l n => (k main_call0_v72 (by decide +kernel) _).trans (v72_at (W0 m ρ c) i j l n))
    (fun l => (k main_call0_v77 (by decide +kernel) _).trans (v77_at (W0 m ρ c) l))
    (fun l => (k main_call0_v84 (by decide +kernel) _).trans (v84_at (W0 m ρ c) l))
    (fun l n => (k main_call0_v86 (by decide +kernel) _).trans (v86_at (W0 m ρ c) l n))
    (fun l => (k main_call0_v87 (by decide +kernel) _).trans (v87_at (W0 m ρ c) l))
    (fun l n => (k main_call0_v89 (by decide +kernel) _).trans (v89_at (W0 m ρ c) l n))
    (fun l => (k main_call0_v90 (by decide +kernel) _).trans (v90_at (W0 m ρ c) l)) o h v

/-- The pixels after the fifth convolution. -/
theorem pixels5 (hN : Norm.Good (W0 m ρ c (Proc.devRef .tc main_arg3)) (W0 m ρ c (Proc.devRef .tc main_arg5)) (W0 m ρ c (Proc.devRef .tc main_arg6))) (hN2 : Norm.Good (W0 m ρ c (Proc.devRef .tc main_arg9)) (W0 m ρ c (Proc.devRef .tc main_arg11)) (W0 m ρ c (Proc.devRef .tc main_arg12)))
    (b : Fin 64) (p : Fin 400) (o : Fin 16) : W6 m ρ c (Proc.devRef .tc main_call0_v119) (ix3 b p o)
    = Spec.layer45 (Spec.layer23 (Spec.mid (Spec.layer1 (fun k h v => (W0 m ρ c (Proc.devRef .tc main_arg0)) (ix4 b k h v)) (W0 m ρ c (Proc.devRef .tc main_arg1)) (W0 m ρ c (Proc.devRef .tc main_arg2))) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12))) (W0 m ρ c (Proc.devRef .tc main_arg13)) (W0 m ρ c (Proc.devRef .tc main_arg14)) (W0 m ρ c (Proc.devRef .tc main_arg15)) (W0 m ρ c (Proc.devRef .tc main_arg16))) (W0 m ρ c (Proc.devRef .tc main_arg17)) (W0 m ρ c (Proc.devRef .tc main_arg18)) (W0 m ρ c (Proc.devRef .tc main_arg19)) (W0 m ρ c (Proc.devRef .tc main_arg20)) o ⟨p / 20, by omega⟩ ⟨p % 20, by omega⟩ := by
  have k := fun (r : Ref sig .tc) h h' => congrFun (keep5 m ρ c r h h')
  refine (congrFun ((W6_arr m ρ c 5).trans (Late.stage_arr (V5 m ρ) c)) _).trans ?_
  exact MatchLate.late _ _ _ _ _ b (W4 m ρ c (Proc.devRef .tc main_call0_v109)) _ (pixels3 m ρ c hN hN2 b) (W0 m ρ c (Proc.devRef .tc main_arg17)) (W0 m ρ c (Proc.devRef .tc main_arg18)) (W0 m ρ c (Proc.devRef .tc main_arg19)) (W0 m ρ c (Proc.devRef .tc main_arg20))
    (v118_at (W4 m ρ c))
    (fun q l n => (k main_call0_v93 (by decide +kernel) (by decide +kernel) _).trans (v93_at (W0 m ρ c) q l n))
    (fun l => (k main_call0_v94 (by decide +kernel) (by decide +kernel) _).trans (v94_at (W0 m ρ c) l))
    (fun l n => (k main_call0_v96 (by decide +kernel) (by decide +kernel) _).trans (v96_at (W0 m ρ c) l n))
    (fun l => (k main_call0_v97 (by decide +kernel) (by decide +kernel) _).trans (v97_at (W0 m ρ c) l)) p o

/-- The result is the network of the arguments. -/
theorem result (hN : Norm.Good (W0 m ρ c (Proc.devRef .tc main_arg3)) (W0 m ρ c (Proc.devRef .tc main_arg5)) (W0 m ρ c (Proc.devRef .tc main_arg6))) (hN2 : Norm.Good (W0 m ρ c (Proc.devRef .tc main_arg9)) (W0 m ρ c (Proc.devRef .tc main_arg11)) (W0 m ρ c (Proc.devRef .tc main_arg12)))
    (b : Fin 64) (n : Fin 12) : W9 m ρ c (Proc.devRef .tc main_v0) (ix2 b n)
    = Spec.net (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) (W0 m ρ c (Proc.devRef .tc main_arg18)) (W0 m ρ c (Proc.devRef .tc main_arg19)) (W0 m ρ c (Proc.devRef .tc main_arg20)) (W0 m ρ c (Proc.devRef .tc main_arg21)) (W0 m ρ c (Proc.devRef .tc main_arg22)) (W0 m ρ c (Proc.devRef .tc main_arg23)) (W0 m ρ c (Proc.devRef .tc main_arg24)) (W0 m ρ c (Proc.devRef .tc main_arg25)) (W0 m ρ c (Proc.devRef .tc main_arg26)) b n := by
  have k := fun (r : Ref sig .tc) h h' h'' => congrFun (keep7 m ρ c r h h' h'')
  have k' := fun (r : Ref sig .tc) h h' h'' h3 => congrFun (keep8 m ρ c r h h' h'' h3)
  refine (congrFun ((W9_arr m ρ c 5).trans (Dense.fc23_arr (V8 m ρ) c)) _).trans ?_
  have e1 : V8 m ρ c main_call0_v121 = Dense.fc1 (V7 m ρ c main_call0_v120) (V7 m ρ c main_call0_v101) (V7 m ρ c main_call0_v102) :=
    (W8_arr m ρ c 3).trans (Dense.fc1_arr (V7 m ρ) c)
  rw [e1]
  unfold Spec.net
  exact MatchLate.head _ _ _ _ _ _ _ _ b (W0 m ρ c (Proc.devRef .tc main_arg21)) (W0 m ρ c (Proc.devRef .tc main_arg22)) (W0 m ρ c (Proc.devRef .tc main_arg23)) (W0 m ρ c (Proc.devRef .tc main_arg24)) (W0 m ρ c (Proc.devRef .tc main_arg25)) (W0 m ρ c (Proc.devRef .tc main_arg26))
    (fun l => (v120_at (W6 m ρ c) b l).trans (pixels5 m ρ c hN hN2 b _ _))
    (fun l n => (k main_call0_v101 (by decide +kernel) (by decide +kernel) (by decide +kernel) _).trans (v101_at (W0 m ρ c) l n))
    (fun l => (k main_call0_v102 (by decide +kernel) (by decide +kernel) (by decide +kernel) _).trans (v102_at (W0 m ρ c) l))
    (fun l n => (k' main_call0_v103 (by decide +kernel) (by decide +kernel) (by decide +kernel) (by decide +kernel) _).trans (v103_at (W0 m ρ c) l n))
    (fun l => (k' main_call0_v104 (by decide +kernel) (by decide +kernel) (by decide +kernel) (by decide +kernel) _).trans (v104_at (W0 m ρ c) l))
    (fun l n => (k' main_call0_v105 (by decide +kernel) (by decide +kernel) (by decide +kernel) (by decide +kernel) _).trans (v105_at (W0 m ρ c) l n))
    (fun l => (k' main_call0_v106 (by decide +kernel) (by decide +kernel) (by decide +kernel) (by decide +kernel) _).trans (v106_at (W0 m ρ c) l)) n

end Cert.KernelIdeal.Value

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefStages
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference ends at its operations' composed term with its arguments unchanged; it has no semaphore. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The result of the reference is the network of its arguments. -/
theorem reference_net (V0 : Valuation Cert.ReferenceIdeal.τ Cert.ReferenceIdeal.sig (Elt Ideal)) (b : Fin 64) (n : Fin 12) :
    Cert.ReferenceIdeal.Stages.resTerm V0 (ix2 b n) = Cert.Spec.net (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) (V0 (Proc.devRef .tc Cert.ReferenceIdeal.main_arg9)) (V0 (Proc.devRef .tc Cert.ReferenceIdeal.main_arg10)) (V0 (Proc.devRef .tc Cert.ReferenceIdeal.main_arg11)) (V0 (Proc.devRef .tc Cert.ReferenceIdeal.main_arg12)) (V0 (Proc.devRef .tc Cert.ReferenceIdeal.main_arg13)) (V0 (Proc.devRef .tc Cert.ReferenceIdeal.main_arg14)) (V0 (Proc.devRef .tc Cert.ReferenceIdeal.main_arg15)) (V0 (Proc.devRef .tc Cert.ReferenceIdeal.main_arg16)) (V0 (Proc.devRef .tc Cert.ReferenceIdeal.main_arg17)) (V0 (Proc.devRef .tc Cert.ReferenceIdeal.main_arg18)) (V0 (Proc.devRef .tc Cert.ReferenceIdeal.main_arg19)) (V0 (Proc.devRef .tc Cert.ReferenceIdeal.main_arg20)) (V0 (Proc.devRef .tc Cert.ReferenceIdeal.main_arg21)) (V0 (Proc.devRef .tc Cert.ReferenceIdeal.main_arg22)) (V0 (Proc.devRef .tc Cert.ReferenceIdeal.main_arg23)) (V0 (Proc.devRef .tc Cert.ReferenceIdeal.main_arg24)) (V0 (Proc.devRef .tc Cert.ReferenceIdeal.main_arg25)) (V0 (Proc.devRef .tc Cert.ReferenceIdeal.main_arg26)) b n :=
  Cert.ReferenceIdeal.Stages.res_at V0 b n

/-- From equal arguments the two programs leave equal results. -/
theorem equal : Cert.algebraic_KernelIdeal_ReferenceIdeal_pre_finite_norms (hPre_finite_norms := Cert.Norm.facts) := fun m g m' g' hpre hagree => by
  refine ⟨fun c => Cert.KernelIdeal.Gen.W9 m g c (Proc.devRef .tc Cert.KernelIdeal.main_v0), Cert.KernelIdeal.Run.run m g, ?_⟩
  refine θ_run_mono (Cert.ReferenceIdeal.Stages.run m' g') fun r hr c => ⟨(hr c).1.trans ?_, (hr c).2⟩
  obtain ⟨hN, hN2⟩ := Cert.Norm.good _ _ _ _ _ _ _ _ _ _ _ _ _ _ _ _ _ _ _ _ _ _ _ _ _ _ _ (hpre c)
  obtain ⟨h0, h1, h2, h3, h4, h5, h6, h7, h8, h9, h10, h11, h12, h13, h14, h15, h16, h17, h18, h19, h20, h21, h22, h23, h24, h25, h26⟩ := hagree c
  funext j
  obtain ⟨b, n, rfl⟩ : ∃ (b : Fin 64) (n : Fin 12), j = ix2 b n := ⟨j 0, j 1, by funext a; match a with | 0 => rfl | 1 => rfl⟩
  refine (reference_net _ b n).trans (Eq.trans ?_ (Cert.KernelIdeal.Value.result m g c hN hN2 b n).symm)
  show Cert.Spec.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) b n = Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) b n
  rw [h0, h1, h2, h3, h4, h5, h6, h7, h8, h9, h10, h11, h12, h13, h14, h15, h16, h17, h18, h19, h20, h21, h22, h23, h24, h25, h26]

/-- The claim: the frames, the idealization, which rewrote no operation, and the equality of the results. -/
theorem claim : Cert.Claim := ⟨Cert.Kernel.Gen.facts, Cert.KernelIdeal.Gen.facts, Cert.ReferenceIdeal.Gen.facts, Cert.Norm.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, equal⟩

end Cert.Proof

end
